-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50 : Shape := ⟨2, ![4096, 50]⟩
abbrev S100000x128 : Shape := ⟨2, ![100000, 128]⟩
abbrev S50x128 : Shape := ⟨2, ![50, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : IVec S4096x50 1) (main_arg2 : FVec F S100000x128 .f32) (main_arg3 : FVec F S50x128 .f32) (main_arg4 : FVec F S128x256 .f32) (main_arg5 : FVec F S256 .f32) (main_arg6 : FVec F S256x128 .f32) (main_arg7 : FVec F S128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S50x128 : Shape := ⟨2, ![50, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S1600x128 : Shape := ⟨2, ![1600, 128]⟩
abbrev S1x50x1x128 : Shape := ⟨4, ![1, 50, 1, 128]⟩
abbrev S128x50x1x128 : Shape := ⟨4, ![128, 50, 1, 128]⟩
abbrev S6400x128 : Shape := ⟨2, ![6400, 128]⟩
abbrev S1x256 : Shape := ⟨2, ![1, 256]⟩
abbrev S1x128 : Shape := ⟨2, ![1, 128]⟩
abbrev S600x128 : Shape := ⟨2, ![600, 128]⟩
abbrev S76800x128 : Shape := ⟨2, ![76800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S1x128x128 : Shape := ⟨3, ![1, 128, 128]⟩
abbrev S128x128 : Shape := ⟨2, ![128, 128]⟩
abbrev S4096x50x128 : Shape := ⟨3, ![4096, 50, 128]⟩
abbrev S128x50x128 : Shape := ⟨3, ![128, 50, 128]⟩
abbrev S6400x256 : Shape := ⟨2, ![6400, 256]⟩
abbrev S400x128 : Shape := ⟨2, ![400, 128]⟩
abbrev S51200x128 : Shape := ⟨2, ![51200, 128]⟩

abbrev nBuf : Table → Nat
  | .hbm => 27
  | .local .tc .vmem => 27
  | .local .scVector .vmem => 6
  | _ => 0

abbrev bufTy : (tb : Table) → Fin (nBuf tb) → BufTy
  | .hbm, ⟨0, _⟩ => ⟨S4096x50, .i32⟩
  | .hbm, ⟨1, _⟩ => ⟨S4096x50, .i1⟩
  | .hbm, ⟨2, _⟩ => ⟨S100000x128, .f32⟩
  | .hbm, ⟨3, _⟩ => ⟨S50x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S1600x128, .i32⟩
  | .hbm, ⟨13, _⟩ => ⟨S1x50x1x128, .f32⟩
  | .hbm, ⟨14, _⟩ => ⟨S128x50x1x128, .f32⟩
  | .hbm, ⟨15, _⟩ => ⟨S6400x128, .f32⟩
  | .hbm, ⟨16, _⟩ => ⟨S1x256, .f32⟩
  | .hbm, ⟨17, _⟩ => ⟨S1x128, .f32⟩
  | .hbm, ⟨18, _⟩ => ⟨S600x128, .i32⟩
  | .hbm, ⟨19, _⟩ => ⟨S76800x128, .f32⟩
  | .hbm, ⟨20, _⟩ => ⟨S4096x50x128, .f32⟩
  | .hbm, ⟨21, _⟩ => ⟨S600x128, .i32⟩
  | .hbm, ⟨22, _⟩ => ⟨S76800x128, .f32⟩
  | .hbm, ⟨23, _⟩ => ⟨S4096x50x128, .f32⟩
  | .hbm, ⟨24, _⟩ => ⟨S400x128, .i32⟩
  | .hbm, ⟨25, _⟩ => ⟨S51200x128, .f32⟩
  | .hbm, ⟨26, _⟩ => ⟨S4096x50x128, .f32⟩
  | .local .tc .vmem, ⟨0, _⟩ => ⟨S6400x128, .f32⟩
  | .local .tc .vmem, ⟨1, _⟩ => ⟨S6400x128, .f32⟩
  | .local .tc .vmem, ⟨2, _⟩ => ⟨S6400x128, .f32⟩
  | .local .tc .vmem, ⟨3, _⟩ => ⟨S128x256, .f32⟩
  | .local .tc .vmem, ⟨4, _⟩ => ⟨S1x256, .f32⟩
  | .local .tc .vmem, ⟨5, _⟩ => ⟨S256x128, .f32⟩
  | .local .tc .vmem, ⟨6, _⟩ => ⟨S1x128, .f32⟩
  | .local .tc .vmem, ⟨7, _⟩ => ⟨S128x50x128, .f32⟩
  | .local .tc .vmem, ⟨8, _⟩ => ⟨S128x50x128, .f32⟩
  | .local .tc .vmem, ⟨9, _⟩ => ⟨S6400x128, .f32⟩
  | .local .tc .vmem, ⟨10, _⟩ => ⟨S6400x128, .f32⟩
  | .local .tc .vmem, ⟨11, _⟩ => ⟨S6400x128, .f32⟩
  | .local .tc .vmem, ⟨12, _⟩ => ⟨S128x256, .f32⟩
  | .local .tc .vmem, ⟨13, _⟩ => ⟨S1x256, .f32⟩
  | .local .tc .vmem, ⟨14, _⟩ => ⟨S256x128, .f32⟩
  | .local .tc .vmem, ⟨15, _⟩ => ⟨S1x128, .f32⟩
  | .local .tc .vmem, ⟨16, _⟩ => ⟨S128x50x128, .f32⟩
  | .local .tc .vmem, ⟨17, _⟩ => ⟨S128x50x128, .f32⟩
  | .local .tc .vmem, ⟨18, _⟩ => ⟨S6400x128, .f32⟩
  | .local .tc .vmem, ⟨19, _⟩ => ⟨S6400x128, .f32⟩
  | .local .tc .vmem, ⟨20, _⟩ => ⟨S6400x128, .f32⟩
  | .local .tc .vmem, ⟨21, _⟩ => ⟨S128x256, .f32⟩
  | .local .tc .vmem, ⟨22, _⟩ => ⟨S1x256, .f32⟩
  | .local .tc .vmem, ⟨23, _⟩ => ⟨S256x128, .f32⟩
  | .local .tc .vmem, ⟨24, _⟩ => ⟨S1x128, .f32⟩
  | .local .tc .vmem, ⟨25, _⟩ => ⟨S128x50x128, .f32⟩
  | .local .tc .vmem, ⟨26, _⟩ => ⟨S128x50x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_arg2_scv : Ref sig .scVector := ⟨.hbm, 2, rfl⟩
abbrev main_v7_scv : Ref sig .scVector := ⟨.hbm, 18, rfl⟩
abbrev main_v8_scv : Ref sig .scVector := ⟨.hbm, 19, rfl⟩
abbrev main_v10_scv : Ref sig .scVector := ⟨.hbm, 21, rfl⟩
abbrev main_v11_scv : Ref sig .scVector := ⟨.hbm, 22, rfl⟩
abbrev main_v13_scv : Ref sig .scVector := ⟨.hbm, 24, rfl⟩
abbrev main_v14_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg5_0 : Ref sig .tc := ⟨.vmem, 15, rfl⟩
abbrev cc3_stg6_0 : Ref sig .tc := ⟨.vmem, 16, rfl⟩
abbrev cc3_stg6_1 : Ref sig .tc := ⟨.vmem, 17, rfl⟩
abbrev cc5_stg0_0 : Ref sig .tc := ⟨.vmem, 18, rfl⟩
abbrev cc5_stg0_1 : Ref sig .tc := ⟨.vmem, 19, rfl⟩
abbrev cc5_stg1_0 : Ref sig .tc := ⟨.vmem, 20, rfl⟩
abbrev cc5_stg2_0 : Ref sig .tc := ⟨.vmem, 21, rfl⟩
abbrev cc5_stg3_0 : Ref sig .tc := ⟨.vmem, 22, rfl⟩
abbrev cc5_stg4_0 : Ref sig .tc := ⟨.vmem, 23, rfl⟩
abbrev cc5_stg5_0 : Ref sig .tc := ⟨.vmem, 24, rfl⟩
abbrev cc5_stg6_0 : Ref sig .tc := ⟨.vmem, 25, rfl⟩
abbrev cc5_stg6_1 : Ref sig .tc := ⟨.vmem, 26, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_58_r0 : BitVec 32 := 0#32
  let c0_i32_59_r0 : BitVec 32 := 0#32
  ![v80_r0.toNat, 0, 0]
def k0_off2 (i : grid0.Coords) : Fin 2 → Nat :=
  let c1_i32_57_r0 : BitVec 32 := 1#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v20_r0 : BitVec 32 := Scalar.addi c0_i32_10_r0 v10
  let v81_r0 : BitVec 32 := Scalar.muli c1_i32_57_r0 v20_r0
  let c0_i32_60_r0 : BitVec 32 := 0#32
  ![v81_r0.toNat, 0]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S600x128.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S600x128.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S76800x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S76800x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S600x128.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S600x128.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S76800x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S76800x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S600x128.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S600x128.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S76800x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S76800x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S600x128.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S600x128.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S76800x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S76800x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_40_r0 : BitVec 32 := 1#32
  let v52_r0 : BitVec 32 := Scalar.subi v5 c1_i32_40_r0
  let v53_r0 : BitVec 32 := Scalar.select v51_r0 v52_r0 v50_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S76800x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S76800x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6400x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x50x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_cond1 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k2_cond2 (i : grid2.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k2_off1 : Fin 3 → Nat :=
  let c0_i32_24_r0 : BitVec 32 := 0#32
  let c2_i32_r0 : BitVec 32 := 2#32
  let v80_r0 : BitVec 32 := Scalar.remui c0_i32_24_r0 c2_i32_r0
  let c0_i32_58_r0 : BitVec 32 := 0#32
  let c0_i32_59_r0 : BitVec 32 := 0#32
  ![v80_r0.toNat, 0, 0]
def k2_off2 (i : grid2.Coords) : Fin 2 → Nat :=
  let c1_i32_57_r0 : BitVec 32 := 1#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v20_r0 : BitVec 32 := Scalar.addi c0_i32_10_r0 v10
  let v81_r0 : BitVec 32 := Scalar.muli c1_i32_57_r0 v20_r0
  let c0_i32_60_r0 : BitVec 32 := 0#32
  ![v81_r0.toNat, 0]
def k2_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k2_t1_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k2_off4 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off5 (i : grid2.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k2_off6 (arg6_r0 : BitVec 32) : Fin 1 → Nat :=
  let c2_i32_101_r0 : BitVec 32 := 2#32
  let v167_r0 : BitVec 32 := Scalar.remui arg6_r0 c2_i32_101_r0
  ![v167_r0.toNat]
def k2_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off8 (i : grid2.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k2_off9 (arg7_r0 : BitVec 32) : Fin 1 → Nat :=
  let c2_i32_102_r0 : BitVec 32 := 2#32
  let v168_r0 : BitVec 32 := Scalar.remui arg7_r0 c2_i32_102_r0
  ![v168_r0.toNat]
def k2_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off14 (arg8_r0 : BitVec 32) : Fin 1 → Nat :=
  let c2_i32_101_r0 : BitVec 32 := 2#32
  let v167_r0 : BitVec 32 := Scalar.remui arg8_r0 c2_i32_101_r0
  ![v167_r0.toNat]
def k2_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off16 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off17 (arg9_r0 : BitVec 32) : Fin 1 → Nat :=
  let c2_i32_101_r0 : BitVec 32 := 2#32
  let v167_r0 : BitVec 32 := Scalar.remui arg9_r0 c2_i32_101_r0
  ![v167_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S600x128.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S600x128.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S76800x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S76800x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S600x128.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S600x128.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S76800x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S76800x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k2_off18 (arg6_r0 : BitVec 32) : Fin 3 → Nat :=
  let c2_i32_101_r0 : BitVec 32 := 2#32
  let v167_r0 : BitVec 32 := Scalar.remui arg6_r0 c2_i32_101_r0
  let c0_i32_103_r0 : BitVec 32 := 0#32
  let c0_i32_104_r0 : BitVec 32 := 0#32
  ![v167_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off19 (i : grid2.Coords) (arg10_r0 : BitVec 32) : Fin 2 → Nat :=
  let c1_i32_102_r0 : BitVec 32 := 1#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c1_i32_102_r0 v95_r0
  let c0_i32_105_r0 : BitVec 32 := 0#32
  ![v168_r0.toNat, 0]
def k2_off20 (arg6_r0 : BitVec 32) : Fin 1 → Nat :=
  let c2_i32_101_r0 : BitVec 32 := 2#32
  let v167_r0 : BitVec 32 := Scalar.remui arg6_r0 c2_i32_101_r0
  ![v167_r0.toNat]
def k2_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off22 (i : grid2.Coords) (arg10_r0 : BitVec 32) : Fin 2 → Nat :=
  let c1_i32_101_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c1_i32_101_r0 v84_r0
  let c0_i32_105_r0 : BitVec 32 := 0#32
  ![v167_r0.toNat, 0]
def k2_off23 (arg7_r0 : BitVec 32) : Fin 1 → Nat :=
  let c2_i32_102_r0 : BitVec 32 := 2#32
  let v168_r0 : BitVec 32 := Scalar.remui arg7_r0 c2_i32_102_r0
  ![v168_r0.toNat]
def k2_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off28 (arg8_r0 : BitVec 32) : Fin 1 → Nat :=
  let c2_i32_101_r0 : BitVec 32 := 2#32
  let v167_r0 : BitVec 32 := Scalar.remui arg8_r0 c2_i32_101_r0
  ![v167_r0.toNat]
def k2_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off30 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off31 (arg9_r0 : BitVec 32) : Fin 1 → Nat :=
  let c2_i32_101_r0 : BitVec 32 := 2#32
  let v167_r0 : BitVec 32 := Scalar.remui arg9_r0 c2_i32_101_r0
  ![v167_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S600x128.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S600x128.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S76800x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S76800x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S600x128.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S600x128.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S76800x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S76800x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k2_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k2_off33 (i : grid2.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c19_i32 : BitVec 32 := 19#32
  let c18_i32 : BitVec 32 := 18#32
  let v5 : BitVec 32 := Scalar.select v4 c19_i32 c18_i32
  let c1_i32_40_r0 : BitVec 32 := 1#32
  let v52_r0 : BitVec 32 := Scalar.subi v5 c1_i32_40_r0
  let v53_r0 : BitVec 32 := Scalar.select v51_r0 v52_r0 v50_r0
  let c24_i32_0 : BitVec 32 := 24#32
  let v6 : BitVec 1 := Scalar.cmpi .slt v3 c24_i32_0
  let v7 : BitVec 32 := Scalar.muli v3 v5
  let c18_i32_1 : BitVec 32 := 18#32
  let v8 : BitVec 32 := Scalar.muli v3 c18_i32_1
  let c24_i32_2 : BitVec 32 := 24#32
  let v9 : BitVec 32 := Scalar.addi v8 c24_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S76800x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S76800x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨1, ![12], ![false]⟩

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S6400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S6400x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x50x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 16], ![false, false]⟩

def k4_cond1 (i : grid4.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k4_cond2 (i : grid4.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k4_off1 : Fin 3 → Nat :=
  let c0_i32_25_r0 : BitVec 32 := 0#32
  let c2_i32_r0 : BitVec 32 := 2#32
  let v80_r0 : BitVec 32 := Scalar.remui c0_i32_25_r0 c2_i32_r0
  let c0_i32_59_r0 : BitVec 32 := 0#32
  let c0_i32_60_r0 : BitVec 32 := 0#32
  ![v80_r0.toNat, 0, 0]
def k4_off2 (i : grid4.Coords) : Fin 2 → Nat :=
  let c1_i32_58_r0 : BitVec 32 := 1#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c1_i32_58_r0 v20_r0
  let c0_i32_61_r0 : BitVec 32 := 0#32
  ![v81_r0.toNat, 0]
def k4_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k4_t1_loop (i : grid4.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k4_off4 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k4_cond3 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k4_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k4_off5 (i : grid4.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k4_off6 (arg6_r0 : BitVec 32) : Fin 1 → Nat :=
  let c2_i32_102_r0 : BitVec 32 := 2#32
  let v167_r0 : BitVec 32 := Scalar.remui arg6_r0 c2_i32_102_r0
  ![v167_r0.toNat]
def k4_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k4_cond4 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k4_t1
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k4_off8 (i : grid4.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k4_off9 (arg7_r0 : BitVec 32) : Fin 1 → Nat :=
  let c2_i32_103_r0 : BitVec 32 := 2#32
  let v168_r0 : BitVec 32 := Scalar.remui arg7_r0 c2_i32_103_r0
  ![v168_r0.toNat]
def k4_off10 (arg8_r0 : BitVec 32) : Fin 3 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  ![v132_r0.toNat, 0, 0]

def k4_chk2 (i : grid4.Coords) (arg8_r0 : BitVec 32) : Prop :=
  (∀ (k4_h1 : k4_cond1 i = 1#1), ∀ a, (k4_off10 arg8_r0) a + S1x128x128.size a ≤ S2x128x128.size a)
theorem k4_off10_inb : ∀ (i : grid4.Coords) (arg8_r0 : BitVec 32) (k4_hw2 : k4_chk2 i arg8_r0), ∀ (k4_h1 : k4_cond1 i = 1#1), ∀ a, (k4_off10 arg8_r0) a + S1x128x128.size a ≤ S2x128x128.size a := fun i arg8_r0 k4_hw2 k4_h1 => k4_hw2 k4_h1

def k4_off11 (arg7_r0 : BitVec 32) : Fin 3 → Nat :=
  let c2_i32_84_r0 : BitVec 32 := 2#32
  let v131_r0 : BitVec 32 := Scalar.remui arg7_r0 c2_i32_84_r0
  let c0_i32_104_r1 : BitVec 32 := 0#32
  let c0_i32_105_r1 : BitVec 32 := 0#32
  ![v131_r0.toNat, 0, 0]

def k4_chk3 (i : grid4.Coords) (arg7_r0 : BitVec 32) : Prop :=
  (∀ (k4_h1 : k4_cond1 i = 1#1), ∀ a, (k4_off11 arg7_r0) a + S1x1x128.size a ≤ S2x1x128.size a)
theorem k4_off11_inb : ∀ (i : grid4.Coords) (arg7_r0 : BitVec 32) (k4_hw3 : k4_chk3 i arg7_r0), ∀ (k4_h1 : k4_cond1 i = 1#1), ∀ a, (k4_off11 arg7_r0) a + S1x1x128.size a ≤ S2x1x128.size a := fun i arg7_r0 k4_hw3 k4_h1 => k4_hw3 k4_h1

def k4_off12 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k4_cond7 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_36_r0 : BitVec 32 := 1#32
  let arg5_r0 : BitVec 32 := Scf.iv c0_i32_30_r0 c1_i32_36_r0 k4_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k4_off13 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k4_off14 (arg8_r0 : BitVec 32) : Fin 1 → Nat :=
  let c2_i32_102_r0 : BitVec 32 := 2#32
  let v167_r0 : BitVec 32 := Scalar.remui arg8_r0 c2_i32_102_r0
  ![v167_r0.toNat]
def k4_off15 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k4_cond9 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_36_r0 : BitVec 32 := 1#32
  let arg5_r0 : BitVec 32 := Scf.iv c0_i32_30_r0 c1_i32_36_r0 k4_t1
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k4_off16 (i : grid4.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k4_off17 (arg9_r0 : BitVec 32) : Fin 1 → Nat :=
  let c2_i32_102_r0 : BitVec 32 := 2#32
  let v167_r0 : BitVec 32 := Scalar.remui arg9_r0 c2_i32_102_r0
  ![v167_r0.toNat]

def k4_chk1 (i : grid4.Coords) (k4_t1 : Fin (k4_t1_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h3 : k4_cond3 i k4_t1 arg10_r0 = 1#1), ∀ a, (k4_off4 arg6_r0) a + S1x1x128.size a ≤ S2x1x128.size a) ∧
  (∀ (k4_h1 : k4_cond1 i = 1#1), ∀ (k4_h3 : k4_cond3 i k4_t1 arg10_r0 = 1#1), ∀ a, (k4_off5 i arg10_r0) a + S1x128.size a ≤ S400x128.size a) ∧
  (∀ (k4_h1 : k4_cond1 i = 1#1), ∀ (k4_h3 : k4_cond3 i k4_t1 arg10_r0 = 1#1), ∀ a, (k4_off6 arg6_r0) a + S1.size a ≤ S2.size a) ∧
  (∀ (k4_h1 : k4_cond1 i = 1#1), ∀ (k4_h4 : k4_cond4 i k4_t1 arg10_r0 = 1#1), ∀ a, (k4_off7 arg7_r0) a + S1x1x128.size a ≤ S2x1x128.size a) ∧
  (∀ (k4_h1 : k4_cond1 i = 1#1), ∀ (k4_h4 : k4_cond4 i k4_t1 arg10_r0 = 1#1), ∀ a, (k4_off8 i arg10_r0) a + S1x128.size a ≤ S400x128.size a) ∧
  (∀ (k4_h1 : k4_cond1 i = 1#1), ∀ (k4_h4 : k4_cond4 i k4_t1 arg10_r0 = 1#1), ∀ a, (k4_off9 arg7_r0) a + S1.size a ≤ S2.size a) ∧
  (∀ (k4_h1 : k4_cond1 i = 1#1), ∀ (k4_h7 : k4_cond7 i k4_t1 arg10_r0 = 1#1), ∀ a, (k4_off12 arg8_r0) a + S1x128x128.size a ≤ S2x128x128.size a) ∧
  (∀ (k4_h1 : k4_cond1 i = 1#1), ∀ (k4_h7 : k4_cond7 i k4_t1 arg10_r0 = 1#1), ∀ a, (k4_off13 i arg10_r0) a + S128x128.size a ≤ S51200x128.size a) ∧
  (∀ (k4_h1 : k4_cond1 i = 1#1), ∀ (k4_h7 : k4_cond7 i k4_t1 arg10_r0 = 1#1), ∀ a, (k4_off14 arg8_r0) a + S1.size a ≤ S2.size a) ∧
  (∀ (k4_h1 : k4_cond1 i = 1#1), ∀ (k4_h9 : k4_cond9 i k4_t1 arg10_r0 = 1#1), ∀ a, (k4_off15 arg9_r0) a + S1x128x128.size a ≤ S2x128x128.size a) ∧
  (∀ (k4_h1 : k4_cond1 i = 1#1), ∀ (k4_h9 : k4_cond9 i k4_t1 arg10_r0 = 1#1), ∀ a, (k4_off16 i arg10_r0) a + S128x128.size a ≤ S51200x128.size a) ∧
  (∀ (k4_h1 : k4_cond1 i = 1#1), ∀ (k4_h9 : k4_cond9 i k4_t1 arg10_r0 = 1#1), ∀ a, (k4_off17 arg9_r0) a + S1.size a ≤ S2.size a)
theorem k4_off4_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off4 arg6_r0) a + S1x1x128.size a ≤ S2x1x128.size a := fun i k4_t1 arg6_r0 arg7_r0 arg8_r0 arg9_r0 arg10_r0 k4_hw1 k4_h1 k4_h3 => k4_hw1.1 k4_h1 k4_h3
theorem k4_off5_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off5 i arg10_r0) a + S1x128.size a ≤ S400x128.size a := fun i k4_t1 arg6_r0 arg7_r0 arg8_r0 arg9_r0 arg10_r0 k4_hw1 k4_h1 k4_h3 => k4_hw1.2.1 k4_h1 k4_h3
theorem k4_off6_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off6 arg6_r0) a + S1.size a ≤ S2.size a := fun i k4_t1 arg6_r0 arg7_r0 arg8_r0 arg9_r0 arg10_r0 k4_hw1 k4_h1 k4_h3 => k4_hw1.2.2.1 k4_h1 k4_h3
theorem k4_off7_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off7 arg7_r0) a + S1x1x128.size a ≤ S2x1x128.size a := fun i k4_t1 arg6_r0 arg7_r0 arg8_r0 arg9_r0 arg10_r0 k4_hw1 k4_h1 k4_h4 => k4_hw1.2.2.2.1 k4_h1 k4_h4
theorem k4_off8_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off8 i arg10_r0) a + S1x128.size a ≤ S400x128.size a := fun i k4_t1 arg6_r0 arg7_r0 arg8_r0 arg9_r0 arg10_r0 k4_hw1 k4_h1 k4_h4 => k4_hw1.2.2.2.2.1 k4_h1 k4_h4
theorem k4_off9_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off9 arg7_r0) a + S1.size a ≤ S2.size a := fun i k4_t1 arg6_r0 arg7_r0 arg8_r0 arg9_r0 arg10_r0 k4_hw1 k4_h1 k4_h4 => k4_hw1.2.2.2.2.2.1 k4_h1 k4_h4
theorem k4_off12_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off12 arg8_r0) a + S1x128x128.size a ≤ S2x128x128.size a := fun i k4_t1 arg6_r0 arg7_r0 arg8_r0 arg9_r0 arg10_r0 k4_hw1 k4_h1 k4_h7 => k4_hw1.2.2.2.2.2.2.1 k4_h1 k4_h7
theorem k4_off13_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off13 i arg10_r0) a + S128x128.size a ≤ S51200x128.size a := fun i k4_t1 arg6_r0 arg7_r0 arg8_r0 arg9_r0 arg10_r0 k4_hw1 k4_h1 k4_h7 => k4_hw1.2.2.2.2.2.2.2.1 k4_h1 k4_h7
theorem k4_off14_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off14 arg8_r0) a + S1.size a ≤ S2.size a := fun i k4_t1 arg6_r0 arg7_r0 arg8_r0 arg9_r0 arg10_r0 k4_hw1 k4_h1 k4_h7 => k4_hw1.2.2.2.2.2.2.2.2.1 k4_h1 k4_h7
theorem k4_off15_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off15 arg9_r0) a + S1x128x128.size a ≤ S2x128x128.size a := fun i k4_t1 arg6_r0 arg7_r0 arg8_r0 arg9_r0 arg10_r0 k4_hw1 k4_h1 k4_h9 => k4_hw1.2.2.2.2.2.2.2.2.2.1 k4_h1 k4_h9
theorem k4_off16_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off16 i arg10_r0) a + S128x128.size a ≤ S51200x128.size a := fun i k4_t1 arg6_r0 arg7_r0 arg8_r0 arg9_r0 arg10_r0 k4_hw1 k4_h1 k4_h9 => k4_hw1.2.2.2.2.2.2.2.2.2.2.1 k4_h1 k4_h9
theorem k4_off17_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off17 arg9_r0) a + S1.size a ≤ S2.size a := fun i k4_t1 arg6_r0 arg7_r0 arg8_r0 arg9_r0 arg10_r0 k4_hw1 k4_h1 k4_h9 => k4_hw1.2.2.2.2.2.2.2.2.2.2.2 k4_h1 k4_h9

@[reducible] def k4_t2_loop (i : grid4.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k4_off18 (arg6_r0 : BitVec 32) : Fin 3 → Nat :=
  let c2_i32_102_r0 : BitVec 32 := 2#32
  let v167_r0 : BitVec 32 := Scalar.remui arg6_r0 c2_i32_102_r0
  let c0_i32_104_r0 : BitVec 32 := 0#32
  let c0_i32_105_r0 : BitVec 32 := 0#32
  ![v167_r0.toNat, 0, 0]
def k4_cond10 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k4_t2
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k4_off19 (i : grid4.Coords) (arg10_r0 : BitVec 32) : Fin 2 → Nat :=
  let c1_i32_103_r0 : BitVec 32 := 1#32
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v168_r0 : BitVec 32 := Scalar.muli c1_i32_103_r0 v95_r0
  let c0_i32_106_r0 : BitVec 32 := 0#32
  ![v168_r0.toNat, 0]
def k4_off20 (arg6_r0 : BitVec 32) : Fin 1 → Nat :=
  let c2_i32_102_r0 : BitVec 32 := 2#32
  let v167_r0 : BitVec 32 := Scalar.remui arg6_r0 c2_i32_102_r0
  ![v167_r0.toNat]
def k4_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k4_cond11 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k4_t2
  let c0_i32_59_r0 : BitVec 32 := 0#32
  let v81_r0 : BitVec 1 := Scalar.cmpi .eq arg5_r0 c0_i32_59_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k4_off22 (i : grid4.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v167_r0 : BitVec 32 := Scalar.muli c1_i32_102_r0 v84_r0
  let c0_i32_106_r0 : BitVec 32 := 0#32
  ![v167_r0.toNat, 0]
def k4_off23 (arg7_r0 : BitVec 32) : Fin 1 → Nat :=
  let c2_i32_103_r0 : BitVec 32 := 2#32
  let v168_r0 : BitVec 32 := Scalar.remui arg7_r0 c2_i32_103_r0
  ![v168_r0.toNat]
def k4_off24 (arg8_r0 : BitVec 32) : Fin 3 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  ![v132_r0.toNat, 0, 0]

def k4_chk5 (i : grid4.Coords) (k4_t2 : Fin (k4_t2_loop i).trips) (arg8_r0 : BitVec 32) : Prop :=
  (∀ (k4_h1 : k4_cond1 i = 1#1), ∀ a, (k4_off24 arg8_r0) a + S1x128x128.size a ≤ S2x128x128.size a)
theorem k4_off24_inb : ∀ (i : grid4.Coords) (k4_t2 : Fin (k4_t2_loop i).trips) (arg8_r0 : BitVec 32) (k4_hw5 : k4_chk5 i k4_t2 arg8_r0), ∀ (k4_h1 : k4_cond1 i = 1#1), ∀ a, (k4_off24 arg8_r0) a + S1x128x128.size a ≤ S2x128x128.size a := fun i k4_t2 arg8_r0 k4_hw5 k4_h1 => k4_hw5 k4_h1

def k4_off25 (arg7_r0 : BitVec 32) : Fin 3 → Nat :=
  let c2_i32_84_r0 : BitVec 32 := 2#32
  let v131_r0 : BitVec 32 := Scalar.remui arg7_r0 c2_i32_84_r0
  let c0_i32_104_r2 : BitVec 32 := 0#32
  let c0_i32_105_r2 : BitVec 32 := 0#32
  ![v131_r0.toNat, 0, 0]

def k4_chk6 (i : grid4.Coords) (k4_t2 : Fin (k4_t2_loop i).trips) (arg7_r0 : BitVec 32) : Prop :=
  (∀ (k4_h1 : k4_cond1 i = 1#1), ∀ a, (k4_off25 arg7_r0) a + S1x1x128.size a ≤ S2x1x128.size a)
theorem k4_off25_inb : ∀ (i : grid4.Coords) (k4_t2 : Fin (k4_t2_loop i).trips) (arg7_r0 : BitVec 32) (k4_hw6 : k4_chk6 i k4_t2 arg7_r0), ∀ (k4_h1 : k4_cond1 i = 1#1), ∀ a, (k4_off25 arg7_r0) a + S1x1x128.size a ≤ S2x1x128.size a := fun i k4_t2 arg7_r0 k4_hw6 k4_h1 => k4_hw6 k4_h1

def k4_off26 (arg8_r0 : BitVec 32) : Fin 3 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  ![v167_r0.toNat, 0, 0]
def k4_cond14 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_66_r0 : BitVec 1 := 1#1
  let c1_i32_65_r0 : BitVec 32 := 1#32
  let v91_r0 : BitVec 32 := Scalar.addi arg10_r0 c1_i32_65_r0
  let v92_r0 : BitVec 32 := Scalar.select true_66_r0 v91_r0 arg10_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v138_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k4_t2
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k4_off27 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let v168_r0 : BitVec 32 := Scalar.muli c128_i32_r0 v84_r0
  let c0_i32_105_r0 : BitVec 32 := 0#32
  ![v168_r0.toNat, 0]
def k4_off28 (arg8_r0 : BitVec 32) : Fin 1 → Nat :=
  let c2_i32_102_r0 : BitVec 32 := 2#32
  let v167_r0 : BitVec 32 := Scalar.remui arg8_r0 c2_i32_102_r0
  ![v167_r0.toNat]
def k4_off29 (arg9_r0 : BitVec 32) : Fin 3 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  ![v167_r0.toNat, 0, 0]
def k4_cond16 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v84_r0 : BitVec 32 := Scalar.addi arg10_r0 v10
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg5_r0 : BitVec 32 := Scf.iv v46_r0 c1_i32_37_r0 k4_t2
  let c0_i32_59_r0 : BitVec 32 := 0#32
  let v81_r0 : BitVec 1 := Scalar.cmpi .eq arg5_r0 c0_i32_59_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k4_off30 (i : grid4.Coords) (arg10_r0 : BitVec 32) : Fin 2 → Nat :=
  let c128_i32_r0 : BitVec 32 := 128#32
  let true_62_r0 : BitVec 1 := 1#1
  let c1_i32_61_r0 : BitVec 32 := 1#32
  let v85_r0 : BitVec 32 := Scalar.subi arg10_r0 c1_i32_61_r0
  let v86_r0 : BitVec 32 := Scalar.select true_62_r0 v85_r0 arg10_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v168_r0 : BitVec 32 := Scalar.muli c128_i32_r0 v90_r0
  let c0_i32_105_r0 : BitVec 32 := 0#32
  ![v168_r0.toNat, 0]
def k4_off31 (arg9_r0 : BitVec 32) : Fin 1 → Nat :=
  let c2_i32_102_r0 : BitVec 32 := 2#32
  let v167_r0 : BitVec 32 := Scalar.remui arg9_r0 c2_i32_102_r0
  ![v167_r0.toNat]

def k4_chk4 (i : grid4.Coords) (k4_t2 : Fin (k4_t2_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h10 : k4_cond10 i k4_t2 arg10_r0 = 1#1), ∀ a, (k4_off18 arg6_r0) a + S1x1x128.size a ≤ S2x1x128.size a) ∧
  (∀ (k4_h1 : k4_cond1 i = 1#1), ∀ (k4_h10 : k4_cond10 i k4_t2 arg10_r0 = 1#1), ∀ a, (k4_off19 i arg10_r0) a + S1x128.size a ≤ S400x128.size a) ∧
  (∀ (k4_h1 : k4_cond1 i = 1#1), ∀ (k4_h10 : k4_cond10 i k4_t2 arg10_r0 = 1#1), ∀ a, (k4_off20 arg6_r0) a + S1.size a ≤ S2.size a) ∧
  (∀ (k4_h1 : k4_cond1 i = 1#1), ∀ (k4_h11 : k4_cond11 i k4_t2 arg10_r0 = 1#1), ∀ a, (k4_off21 arg7_r0) a + S1x1x128.size a ≤ S2x1x128.size a) ∧
  (∀ (k4_h1 : k4_cond1 i = 1#1), ∀ (k4_h11 : k4_cond11 i k4_t2 arg10_r0 = 1#1), ∀ a, (k4_off22 i arg10_r0) a + S1x128.size a ≤ S400x128.size a) ∧
  (∀ (k4_h1 : k4_cond1 i = 1#1), ∀ (k4_h11 : k4_cond11 i k4_t2 arg10_r0 = 1#1), ∀ a, (k4_off23 arg7_r0) a + S1.size a ≤ S2.size a) ∧
  (∀ (k4_h1 : k4_cond1 i = 1#1), ∀ (k4_h14 : k4_cond14 i k4_t2 arg10_r0 = 1#1), ∀ a, (k4_off26 arg8_r0) a + S1x128x128.size a ≤ S2x128x128.size a) ∧
  (∀ (k4_h1 : k4_cond1 i = 1#1), ∀ (k4_h14 : k4_cond14 i k4_t2 arg10_r0 = 1#1), ∀ a, (k4_off27 i arg10_r0) a + S128x128.size a ≤ S51200x128.size a) ∧
  (∀ (k4_h1 : k4_cond1 i = 1#1), ∀ (k4_h14 : k4_cond14 i k4_t2 arg10_r0 = 1#1), ∀ a, (k4_off28 arg8_r0) a + S1.size a ≤ S2.size a) ∧
  (∀ (k4_h1 : k4_cond1 i = 1#1), ∀ (k4_h16 : k4_cond16 i k4_t2 arg10_r0 = 1#1), ∀ a, (k4_off29 arg9_r0) a + S1x128x128.size a ≤ S2x128x128.size a) ∧
  (∀ (k4_h1 : k4_cond1 i = 1#1), ∀ (k4_h16 : k4_cond16 i k4_t2 arg10_r0 = 1#1), ∀ a, (k4_off30 i arg10_r0) a + S128x128.size a ≤ S51200x128.size a) ∧
  (∀ (k4_h1 : k4_cond1 i = 1#1), ∀ (k4_h16 : k4_cond16 i k4_t2 arg10_r0 = 1#1), ∀ a, (k4_off31 arg9_r0) a + S1.size a ≤ S2.size a)
theorem k4_off18_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off18 arg6_r0) a + S1x1x128.size a ≤ S2x1x128.size a := fun i k4_t2 arg6_r0 arg7_r0 arg8_r0 arg9_r0 arg10_r0 k4_hw4 k4_h1 k4_h10 => k4_hw4.1 k4_h1 k4_h10
theorem k4_off19_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off19 i arg10_r0) a + S1x128.size a ≤ S400x128.size a := fun i k4_t2 arg6_r0 arg7_r0 arg8_r0 arg9_r0 arg10_r0 k4_hw4 k4_h1 k4_h10 => k4_hw4.2.1 k4_h1 k4_h10
theorem k4_off20_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off20 arg6_r0) a + S1.size a ≤ S2.size a := fun i k4_t2 arg6_r0 arg7_r0 arg8_r0 arg9_r0 arg10_r0 k4_hw4 k4_h1 k4_h10 => k4_hw4.2.2.1 k4_h1 k4_h10
theorem k4_off21_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off21 arg7_r0) a + S1x1x128.size a ≤ S2x1x128.size a := fun i k4_t2 arg6_r0 arg7_r0 arg8_r0 arg9_r0 arg10_r0 k4_hw4 k4_h1 k4_h11 => k4_hw4.2.2.2.1 k4_h1 k4_h11
theorem k4_off22_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off22 i arg10_r0) a + S1x128.size a ≤ S400x128.size a := fun i k4_t2 arg6_r0 arg7_r0 arg8_r0 arg9_r0 arg10_r0 k4_hw4 k4_h1 k4_h11 => k4_hw4.2.2.2.2.1 k4_h1 k4_h11
theorem k4_off23_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off23 arg7_r0) a + S1.size a ≤ S2.size a := fun i k4_t2 arg6_r0 arg7_r0 arg8_r0 arg9_r0 arg10_r0 k4_hw4 k4_h1 k4_h11 => k4_hw4.2.2.2.2.2.1 k4_h1 k4_h11
theorem k4_off26_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off26 arg8_r0) a + S1x128x128.size a ≤ S2x128x128.size a := fun i k4_t2 arg6_r0 arg7_r0 arg8_r0 arg9_r0 arg10_r0 k4_hw4 k4_h1 k4_h14 => k4_hw4.2.2.2.2.2.2.1 k4_h1 k4_h14
theorem k4_off27_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off27 i arg10_r0) a + S128x128.size a ≤ S51200x128.size a := fun i k4_t2 arg6_r0 arg7_r0 arg8_r0 arg9_r0 arg10_r0 k4_hw4 k4_h1 k4_h14 => k4_hw4.2.2.2.2.2.2.2.1 k4_h1 k4_h14
theorem k4_off28_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off28 arg8_r0) a + S1.size a ≤ S2.size a := fun i k4_t2 arg6_r0 arg7_r0 arg8_r0 arg9_r0 arg10_r0 k4_hw4 k4_h1 k4_h14 => k4_hw4.2.2.2.2.2.2.2.2.1 k4_h1 k4_h14
theorem k4_off29_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off29 arg9_r0) a + S1x128x128.size a ≤ S2x128x128.size a := fun i k4_t2 arg6_r0 arg7_r0 arg8_r0 arg9_r0 arg10_r0 k4_hw4 k4_h1 k4_h16 => k4_hw4.2.2.2.2.2.2.2.2.2.1 k4_h1 k4_h16
theorem k4_off30_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off30 i arg10_r0) a + S128x128.size a ≤ S51200x128.size a := fun i k4_t2 arg6_r0 arg7_r0 arg8_r0 arg9_r0 arg10_r0 k4_hw4 k4_h1 k4_h16 => k4_hw4.2.2.2.2.2.2.2.2.2.2.1 k4_h1 k4_h16
theorem k4_off31_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off31 arg9_r0) a + S1.size a ≤ S2.size a := fun i k4_t2 arg6_r0 arg7_r0 arg8_r0 arg9_r0 arg10_r0 k4_hw4 k4_h1 k4_h16 => k4_hw4.2.2.2.2.2.2.2.2.2.2.2 k4_h1 k4_h16

def k4_cond18 (i : grid4.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k4_off32 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k4_off33 (i : grid4.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c13_i32 : BitVec 32 := 13#32
  let c12_i32 : BitVec 32 := 12#32
  let v5 : BitVec 32 := Scalar.select v4 c13_i32 c12_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c12_i32_2 : BitVec 32 := 12#32
  let v8 : BitVec 32 := Scalar.muli v3 c12_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k4_chk8 (i : grid4.Coords) (v48_4_r0 : BitVec 32) : Prop :=
  (∀ (k4_h1 : k4_cond1 i = 1#1), ∀ (k4_h18 : k4_cond18 i = 1#1), ∀ a, (k4_off33 i v48_4_r0) a + S128x128.size a ≤ S51200x128.size a)
theorem k4_off33_inb : ∀ (i : grid4.Coords) (v48_4_r0 : BitVec 32) (k4_hw8 : k4_chk8 i v48_4_r0), ∀ (k4_h1 : k4_cond1 i = 1#1), ∀ (k4_h18 : k4_cond18 i = 1#1), ∀ a, (k4_off33 i v48_4_r0) a + S128x128.size a ≤ S51200x128.size a := fun i v48_4_r0 k4_hw8 k4_h1 k4_h18 => k4_hw8 k4_h1 k4_h18

def k4_off34 (v48_3_r0 : BitVec 32) : Fin 1 → Nat :=
  let c2_i32_r0 : BitVec 32 := 2#32
  let v80_r0 : BitVec 32 := Scalar.remui v48_3_r0 c2_i32_r0
  ![v80_r0.toNat]
def k4_off35 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k4_chk7 (i : grid4.Coords) (v48_3_r0 : BitVec 32) : Prop :=
  (∀ (k4_h1 : k4_cond1 i = 1#1), ∀ (k4_h18 : k4_cond18 i = 1#1), ∀ a, (k4_off32 v48_3_r0) a + S1x128x128.size a ≤ S2x128x128.size a) ∧
  (∀ (k4_h1 : k4_cond1 i = 1#1), ∀ (k4_h18 : k4_cond18 i = 1#1), ∀ a, (k4_off34 v48_3_r0) a + S1.size a ≤ S2.size a) ∧
  (∀ (k4_h1 : k4_cond1 i = 1#1), ∀ (k4_h18 : k4_cond18 i = 1#1), ∀ a, (k4_off35 v48_3_r0) a + S1x128x128.size a ≤ S2x128x128.size a)
theorem k4_off32_inb : ∀ (i : grid4.Coords) (v48_3_r0 : BitVec 32) (k4_hw7 : k4_chk7 i v48_3_r0), ∀ (k4_h1 : k4_cond1 i = 1#1), ∀ (k4_h18 : k4_cond18 i = 1#1), ∀ a, (k4_off32 v48_3_r0) a + S1x128x128.size a ≤ S2x128x128.size a := fun i v48_3_r0 k4_hw7 k4_h1 k4_h18 => k4_hw7.1 k4_h1 k4_h18
theorem k4_off34_inb : ∀ (i : grid4.Coords) (v48_3_r0 : BitVec 32) (k4_hw7 : k4_chk7 i v48_3_r0), ∀ (k4_h1 : k4_cond1 i = 1#1), ∀ (k4_h18 : k4_cond18 i = 1#1), ∀ a, (k4_off34 v48_3_r0) a + S1.size a ≤ S2.size a := fun i v48_3_r0 k4_hw7 k4_h1 k4_h18 => k4_hw7.2.1 k4_h1 k4_h18
theorem k4_off35_inb : ∀ (i : grid4.Coords) (v48_3_r0 : BitVec 32) (k4_hw7 : k4_chk7 i v48_3_r0), ∀ (k4_h1 : k4_cond1 i = 1#1), ∀ (k4_h18 : k4_cond18 i = 1#1), ∀ a, (k4_off35 v48_3_r0) a + S1x128x128.size a ≤ S2x128x128.size a := fun i v48_3_r0 k4_hw7 k4_h1 k4_h18 => k4_hw7.2.2 k4_h1 k4_h18

abbrev grid5 : Pipeline.Grid := ⟨1, ![8], ![false]⟩

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S6400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S6400x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S128x50x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S50x128 : Shape := ⟨2, ![50, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S50 : Shape := ⟨1, ![50]⟩
abbrev S50x1 : Shape := ⟨2, ![50, 1]⟩
abbrev S1x1 : Shape := ⟨2, ![1, 1]⟩
abbrev S1x50x128 : Shape := ⟨3, ![1, 50, 128]⟩
abbrev S4096x50x256 : Shape := ⟨3, ![4096, 50, 256]⟩
abbrev S1x1x256 : Shape := ⟨3, ![1, 1, 256]⟩
abbrev S1x1x128 : Shape := ⟨3, ![1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i1⟩
  | .hbm, ⟨2, _⟩ => ⟨S100000x128, .f32⟩
  | .hbm, ⟨3, _⟩ => ⟨S50x128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S_, .i32⟩
  | .hbm, ⟨13, _⟩ => ⟨S4096x50, .i32⟩
  | .hbm, ⟨14, _⟩ => ⟨S4096x50, .i1⟩
  | .hbm, ⟨15, _⟩ => ⟨S_, .i32⟩
  | .hbm, ⟨16, _⟩ => ⟨S4096x50, .i32⟩
  | .hbm, ⟨17, _⟩ => ⟨S4096x50, .i32⟩
  | .hbm, ⟨18, _⟩ => ⟨S4096x50, .i32⟩
  | .hbm, ⟨19, _⟩ => ⟨S4096x50x1, .i32⟩
  | .hbm, ⟨20, _⟩ => ⟨S1, .i32⟩
  | .hbm, ⟨21, _⟩ => ⟨S_, .i32⟩
  | .hbm, ⟨22, _⟩ => ⟨S4096x50x1, .i32⟩
  | .hbm, ⟨23, _⟩ => ⟨S4096x50x1, .i1⟩
  | .hbm, ⟨24, _⟩ => ⟨S1x1x1, .i32⟩
  | .hbm, ⟨25, _⟩ => ⟨S4096x50x1, .i32⟩
  | .hbm, ⟨26, _⟩ => ⟨S4096x50x1, .i1⟩
  | .hbm, ⟨27, _⟩ => ⟨S4096x50x1, .i1⟩
  | .hbm, ⟨28, _⟩ => ⟨S_, .i1⟩
  | .hbm, ⟨29, _⟩ => ⟨S4096x50, .i1⟩
  | .hbm, ⟨30, _⟩ => ⟨S4096x50x128, .f32⟩
  | .hbm, ⟨31, _⟩ => ⟨S4096x50x128, .i1⟩
  | .hbm, ⟨32, _⟩ => ⟨S_, .f32⟩
  | .hbm, ⟨33, _⟩ => ⟨S4096x50x128, .f32⟩
  | .hbm, ⟨34, _⟩ => ⟨S4096x50x128, .f32⟩
  | .hbm, ⟨35, _⟩ => ⟨S50, .i32⟩
  | .hbm, ⟨36, _⟩ => ⟨S_, .i32⟩
  | .hbm, ⟨37, _⟩ => ⟨S50, .i32⟩
  | .hbm, ⟨38, _⟩ => ⟨S50, .i1⟩
  | .hbm, ⟨39, _⟩ => ⟨S_, .i32⟩
  | .hbm, ⟨40, _⟩ => ⟨S50, .i32⟩
  | .hbm, ⟨41, _⟩ => ⟨S50, .i32⟩
  | .hbm, ⟨42, _⟩ => ⟨S50, .i32⟩
  | .hbm, ⟨43, _⟩ => ⟨S50x1, .i32⟩
  | .hbm, ⟨44, _⟩ => ⟨S1, .i32⟩
  | .hbm, ⟨45, _⟩ => ⟨S_, .i32⟩
  | .hbm, ⟨46, _⟩ => ⟨S50x1, .i32⟩
  | .hbm, ⟨47, _⟩ => ⟨S50x1, .i1⟩
  | .hbm, ⟨48, _⟩ => ⟨S1x1, .i32⟩
  | .hbm, ⟨49, _⟩ => ⟨S50x1, .i32⟩
  | .hbm, ⟨50, _⟩ => ⟨S50x1, .i1⟩
  | .hbm, ⟨51, _⟩ => ⟨S50x1, .i1⟩
  | .hbm, ⟨52, _⟩ => ⟨S_, .i1⟩
  | .hbm, ⟨53, _⟩ => ⟨S50, .i1⟩
  | .hbm, ⟨54, _⟩ => ⟨S50x128, .f32⟩
  | .hbm, ⟨55, _⟩ => ⟨S50x128, .i1⟩
  | .hbm, ⟨56, _⟩ => ⟨S_, .f32⟩
  | .hbm, ⟨57, _⟩ => ⟨S50x128, .f32⟩
  | .hbm, ⟨58, _⟩ => ⟨S50x128, .f32⟩
  | .hbm, ⟨59, _⟩ => ⟨S1x50x128, .f32⟩
  | .hbm, ⟨60, _⟩ => ⟨S4096x50x128, .f32⟩
  | .hbm, ⟨61, _⟩ => ⟨S4096x50x128, .f32⟩
  | .hbm, ⟨62, _⟩ => ⟨S4096x50x256, .f32⟩
  | .hbm, ⟨63, _⟩ => ⟨S1x1x256, .f32⟩
  | .hbm, ⟨64, _⟩ => ⟨S4096x50x256, .f32⟩
  | .hbm, ⟨65, _⟩ => ⟨S4096x50x256, .f32⟩
  | .hbm, ⟨66, _⟩ => ⟨S_, .f32⟩
  | .hbm, ⟨67, _⟩ => ⟨S4096x50x256, .f32⟩
  | .hbm, ⟨68, _⟩ => ⟨S4096x50x256, .f32⟩
  | .hbm, ⟨69, _⟩ => ⟨S4096x50x128, .f32⟩
  | .hbm, ⟨70, _⟩ => ⟨S1x1x128, .f32⟩
  | .hbm, ⟨71, _⟩ => ⟨S4096x50x128, .f32⟩
  | .hbm, ⟨72, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v1 : Ref sig .tc := ⟨.hbm, 34, rfl⟩
abbrev main_v2 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_cst : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩

abbrev nD : Nat := 1
abbrev τ : Topo := Topo.v7x

variable {F : FTy → Type} [FloatOps F]
-- ==== Proof.Base.lean ====
/-
  The program of `KernelIdeal` as the launch theorem of SparseCore programs sees it: its configuration, its body table,
  the variants, the algebra of the proof's ghost state, and the facts about its handshakes.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the program's body table: the TensorCore pipelines over the kernels' own. -/
abbrev ΛP : Labels := Pipeline.Sig Λ₀ (Fin 3) fun p => (pcfgs (F := F) p).Adm
/-- The SparseCore configuration: three calls. -/
abbrev K : SparseCore.Cfg τ sig (ΛP (F := F)) 3 := sc (F := F)
/-- The body table under the SparseCore's: the TensorCore pipelines' steps and the kernels. -/
abbrev D : Defs nD τ sig (Elt F) (ΛP (F := F)) := Pipeline.defs pcfgs defs₀
/-- No kernel of the program recurses. -/
abbrev 𝒱₀ : Variants := Variants.none
abbrev 𝒱 : Variants := 𝒱₀.lift
abbrev v₀ : 𝒱.V := Sum.inl none

/-- The configuration meets the launch theorem's side conditions. -/
theorem facts : (K (F := F)).Facts where
  start_ne_taskDone := by change sc_start ≠ sc_taskDone; decide
  start_unscoped := by change (SemLoc.reg sc_start : SemLoc sig).isScoped .scScalar = false; decide
  taskDone_unscoped := by change (SemLoc.reg sc_taskDone : SemLoc sig).isScoped .scScalar = false; decide
  go_unscoped := by change (SemLoc.reg sc_go : SemLoc sig).isScoped .scVector = false; decide
  done_unscoped := by change (SemLoc.reg sc_done : SemLoc sig).isScoped .tc = false; decide
  noTaskShared := by decide
  noSeq := fun _ => rfl

/-- The handshakes' rounds, the TensorCore pipelines' rounds, and the counters of the tiles' transfers. -/
abbrev UH : Type := URounds (GSem nD τ sig) ℕ
abbrev UP : Type := URounds (GSem nD τ sig) Unit
abbrev UU : Type := UH × (UP × Counters)

local notation "𝕄" => MT nD τ sig (HIx 3) (Elt F) ℕ UU ℕ

abbrev EH : Emb UH (MT nD τ sig (HIx 3) (Elt F) ℕ UU ℕ) := embL
instance : (embR : Emb (UP × Counters) (MT nD τ sig (HIx 3) (Elt F) ℕ UU ℕ)).LandsIn (upEmb : UEmb _ (MT nD τ sig (HIx 3) (Elt F) ℕ UU ℕ)) := inferInstance
abbrev EP : Emb UP (MT nD τ sig (HIx 3) (Elt F) ℕ UU ℕ) := (Emb.inl : Emb UP (UP × Counters)).trans embR

end Cert.Proof.Bert
-- ==== Proof.Tc.lean ====
/-
  The TensorCore's three calls: the body over its seven staging buffers, the account of what each call's windows
  stage and what the output becomes, and each call as a region entered from the arrays held at any contents.
-/
module

public import proofs.«01_k».proof.Proof.Base
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.RegionArrays
public import Idealize.ShloMosaic.Lib.Pipeline.FrameBody
public import Idealize.ShloMosaic.Lib.VecWindow

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

open Idealize.ShloMosaic.Pipeline (Dat Cfg Window BodyObligation BodyObligationLoose)

/-- The body over any seven whole buffers, anything else kept: the six inputs are left as found and the output holds
    the block computed of them. -/
theorem mlp (d : Dev nD) (i : grid1.Coords)
    (m1 : Memref sig .tc .vmem S6400x128 .f32) (h1 : m1.IsWhole) (m2 : Memref sig .tc .vmem S6400x128 .f32) (h2 : m2.IsWhole)
    (m3 : Memref sig .tc .vmem S128x256 .f32) (h3 : m3.IsWhole) (m4 : Memref sig .tc .vmem S1x256 .f32) (h4 : m4.IsWhole)
    (m5 : Memref sig .tc .vmem S256x128 .f32) (h5 : m5.IsWhole) (m6 : Memref sig .tc .vmem S1x128 .f32) (h6 : m6.IsWhole)
    (m7 : Memref sig .tc .vmem S128x50x128 .f32) (h7 : m7.IsWhole)
    (x1 x2 x3 x4 x5 x6 x7) (R : sProp 𝕄) :
    iprop(R ∗ owns (d.tc : Thread nD τ) m1 fullShare x1 ∗ owns (d.tc : Thread nD τ) m2 fullShare x2 ∗ owns (d.tc : Thread nD τ) m3 fullShare x3
      ∗ owns (d.tc : Thread nD τ) m4 fullShare x4 ∗ owns (d.tc : Thread nD τ) m5 fullShare x5 ∗ owns (d.tc : Thread nD τ) m6 fullShare x6
      ∗ owns (d.tc : Thread nD τ) m7 fullShare x7)
    ⊢ wp frame (wpE (defs₀ (F := F)) 𝒱₀ (d.tc : Thread nD τ) none) Set.univ
        (cc1__mlp_body_first_skel i m1 h1 m2 h2 m3 h3 m4 h4 m5 h5 m6 h6 m7 h7)
        (fun _ => iprop(R ∗ owns (d.tc : Thread nD τ) m1 fullShare x1 ∗ owns (d.tc : Thread nD τ) m2 fullShare x2
          ∗ owns (d.tc : Thread nD τ) m3 fullShare x3 ∗ owns (d.tc : Thread nD τ) m4 fullShare x4 ∗ owns (d.tc : Thread nD τ) m5 fullShare x5
          ∗ owns (d.tc : Thread nD τ) m6 fullShare x6 ∗ owns (d.tc : Thread nD τ) m7 fullShare (k1_pay1 (F := F) x1 x2 x3 x4 x5 x6))) := by
  unfold owns cc1__mlp_body_first_skel
  iintro ⟨HR, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec!
  sl_step
  isplitl [HR]; · iexact HR
  isplitl [H1]; · iexists _; isplitr; (· ipureintro; rfl); iexact H1
  isplitl [H2]; · iexists _; isplitr; (· ipureintro; rfl); iexact H2
  isplitl [H3]; · iexists _; isplitr; (· ipureintro; rfl); iexact H3
  isplitl [H4]; · iexists _; isplitr; (· ipureintro; rfl); iexact H4
  isplitl [H5]; · iexists _; isplitr; (· ipureintro; rfl); iexact H5
  isplitl [H6]; · iexists _; isplitr; (· ipureintro; rfl); iexact H6
  iexists _; isplitr; swap; (· iexact H7)
  ipureintro
  refine (View.read_writes_full _ _ _ _ _).trans ?_
  rw [View.readAt_full, View.readAt_full, View.readAt_full, View.readAt_full, View.readAt_full, View.readAt_full]

/-- The pairs the core may have waited on before call `q` of the SparseCores. -/
def within (d : Dev nD) (q : ℕ) : Set (SemLoc sig × HIx 3) :=
  {p | (K (F := F)).lev ((SparseCore.T d : Thread nD τ), p.1) p.2 ≤ 8 * (inferInstance : SparseCore.Cfg.Blocks 3 3).fst q}

/-- What a body keeps besides its buffers: the call's other scoped buffers, and what the core owes. -/
theorem kept {cfg : Cfg sig Λ₀} {d : Dev nD} (dat : Dat τ (Elt F) (HIx 3) ℕ UU ℕ cfg d) (t : Fin cfg.N)
    (hΦ : dat.Φ t.castSucc = dat.Φ t.succ) (ho : dat.owed t.castSucc = dat.owed t.succ)
    (hb : dat.recorded t.castSucc = dat.recorded t.succ) :
    iprop(dat.Φ t.castSucc ∗ dat.owesAt none t.castSucc) ⊢ iprop(dat.Φ t.succ ∗ dat.owesAt none t.succ) := by
  unfold Dat.owesAt Pipeline.owesWithin Dat.bound
  rw [hΦ, ho, hb]

/-- The body at a point, over seven whole buffers held at contents not named: where the six inputs are known to hold `x1` to `x6`
    they are left so and the output holds the block computed of them; what else is held is kept as `h` says. -/
theorem point (d : Dev nD) {i : grid1.Coords}
    {m1 : Memref sig .tc .vmem S6400x128 .f32} {h1 : m1.IsWhole} {m2 : Memref sig .tc .vmem S6400x128 .f32} {h2 : m2.IsWhole}
    {m3 : Memref sig .tc .vmem S128x256 .f32} {h3 : m3.IsWhole} {m4 : Memref sig .tc .vmem S1x256 .f32} {h4 : m4.IsWhole}
    {m5 : Memref sig .tc .vmem S256x128 .f32} {h5 : m5.IsWhole} {m6 : Memref sig .tc .vmem S1x128 .f32} {h6 : m6.IsWhole}
    {m7 : Memref sig .tc .vmem S128x50x128 .f32} {h7 : m7.IsWhole} {β1 β2 β3 β4 β5 β6 β7 : Type} {P Q P' Q' : sProp 𝕄}
    {x1 x2 x3 x4 x5 x6} {f1 : β1 → _} {f2 : β2 → _} {f3 : β3 → _} {f4 : β4 → _} {f5 : β5 → _} {f6 : β6 → _} {f7 : β7 → _}
    (h : iprop(P ∗ Q) ⊢ iprop(P' ∗ Q')) (e1 : ∀ x, f1 x = x1) (e2 : ∀ x, f2 x = x2) (e3 : ∀ x, f3 x = x3) (e4 : ∀ x, f4 x = x4)
    (e5 : ∀ x, f5 x = x5) (e6 : ∀ x, f6 x = x6) :
    iprop(P ∗ Q ∗ (∃ x, owns (d.tc : Thread nD τ) m1 fullShare (f1 x)) ∗ (∃ x, owns (d.tc : Thread nD τ) m2 fullShare (f2 x))
      ∗ (∃ x, owns (d.tc : Thread nD τ) m3 fullShare (f3 x)) ∗ (∃ x, owns (d.tc : Thread nD τ) m4 fullShare (f4 x))
      ∗ (∃ x, owns (d.tc : Thread nD τ) m5 fullShare (f5 x)) ∗ (∃ x, owns (d.tc : Thread nD τ) m6 fullShare (f6 x))
      ∗ (∃ x, owns (d.tc : Thread nD τ) m7 fullShare (f7 x)))
    ⊢ wp frame (wpE (defs₀ (F := F)) 𝒱₀ (d.tc : Thread nD τ) none) Set.univ
        (cc1__mlp_body_first_skel i m1 h1 m2 h2 m3 h3 m4 h4 m5 h5 m6 h6 m7 h7)
        (fun _ => iprop(P' ∗ Q' ∗ owns (d.tc : Thread nD τ) m1 fullShare x1 ∗ owns (d.tc : Thread nD τ) m2 fullShare x2
          ∗ owns (d.tc : Thread nD τ) m3 fullShare x3 ∗ owns (d.tc : Thread nD τ) m4 fullShare x4 ∗ owns (d.tc : Thread nD τ) m5 fullShare x5
          ∗ owns (d.tc : Thread nD τ) m6 fullShare x6 ∗ owns (d.tc : Thread nD τ) m7 fullShare (k1_pay1 (F := F) x1 x2 x3 x4 x5 x6))) := by
  iintro ⟨HP, HQ, ⟨%y1, H1⟩, ⟨%y2, H2⟩, ⟨%y3, H3⟩, ⟨%y4, H4⟩, ⟨%y5, H5⟩, ⟨%y6, H6⟩, ⟨%y7, H7⟩⟩
  rw [e1 y1, e2 y2, e3 y3, e4 y4, e5 y5, e6 y6]
  ihave HK := h $$ [HP HQ]
  · isplitl [HP]; · iexact HP
    iexact HQ
  iapply wp_wand $$ [HK H1 H2 H3 H4 H5 H6 H7]
  · iapply (mlp (F := F) d i m1 h1 m2 h2 m3 h3 m4 h4 m5 h5 m6 h6 m7 h7 x1 x2 x3 x4 x5 x6 (f7 y7) iprop(P' ∗ Q'))
    isplitl [HK]; · iexact HK
    isplitl [H1]; · iexact H1
    isplitl [H2]; · iexact H2
    isplitl [H3]; · iexact H3
    isplitl [H4]; · iexact H4
    isplitl [H5]; · iexact H5
    isplitl [H6]; · iexact H6
    iexact H7
  · iintro %_ ⟨⟨HP, HQ⟩, H⟩
    isplitl [HP]; · iexact HP
    isplitl [HQ]; · iexact HQ
    iexact H

/-- The block of window `w` of a call at point `t`, off the arrays at `W`. -/
abbrev blk (cfg : Cfg sig Λ₀) (W : Valuation τ sig (Elt F)) (w : Fin cfg.W) (t : Fin cfg.N) :=
  ((cfg.win w).blk t).view.read (Elt F) (W (Proc.devRef .tc (Pipeline.arrRef cfg.spec w)))

/-- A call's account, given what each window's buffer is left at: its arrays are found at `W`, its other scoped buffers are kept,
    and the core owes throughout what it owes before call `q` of the SparseCores. -/
def dat (cfg : Cfg sig Λ₀) (W : Valuation τ sig (Elt F)) (after : (w : Fin cfg.W) → Fin cfg.N → (cfg.win w).block.Idx → Elt F (cfg.win w).elt)
    (q : ℕ) (d : Dev nD) : Dat τ (Elt F) (HIx 3) ℕ UU ℕ cfg d where
  A w := W (Proc.devRef .tc (Pipeline.arrRef cfg.spec w))
  after := after
  Φ _ := Pipeline.scopedRest cfg.spec d
  q _ := fullShare
  owed _ := (K (F := F)).Otc d q
  recorded _ := within (F := F) d q

/-- What the first call leaves each window's buffer at: an input's at its block, the output's at the block computed of them. -/
def after1 (W : Valuation τ sig (Elt F)) : (w : Fin cfg1.W) → Fin cfg1.N → (cfg1.win w).block.Idx → Elt F (cfg1.win w).elt
  | ⟨0, _⟩, t => blk cfg1 W 0 t
  | ⟨1, _⟩, t => blk cfg1 W 1 t
  | ⟨2, _⟩, t => blk cfg1 W 2 t
  | ⟨3, _⟩, t => blk cfg1 W 3 t
  | ⟨4, _⟩, t => blk cfg1 W 4 t
  | ⟨5, _⟩, t => blk cfg1 W 5 t
  | ⟨6, _⟩, t => k1_pay1 (blk cfg1 W 0 t) (blk cfg1 W 1 t) (blk cfg1 W 2 t) (blk cfg1 W 3 t) (blk cfg1 W 4 t) (blk cfg1 W 5 t)

/-- An input window's buffer holds its block whenever the first call's body runs. -/
theorem before1 (W : Valuation τ sig (Elt F)) (q : ℕ) (d : Dev nD) (w : Fin cfg1.W) (hw : w ≠ 6) (t : Fin cfg1.N) (x) :
    (dat cfg1 W (after1 W) q d).before w t x = after1 W w t := by
  refine ((dat cfg1 W (after1 W) q d).before_in_eq_fetched w
    ((by decide : ∀ w : Fin cfg1.W, w ≠ 6 → (cfg1.win w).isOut = false) w hw) (fun _ => rfl) ?_ ?_ t x).trans ?_
  all_goals fin_cases w <;> first | exact fun _ _ _ => rfl | exact fun _ => rfl | rfl | exact absurd rfl hw

/-- The first call's body does as its account says at every point. -/
theorem body1 (W : Valuation τ sig (Elt F)) (q : ℕ) (d : Dev nD) :
    BodyObligation (dat cfg1 W (after1 W) q d) (defs₀ (F := F)) 𝒱₀ none Set.univ := fun t => by
  rw [bigSep_W1, bigSep_W1, show defs₀ (F := F) .tc cfg1.body (cfg1.bodyArgs t (cfg1.slots t)) = bodyAt1 t from rfl]
  unfold bodyAt1
  rw [cc1__mlp_body_first_eq_skeleton]
  have h := fun w hw => before1 W q d w hw t
  exact point d (kept (dat cfg1 W (after1 W) q d) t rfl rfl rfl) (h 0 (by decide)) (h 1 (by decide)) (h 2 (by decide)) (h 3 (by decide))
    (h 4 (by decide)) (h 5 (by decide))

/-- What the second call leaves each window's buffer at: an input's at its block, the output's at the block computed of them. -/
def after3 (W : Valuation τ sig (Elt F)) : (w : Fin cfg3.W) → Fin cfg3.N → (cfg3.win w).block.Idx → Elt F (cfg3.win w).elt
  | ⟨0, _⟩, t => blk cfg3 W 0 t
  | ⟨1, _⟩, t => blk cfg3 W 1 t
  | ⟨2, _⟩, t => blk cfg3 W 2 t
  | ⟨3, _⟩, t => blk cfg3 W 3 t
  | ⟨4, _⟩, t => blk cfg3 W 4 t
  | ⟨5, _⟩, t => blk cfg3 W 5 t
  | ⟨6, _⟩, t => k1_pay1 (blk cfg3 W 0 t) (blk cfg3 W 1 t) (blk cfg3 W 2 t) (blk cfg3 W 3 t) (blk cfg3 W 4 t) (blk cfg3 W 5 t)

/-- An input window's buffer holds its block whenever the second call's body runs. -/
theorem before3 (W : Valuation τ sig (Elt F)) (q : ℕ) (d : Dev nD) (w : Fin cfg3.W) (hw : w ≠ 6) (t : Fin cfg3.N) (x) :
    (dat cfg3 W (after3 W) q d).before w t x = after3 W w t := by
  refine ((dat cfg3 W (after3 W) q d).before_in_eq_fetched w
    ((by decide : ∀ w : Fin cfg3.W, w ≠ 6 → (cfg3.win w).isOut = false) w hw) (fun _ => rfl) ?_ ?_ t x).trans ?_
  all_goals fin_cases w <;> first | exact fun _ _ _ => rfl | exact fun _ => rfl | rfl | exact absurd rfl hw

/-- The second call's body is the first's: it does not touch the array it is given beside its windows. -/
theorem alias3 (i : grid3.Coords) (a ha) (m1 h1 m2 h2 m3 h3 m4 h4 m5 h5 m6 h6 m7 h7) :
    cc3__mlp_body_alias_skel (F := F) i a ha m1 h1 m2 h2 m3 h3 m4 h4 m5 h5 m6 h6 m7 h7
      = cc1__mlp_body_first_skel (grid1.coords t1_0) m1 h1 m2 h2 m3 h3 m4 h4 m5 h5 m6 h6 m7 h7 := rfl

/-- The second call's body does as its account says at every point. -/
theorem body3 (W : Valuation τ sig (Elt F)) (q : ℕ) (d : Dev nD) :
    BodyObligation (dat cfg3 W (after3 W) q d) (defs₀ (F := F)) 𝒱₀ none Set.univ := fun t => by
  rw [bigSep_W3, bigSep_W3, show defs₀ (F := F) .tc cfg3.body (cfg3.bodyArgs t (cfg3.slots t)) = bodyAt3 t from rfl]
  unfold bodyAt3
  rw [cc3__mlp_body_alias_eq_skeleton, alias3]
  have h := fun w hw => before3 W q d w hw t
  exact point d (kept (dat cfg3 W (after3 W) q d) t rfl rfl rfl) (h 0 (by decide)) (h 1 (by decide)) (h 2 (by decide)) (h 3 (by decide))
    (h 4 (by decide)) (h 5 (by decide))

/-- What the third call leaves each window's buffer at: an input's at its block, the output's at the block computed of them. -/
def after5 (W : Valuation τ sig (Elt F)) : (w : Fin cfg5.W) → Fin cfg5.N → (cfg5.win w).block.Idx → Elt F (cfg5.win w).elt
  | ⟨0, _⟩, t => blk cfg5 W 0 t
  | ⟨1, _⟩, t => blk cfg5 W 1 t
  | ⟨2, _⟩, t => blk cfg5 W 2 t
  | ⟨3, _⟩, t => blk cfg5 W 3 t
  | ⟨4, _⟩, t => blk cfg5 W 4 t
  | ⟨5, _⟩, t => blk cfg5 W 5 t
  | ⟨6, _⟩, t => k1_pay1 (blk cfg5 W 0 t) (blk cfg5 W 1 t) (blk cfg5 W 2 t) (blk cfg5 W 3 t) (blk cfg5 W 4 t) (blk cfg5 W 5 t)

/-- An input window's buffer holds its block whenever the third call's body runs. -/
theorem before5 (W : Valuation τ sig (Elt F)) (q : ℕ) (d : Dev nD) (w : Fin cfg5.W) (hw : w ≠ 6) (t : Fin cfg5.N) (x) :
    (dat cfg5 W (after5 W) q d).before w t x = after5 W w t := by
  refine ((dat cfg5 W (after5 W) q d).before_in_eq_fetched w
    ((by decide : ∀ w : Fin cfg5.W, w ≠ 6 → (cfg5.win w).isOut = false) w hw) (fun _ => rfl) ?_ ?_ t x).trans ?_
  all_goals fin_cases w <;> first | exact fun _ _ _ => rfl | exact fun _ => rfl | rfl | exact absurd rfl hw

/-- The third call's body is the first's: it does not touch the array it is given beside its windows. -/
theorem alias5 (i : grid5.Coords) (a ha) (m1 h1 m2 h2 m3 h3 m4 h4 m5 h5 m6 h6 m7 h7) :
    cc5__mlp_body_alias_skel (F := F) i a ha m1 h1 m2 h2 m3 h3 m4 h4 m5 h5 m6 h6 m7 h7
      = cc1__mlp_body_first_skel (grid1.coords t1_0) m1 h1 m2 h2 m3 h3 m4 h4 m5 h5 m6 h6 m7 h7 := rfl

/-- The third call's body does as its account says at every point. -/
theorem body5 (W : Valuation τ sig (Elt F)) (q : ℕ) (d : Dev nD) :
    BodyObligation (dat cfg5 W (after5 W) q d) (defs₀ (F := F)) 𝒱₀ none Set.univ := fun t => by
  rw [bigSep_W5, bigSep_W5, show defs₀ (F := F) .tc cfg5.body (cfg5.bodyArgs t (cfg5.slots t)) = bodyAt5 t from rfl]
  unfold bodyAt5
  rw [cc5__mlp_body_alias_eq_skeleton, alias5]
  have h := fun w hw => before5 W q d w hw t
  exact point d (kept (dat cfg5 W (after5 W) q d) t rfl rfl rfl) (h 0 (by decide)) (h 1 (by decide)) (h 2 (by decide)) (h 3 (by decide))
    (h 4 (by decide)) (h 5 (by decide))

end Cert.Proof.Bert
-- ==== Proof.Regions.lean ====
/-
  The TensorCore's three calls as regions of the program: each entered from the arrays its windows name, held at any
  contents, and what the TensorCore owes the SparseCores' later calls; left with the output array at the blocks computed.
-/
module

public import proofs.«01_k».proof.Proof.Tc

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ
open Idealize.ShloMosaic.Pipeline (Dat Cfg Window BodyObligation BodyObligationLoose RegionSeg arrRefs arrays_held)

/-- No pipeline prefetches a table: the one admissible contents of each. -/
abbrev adms : (p : Fin 3) → (pcfgs (F := F) p).Adm := fun p => (cfgs p).toPCfg_adm

/-- What each of the three calls leaves its windows' buffers at, from the arrays at `W`. -/
def afters (W : Valuation τ sig (Elt F)) : (p : Fin 3) → (w : Fin (Pipeline.pin pcfgs (adms (F := F)) p).W) →
    Fin (Pipeline.pin pcfgs (adms (F := F)) p).N → ((Pipeline.pin pcfgs (adms (F := F)) p).win w).block.Idx → Elt F ((Pipeline.pin pcfgs (adms (F := F)) p).win w).elt
  | 0 => after1 W
  | 1 => after3 W
  | 2 => after5 W

/-- The accounts of the three calls, each entered from the arrays at `W`. -/
def acct (W : Dev nD → Valuation τ sig (Elt F)) (p : Fin 3) (d : Dev nD) : Dat τ (Elt F) (HIx 3) ℕ UU ℕ (Pipeline.pin pcfgs (adms (F := F)) p) d :=
  dat (Pipeline.pin pcfgs (adms (F := F)) p) (W d) (afters (W d) p) (p.val + 1) d

/-- What an account keeps at every point: the call's scoped buffers that stage nothing. -/
theorem acct_rest (W : Dev nD → Valuation τ sig (Elt F)) (p : Fin 3) (d : Dev nD) (t) :
    (acct W p d).Φ t = Pipeline.scopedRest (Pipeline.pin pcfgs (adms (F := F)) p).spec d := rfl

/-- The state a region is entered from and left in: its windows' arrays at `W`, and the core owing as before call `q`. -/
abbrev around (p : Fin 3) (q : ℕ) (d : Dev nD) (W : Valuation τ sig (Elt F)) : sProp 𝕄 :=
  iprop(StableHlo.held (d.tc : Thread nD τ) (arrRefs (pcfgs (F := F) p).spec) W
    ∗ ∃ Wd, ⌜∀ x ∈ Wd, x ∈ within (F := F) d q⌝ ∗ owes (d.tc : Thread nD τ) ((K (F := F)).Otc d q) Wd)

/-- What the core owes it owes above the level of a region's own waits. -/
theorem owed_above (d : Dev nD) (q : ℕ) (g : GSem nD τ sig) (i : HIx 3) (h : 0 < (K (F := F)).Otc d q g i) :
    i ∈ (K (F := F)).L g ∧ 0 < (K (F := F)).lev g i :=
  ⟨Finset.mem_univ _, lt_of_lt_of_le (Nat.succ_pos _) (SparseCore.Cfg.lev_of_Otc_pos h)⟩

/-- The valuation a call leaves, going by its account: the array of window `out` at the blocks written back, the others as they were. -/
def left {cfg : Cfg sig Λ₀} {d : Dev nD} (D : Dat τ (Elt F) (HIx 3) ℕ UU ℕ cfg d) (out : Fin cfg.W) (W : Valuation τ sig (Elt F)) :
    Valuation τ sig (Elt F) :=
  Function.update W (Proc.devRef .tc (Pipeline.arrRef cfg.spec out)) (D.arrAt out cfg.N)

/-- Where `out` alone is written back and no other window names its array, every window's array ends at that valuation. -/
theorem left_arr {cfg : Cfg sig Λ₀} {d : Dev nD} (D : Dat τ (Elt F) (HIx 3) ℕ UU ℕ cfg d) (out : Fin cfg.W) (W : Valuation τ sig (Elt F))
    (hA : ∀ w, D.A w = W (Proc.devRef .tc (Pipeline.arrRef cfg.spec w)))
    (h : ∀ w, w ≠ out → (cfg.win w).isOut = false ∧ Pipeline.arrRef cfg.spec w ≠ Pipeline.arrRef cfg.spec out) (w : Fin cfg.W) :
    D.arrAt w cfg.N = left D out W (Proc.devRef .tc (Pipeline.arrRef cfg.spec w)) := by
  unfold left
  by_cases hw : w = out
  · subst hw; exact (Function.update_self (Proc.devRef .tc (Pipeline.arrRef cfg.spec w)) _ W).symm
  · exact ((D.arrAt_in w (h w hw).1 cfg.N).trans (hA w)).trans
      (Function.update_of_ne (fun e => (h w hw).2 (Proc.devRef_injective _ e)) _ W).symm

/-- A call as a region, from any contents of the arrays to those its account leaves. -/
def region (p : Fin 3) (W : Dev nD → Valuation τ sig (Elt F))
    (kit : Pipeline.PLaunchFacts (nD := nD) (τ := τ) (pcfgs (F := F)) p) (out : Fin (Pipeline.pin pcfgs (adms (F := F)) p).W)
    (hbody : ∀ d, BodyObligation (acct W p d) (defs₀ (F := F)) 𝒱₀ none Set.univ)
    (hs : ∀ d w, (acct W p d).share w = fullShare)
    (h : ∀ w, w ≠ out → ((Pipeline.pin pcfgs (adms (F := F)) p).win w).isOut = false
      ∧ Pipeline.arrRef (Pipeline.pin pcfgs (adms (F := F)) p).spec w ≠ Pipeline.arrRef (Pipeline.pin pcfgs (adms (F := F)) p).spec out) :
    RegionSeg (pcfgs (F := F)) adms (acct W) none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody d := (hbody d).loose
  hwaits d := Pipeline.cellsWaits_of_cut (Pipeline.pin pcfgs adms) (acct W) none p d 0 ((K (F := F)).Otc d (p.val + 1)) (fun _ => rfl)
    (fun _ _ => Finset.mem_univ _) (fun _ _ => le_refl _) (owed_above d (p.val + 1))
  pre d := around p (p.val + 1) d (W d)
  post d := around p (p.val + 1) d (left (acct W p d) out (W d))
  X _ := iprop(emp)
  Y _ := iprop(emp)
  Z _ := iprop(emp)
  hentry d := by
    unfold around
    rw [Pipeline.ownSems0_none, Pipeline.prefHeld_of_none _ rfl,
      ← arrays_held pcfgs adms (acct W) p kit d (hs d) ((acct W p d).arrAt · 0) (W d) (fun _ => rfl)]
    iintro ⟨⟨Ha, ⟨%V, %hV, HO⟩⟩, -, -⟩
    imodintro
    isplitl [Ha]; · iexact Ha
    isplitr; · iempintro
    isplitl [HO]
    · unfold Dat.owesAt Pipeline.owesWithin Dat.bound
      iexists V; isplitr; · ipureintro; exact fun x hx => Or.inl (hV x hx)
      iexact HO
    isplitl; · iempintro
    iempintro
  hin d := by
    rw [acct_rest]
    iintro ⟨-, -, H⟩
    iexact H
  hout d := by
    rw [acct_rest, Pipeline.ownSems0_none]
    iintro H
    isplitr; · iempintro
    isplitr; · iempintro
    iexact H
  hexit d := by
    unfold around
    rw [← arrays_held pcfgs adms (acct W) p kit d (hs d) ((acct W p d).arrAt · (Pipeline.pin pcfgs adms p).N) (left (acct W p d) out (W d))
      (left_arr (acct W p d) out (W d) (fun _ => rfl) h)]
    iintro ⟨Ha, HO, -, -⟩
    imodintro
    isplitl [Ha]; · iexact Ha
    unfold Dat.owesAt Pipeline.owesWithin Dat.bound
    icases HO with ⟨%V, %hV, HO⟩
    iexists V; isplitr; swap; · iexact HO
    ipureintro
    intro x hx
    rcases hV hx with h | ⟨w, s, rfl⟩
    · exact h
    · exact Nat.zero_le _

/-- The first call's account. -/
abbrev dat1 (W : Valuation τ sig (Elt F)) (q : ℕ) (d : Dev nD) : Dat τ (Elt F) (HIx 3) ℕ UU ℕ cfg1 d := dat cfg1 W (after1 W) q d
/-- The valuation the first call leaves: its output array at the blocks written back, the others as they were. -/
def left1 (d : Dev nD) (W : Valuation τ sig (Elt F)) : Valuation τ sig (Elt F) := left (dat1 W 1 d) 6 W
/-- The first call as a region, from any contents of the arrays. -/
def region1 (W : Dev nD → Valuation τ sig (Elt F)) :
    RegionSeg (pcfgs (F := F)) adms (acct W) none (defs₀ (F := F)) 𝒱₀ (K (F := F)).L (K (F := F)).lev 0 :=
  region 0 W launch1.toP (6 : Fin cfg1.W) (fun d => body1 (W d) 1 d) (fun d w => (dat1 (W d) 1 d).share_full (fun _ => rfl) w)
    (show ∀ w : Fin cfg1.W, w ≠ 6 → (cfg1.win w).isOut = false ∧ Pipeline.arrRef cfg1.spec w ≠ Pipeline.arrRef cfg1.spec 6 by decide)

/-- The second call's account. -/
abbrev dat3 (W : Valuation τ sig (Elt F)) (q : ℕ) (d : Dev nD) : Dat τ (Elt F) (HIx 3) ℕ UU ℕ cfg3 d := dat cfg3 W (after3 W) q d
/-- The valuation the second call leaves: its output array at the blocks written back, the others as they were. -/
def left3 (d : Dev nD) (W : Valuation τ sig (Elt F)) : Valuation τ sig (Elt F) := left (dat3 W 2 d) 6 W
/-- The second call as a region, from any contents of the arrays. -/
def region3 (W : Dev nD → Valuation τ sig (Elt F)) :
    RegionSeg (pcfgs (F := F)) adms (acct W) none (defs₀ (F := F)) 𝒱₀ (K (F := F)).L (K (F := F)).lev 1 :=
  region 1 W launch3.toP (6 : Fin cfg3.W) (fun d => body3 (W d) 2 d) (fun d w => (dat3 (W d) 2 d).share_full (fun _ => rfl) w)
    (show ∀ w : Fin cfg3.W, w ≠ 6 → (cfg3.win w).isOut = false ∧ Pipeline.arrRef cfg3.spec w ≠ Pipeline.arrRef cfg3.spec 6 by decide)

/-- The third call's account. -/
abbrev dat5 (W : Valuation τ sig (Elt F)) (q : ℕ) (d : Dev nD) : Dat τ (Elt F) (HIx 3) ℕ UU ℕ cfg5 d := dat cfg5 W (after5 W) q d
/-- The valuation the third call leaves: its output array at the blocks written back, the others as they were. -/
def left5 (d : Dev nD) (W : Valuation τ sig (Elt F)) : Valuation τ sig (Elt F) := left (dat5 W 3 d) 6 W
/-- The third call as a region, from any contents of the arrays. -/
def region5 (W : Dev nD → Valuation τ sig (Elt F)) :
    RegionSeg (pcfgs (F := F)) adms (acct W) none (defs₀ (F := F)) 𝒱₀ (K (F := F)).L (K (F := F)).lev 2 :=
  region 2 W launch5.toP (6 : Fin cfg5.W) (fun d => body5 (W d) 3 d) (fun d w => (dat5 (W d) 3 d).share_full (fun _ => rfl) w)
    (show ∀ w : Fin cfg5.W, w ≠ 6 → (cfg5.win w).isOut = false ∧ Pipeline.arrRef cfg5.spec w ≠ Pipeline.arrRef cfg5.spec 6 by decide)

end Cert.Proof.Bert
-- ==== Proof.Ring.lean ====
/-
  One tile's ring of the gather: two index rows and two row blocks in flight at once. Block `k` of the tile is fetched
  (its index row), gathered (its table rows) and copied out; the fetch of block `k + 1` is issued before the gather of
  block `k`, and the copy of block `k - 1` is awaited after the copy of block `k` is issued. Everything is stated over the
  tile's memory references as functions of the block number, so that it serves all three calls.
-/
module

public import proofs.«01_k».proof.Proof.Base

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-- The memory references and semaphores of one tile's ring: the table, the index row and the output block of each of
    the tile's blocks, and the two buffers' slots with their semaphores. -/
structure Ring where
  tab : Memref sig .scVector .hbm S100000x128 .f32
  row : ℕ → Memref sig .scVector .hbm S1x128 .i32
  blk : ℕ → Memref sig .scVector .hbm S128x128 .f32
  slotI : ℕ → Memref sig .scVector .vmem S1x128 .i32
  slotD : ℕ → Memref sig .scVector .vmem S128x128 .f32
  semI : ℕ → DmaSem sig
  semD : ℕ → DmaSem sig
  semG : DmaSem sig
  slotI_two : ∀ k, slotI (k + 2) = slotI k
  slotD_two : ∀ k, slotD (k + 2) = slotD k
  semI_two : ∀ k, semI (k + 2) = semI k
  semD_two : ∀ k, semD (k + 2) = semD k
  credit : ∀ k, ∑ j, ((slotD k).slice (S128x128.rowRect (gathers_S100000x128_S128x128).axis' j)
    (S128x128.stride_rowRect (gathers_S100000x128_S128x128).axis' j)).view.dmaCredit = (slotD k).view.dmaCredit

namespace Ring

variable (R : Ring) (d : Dev nD) (cs : Fin τ.nSC) (su : Fin τ.nSub)

/-- The list of table rows the gather of block `k` reads: the index row in its slot, as a list. -/
abbrev lst (k : ℕ) : Memref sig .scVector .vmem S128 .i32 :=
  ((R.slotI k).slice (Rect.unit (s := S1x128) ![0, 0] S1x128.size inb_S1x128_S1x128_0_0) (fun _ => rfl)).squeeze S128 squeezes_S1x128_S128

/-- An index row as a list. -/
def asList (v : S1x128.Idx → Elt F .i32) : S128.Idx → Elt F .i32 := fun x =>
  v ((Rect.unit (s := S1x128) ![0, 0] S1x128.size inb_S1x128_S1x128_0_0).emb (Shape.reshapeEquiv squeezes_S1x128_S128.numel_eq x))

/-- The list read out of a slot covers just the slot's indices. -/
theorem set_lst (k : ℕ) : (R.lst k).view.set = (R.slotI k).view.set := by
  show (((R.slotI k).view.slice _).reshape S128 _).set = _
  rw [View.set_reshape]
  exact Finset.eq_of_subset_of_card_le (View.set_slice_subset _ _) (by rw [View.card_set, View.card_set]; decide)

/-- Read as a list, a slot holding an index row gives that row's words. -/
theorem read_lst (k : ℕ) (f : Buf (Elt F) ((R.slotI k).view.loc (V d cs su))) (v : S1x128.Idx → Elt F .i32) :
    (R.lst k).view.read (Elt F) ((R.slotI k).view.write (Elt F) f v Finset.univ) = asList v := by
  funext x
  exact congrFun ((R.slotI k).view.read_write_univ f v) _

/-- Equal lists name equal rows. -/
theorem rows_congr {o o' : S128.Idx → Elt F .i32} (h : o = o') {n r : ℕ} (hn : S128.numel = n) (hi : ∀ x, (o x).toNat < r)
    (hi' : ∀ x, (o' x).toNat < r) : SparseCore.rows o hn hi = SparseCore.rows o' hn hi' := by subst h; rfl

section Pay
variable (tb : Buf (Elt F) (R.tab.view.loc (V d cs su))) (ix : ∀ k, Buf (Elt F) ((R.row k).view.loc (V d cs su)))
  (qt qi : PosShare TreeShare)

/-- Every index of block `k`'s row names a row of the table. -/
def InRange (k : ℕ) : Prop := ∀ x, (asList ((R.row k).view.read (Elt F) (ix k)) x).toNat < S100000x128.size (gathers_S100000x128_S128x128).axis

/-- What block `k` of the output is written with: the table's rows its index row names. -/
def pay (k : ℕ) (h : R.InRange d cs su ix k) : S128x128.Idx → Elt F .f32 :=
  SparseCore.gatherPayload gathers_S100000x128_S128x128 (R.tab.view.read (Elt F) tb)
    (SparseCore.rows (asList ((R.row k).view.read (Elt F) (ix k))) rfl h)

/-- The index row of block `k`, read-only. -/
def rowPts (k : ℕ) : sProp 𝕄 := (R.row k).view.loc (V d cs su) ↦[(R.row k).view.set]{qi} ix k
/-- The table, read-only. -/
def tabPts : sProp 𝕄 := R.tab.view.loc (V d cs su) ↦[R.tab.view.set]{qt} tb
/-- Block `k` of the output, at anything. -/
def todo (k : ℕ) : sProp 𝕄 := iprop(∃ f, (R.blk k).view.loc (V d cs su) ↦[(R.blk k).view.set]{fullShare} f)
/-- Block `k` of the output, gathered. -/
def done (k : ℕ) : sProp 𝕄 := iprop(∃ f, ∃ h, (R.blk k).view.loc (V d cs su) ↦[(R.blk k).view.set]{fullShare}
  (R.blk k).view.write (Elt F) f (R.pay d cs su tb ix k h) Finset.univ)
/-- The index slot of block `k`, free. -/
def freeI (k : ℕ) : sProp 𝕄 := iprop((∃ f, (R.slotI k).view.loc (V d cs su) ↦[(R.slotI k).view.set]{fullShare} f)
  ∗ semVal (V d cs su, .dma (R.semI k)) 0)
/-- The block slot of block `k`, free. -/
def freeD (k : ℕ) : sProp 𝕄 := iprop((∃ f, (R.slotD k).view.loc (V d cs su) ↦[(R.slotD k).view.set]{fullShare} f)
  ∗ semVal (V d cs su, .dma (R.semD k)) 0)
/-- The fetch of block `k`'s index row, in flight. -/
def fetching (k : ℕ) : sProp 𝕄 := iprop(∃ f, Transfers.Flight countersEmb (V d cs su) (.dma (R.semI k)) (default : HIx 3) (R.slotI k).view.dmaCredit
  iprop(((R.slotI k).view.loc (V d cs su) ↦[(R.slotI k).view.set]{fullShare}
      (R.slotI k).view.write (Elt F) f ((R.row k).view.read (Elt F) (ix k)) Finset.univ) ∗ R.rowPts d cs su ix qi k))
/-- The copy of block `k` out to the output, in flight. -/
def leaving (k : ℕ) : sProp 𝕄 := iprop(Transfers.Flight countersEmb (V d cs su) (.dma (R.semD k)) (default : HIx 3) (R.blk k).view.dmaCredit
  iprop(R.done d cs su tb ix k ∗ ∃ f, (R.slotD k).view.loc (V d cs su) ↦[(R.slotD k).view.set]{fullShare} f))
/-- The index slot of block `k`, fetched. -/
def fetched (k : ℕ) : sProp 𝕄 := iprop(∃ f, ((R.slotI k).view.loc (V d cs su) ↦[(R.slotI k).view.set]{fullShare}
      (R.slotI k).view.write (Elt F) f ((R.row k).view.read (Elt F) (ix k)) Finset.univ) ∗ semVal (V d cs su, .dma (R.semI k)) 0)
/-- The block slot of block `k`, gathered. -/
def gathered (k : ℕ) : sProp 𝕄 := iprop(∃ f, ∃ h, ((R.slotD k).view.loc (V d cs su) ↦[(R.slotD k).view.set]{fullShare}
      (R.slotD k).view.write (Elt F) f (R.pay d cs su tb ix k h) Finset.univ) ∗ semVal (V d cs su, .dma (R.semD k)) 0)
/-- What the thread owes, whatever of its own waits it has recorded since. -/
def owing (O : CellTallies nD τ sig (HIx 3)) (W : Waits sig (HIx 3)) : sProp 𝕄 :=
  iprop(∃ W', ⌜∀ p ∈ W', p ∈ W ∨ p.2 = none⌝ ∗ owes (V d cs su) O W')

end Pay

section Steps
variable (tb : Buf (Elt F) (R.tab.view.loc (V d cs su))) (ix : ∀ k, Buf (Elt F) ((R.row k).view.loc (V d cs su)))
  (qt qi : PosShare TreeShare) (O : CellTallies nD τ sig (HIx 3)) (W : Waits sig (HIx 3))
variable {α : Type} {Q : α → sProp (MT nD τ sig (HIx 3) (Elt F) ℕ UU ℕ)}

/-- Issuing the fetch of block `k`'s index row. -/
theorem step_fetch (k : ℕ) {src : Memref sig .scVector .hbm S1x128 .i32} {dst : Memref sig .scVector .vmem S1x128 .i32} {sem : DmaSem sig}
    (h₁ : src = R.row k) (h₂ : dst = R.slotI k) (h₃ : sem = R.semI k) {hs : src.view.WordExact} {hd : dst.view.WordExact}
    {ht : (DmaTarget.here dst : DmaTarget nD τ sig (.scVector cs su) .vmem S1x128 .i32).Typed .hbm (.dma sem)} {kk : PUnit → Prog (TpuEff nD τ sig (Elt F) Λ₀ (.scVector cs su)) α} :
    iprop(R.rowPts d cs su ix qi k ∗ R.freeI d cs su k)
      ⊢ iprop((R.fetching d cs su ix qi k -∗ wp frame (wpE (defs₀ (F := F)) 𝒱₀ (V d cs su) none) Set.univ (kk ⟨⟩) Q)
        -∗ wp frame (wpE (defs₀ (F := F)) 𝒱₀ (V d cs su) none) Set.univ (.op (.enqueueDma src (.here dst) (.dma sem) hs hd ht) kk) Q) := by
  subst h₁ h₂ h₃
  unfold rowPts freeI
  iintro ⟨Hr, ⟨%f, Hs⟩, Hv⟩ Hk
  iapply (Transfers.wp_dmaLocal countersEmb 𝒱₀ (V d cs su) none (default : HIx 3) (R.slotI k).view.dmaCredit rfl
    ((R.slotI k).view.dmaCredit_pos (by decide)) subset_rfl) $$ [Hr Hs Hv]
  · isplitl [Hr]; · iexact Hr
    isplitl [Hs]; · iexact Hs
    iexact Hv
  iintro Hfl
  iapply Hk
  unfold fetching
  iexists f
  iexact Hfl

/-- Awaiting the fetch of block `k`'s index row. -/
theorem step_fetched (k : ℕ) {src : Memref sig .scVector .hbm S1x128 .i32} {dst : Memref sig .scVector .vmem S1x128 .i32} {sem : DmaSem sig}
    (h₂ : dst = R.slotI k) (h₃ : sem = R.semI k) {hs : src.view.WordExact} {hd : dst.view.WordExact}
    {kk : PUnit → Prog (TpuEff nD τ sig (Elt F) Λ₀ (.scVector cs su)) α} :
    iprop(R.fetching d cs su ix qi k ∗ owing d cs su O W ∗ Transfers.MayWaits (V d cs su) (default : HIx 3) O)
      ⊢ iprop((R.fetched d cs su ix k ∗ owing d cs su O W -∗ wp frame (wpE (defs₀ (F := F)) 𝒱₀ (V d cs su) none) Set.univ (kk ⟨⟩) Q)
        -∗ wp frame (wpE (defs₀ (F := F)) 𝒱₀ (V d cs su) none) Set.univ (.op (.waitDma2 sem src dst hs hd) kk) Q) := by
  subst h₂ h₃
  unfold fetching owing
  iintro ⟨⟨%f, Hfl⟩, ⟨%W', %hW, HO⟩, #Hmw⟩ Hk
  iapply (Transfers.wp_waitLocalO countersEmb 𝒱₀ (V d cs su) none (default : HIx 3) (rfl : (R.slotI k).view.dmaCredit = _)) $$ [Hfl HO]
  · isplitl [Hfl]; · iexact Hfl
    isplitl [HO]; · iexact HO
    iapply (Transfers.MayWaits.elim (SemLoc.dma (R.semI k))) $$ Hmw
  iintro ⟨⟨Hs, -⟩, Hv, HO⟩
  iapply Hk
  isplitl [Hs Hv]
  · unfold fetched; iexists f; isplitl [Hs]; · iexact Hs
    iexact Hv
  iexists _; isplitr
  swap; · iexact HO
  ipureintro; intro p hp
  rcases Finset.mem_insert.mp hp with hp | hp
  · exact .inr (hp ▸ rfl)
  · exact hW p hp

/-- The gather of block `k` and its wait: the block's slot holds the table rows the fetched index row names. -/
theorem step_gather (k : ℕ) (hin : R.InRange d cs su ix k) {src : Memref sig .scVector .hbm S100000x128 .f32}
    {dst dst' : Memref sig .scVector .vmem S128x128 .f32} {offs : Memref sig .scVector .vmem S128 .i32}
    (h₁ : src = R.tab) (h₂ : dst = R.slotD k) (h₂' : dst' = R.slotD k) (h₃ : offs = R.lst k)
    {hp : (V d cs su : Thread nD τ).2.kind = .scVector} {hn : S128.numel = S128x128.size (gathers_S100000x128_S128x128).axis'}
    {hsrc : src.view.WordExact} {he : EltTy.f32.bits = 32} {hsp : Space.hbm = .hbm ∨ Space.hbm = .shared} {hr : S100000x128.StreamRows 0}
    {src' : Memref sig .scVector .hbm S100000x128 .f32} {hs' : src'.view.WordExact} {hd' : dst'.view.WordExact}
    {kk : PUnit → Prog (TpuEff nD τ sig (Elt F) Λ₀ (.scVector cs su)) α} :
    iprop(R.tabPts d cs su tb qt ∗ R.fetched d cs su ix k ∗ R.freeD d cs su k ∗ semVal (V d cs su, .dma R.semG) 0
        ∗ owing d cs su O W ∗ Transfers.MayWaits (V d cs su) (default : HIx 3) O)
      ⊢ iprop((R.tabPts d cs su tb qt ∗ R.freeI d cs su k ∗ R.gathered d cs su tb ix k ∗ semVal (V d cs su, .dma R.semG) 0 ∗ owing d cs su O W
          -∗ wp frame (wpE (defs₀ (F := F)) 𝒱₀ (V d cs su) none) Set.univ (kk ⟨⟩) Q)
        -∗ wp frame (wpE (defs₀ (F := F)) 𝒱₀ (V d cs su) none) Set.univ
          (SparseCore.enqueueIndirectGather hp src dst gathers_S100000x128_S128x128 offs hn R.semG hsrc he hsp hr
            >>= fun _ => SparseCore.waitIndirectGather R.semG src' dst' hs' hd' >>= kk) Q) := by
  subst h₁ h₂ h₂' h₃
  unfold tabPts fetched freeD owing
  iintro ⟨Ht, ⟨%f, Hs, HvI⟩, ⟨⟨%g, Hd⟩, HvD⟩, Hv, ⟨%W', %hW, HO⟩, #Hmw⟩ Hk
  ihave Hs' := (Entails.of_eq (show ((R.slotI k).view.loc (V d cs su) ↦[(R.slotI k).view.set]{fullShare}
      (R.slotI k).view.write (Elt F) f ((R.row k).view.read (Elt F) (ix k)) Finset.univ : sProp 𝕄)
    = (R.lst k).view.loc (V d cs su) ↦[(R.lst k).view.set]{fullShare}
      (R.slotI k).view.write (Elt F) f ((R.row k).view.read (Elt F) (ix k)) Finset.univ by rw [R.set_lst k])) $$ Hs
  have hrd := R.read_lst d cs su k f ((R.row k).view.read (Elt F) (ix k))
  have hin' : ∀ x, ((R.lst k).view.read (Elt F) ((R.slotI k).view.write (Elt F) f ((R.row k).view.read (Elt F) (ix k)) Finset.univ) x).toNat
      < S100000x128.size (gathers_S100000x128_S128x128).axis := by rw [hrd]; exact hin
  have hpay : SparseCore.gatherPayload gathers_S100000x128_S128x128 (R.tab.view.read (Elt F) tb)
      (SparseCore.rows ((R.lst k).view.read (Elt F) ((R.slotI k).view.write (Elt F) f ((R.row k).view.read (Elt F) (ix k)) Finset.univ)) hn hin')
      = R.pay d cs su tb ix k hin := by
    unfold pay; exact congrArg _ (rows_congr hrd hn hin' hin)
  iapply (SparseCore.wp_indirectGatherLocal countersEmb 𝒱₀ (V d cs su) none (hg := gathers_S100000x128_S128x128) (default : HIx 3)
      (R.slotD k).view.dmaCredit (R.credit k) (by decide) hin') $$ [Ht Hd Hs' Hv]
  · isplitl [Ht]; · iexact Ht
    isplitl [Hd]; · iexact Hd
    isplitl [Hs']; · iexact Hs'
    iexact Hv
  iintro Hfl
  iapply (Transfers.wp_waitLocalO countersEmb 𝒱₀ (V d cs su) none (default : HIx 3) (rfl : (R.slotD k).view.dmaCredit = _)) $$ [Hfl HO]
  · isplitl [Hfl]; · iexact Hfl
    isplitl [HO]; · iexact HO
    iapply (Transfers.MayWaits.elim (SemLoc.dma R.semG)) $$ Hmw
  iintro ⟨⟨Hd, Ht, Hs⟩, Hv, HO⟩
  iapply Hk
  isplitl [Ht]; · iexact Ht
  isplitl [Hs HvI]
  · unfold freeI; isplitl [Hs]
    · iexists _
      iapply (Entails.of_eq (show ((R.lst k).view.loc (V d cs su) ↦[(R.lst k).view.set]{fullShare}
        (R.slotI k).view.write (Elt F) f ((R.row k).view.read (Elt F) (ix k)) Finset.univ : sProp 𝕄)
        = ((R.slotI k).view.loc (V d cs su) ↦[(R.slotI k).view.set]{fullShare}
        (R.slotI k).view.write (Elt F) f ((R.row k).view.read (Elt F) (ix k)) Finset.univ : sProp 𝕄) by rw [R.set_lst k]))
      iexact Hs
    iexact HvI
  isplitl [Hd HvD]
  · unfold gathered; iexists g, hin; isplitl [Hd]
    · iapply (Entails.of_eq (congrArg (fun w => ((R.slotD k).view.loc (V d cs su) ↦[(R.slotD k).view.set]{fullShare}
        (R.slotD k).view.write (Elt F) g w Finset.univ : sProp 𝕄)) hpay))
      iexact Hd
    iexact HvD
  isplitl [Hv]; · iexact Hv
  iexists _; isplitr
  swap; · iexact HO
  ipureintro; intro p hp
  rcases Finset.mem_insert.mp hp with hp | hp
  · exact .inr (hp ▸ rfl)
  · exact hW p hp

/-- Issuing the copy of block `k` out. -/
theorem step_issue (k : ℕ) {src : Memref sig .scVector .vmem S128x128 .f32} {dst : Memref sig .scVector .hbm S128x128 .f32} {sem : DmaSem sig}
    (h₁ : src = R.slotD k) (h₂ : dst = R.blk k) (h₃ : sem = R.semD k) {hs : src.view.WordExact} {hd : dst.view.WordExact}
    {ht : (DmaTarget.here dst : DmaTarget nD τ sig (.scVector cs su) .hbm S128x128 .f32).Typed .vmem (.dma sem)} {kk : PUnit → Prog (TpuEff nD τ sig (Elt F) Λ₀ (.scVector cs su)) α} :
    iprop(R.gathered d cs su tb ix k ∗ R.todo d cs su k)
      ⊢ iprop((R.leaving d cs su tb ix k -∗ wp frame (wpE (defs₀ (F := F)) 𝒱₀ (V d cs su) none) Set.univ (kk ⟨⟩) Q)
        -∗ wp frame (wpE (defs₀ (F := F)) 𝒱₀ (V d cs su) none) Set.univ (.op (.enqueueDma src (.here dst) (.dma sem) hs hd ht) kk) Q) := by
  subst h₁ h₂ h₃
  unfold gathered todo
  iintro ⟨⟨%f, %h, Hs, Hv⟩, ⟨%g, Hd⟩⟩ Hk
  iapply (Transfers.wp_dmaLocal countersEmb 𝒱₀ (V d cs su) none (default : HIx 3) (R.blk k).view.dmaCredit rfl
    ((R.blk k).view.dmaCredit_pos (by decide)) subset_rfl) $$ [Hs Hd Hv]
  · isplitl [Hs]; · iexact Hs
    isplitl [Hd]; · iexact Hd
    iexact Hv
  iintro Hfl
  iapply Hk
  unfold leaving
  iapply (Transfers.Flight_mono countersEmb (V d cs su) ?_) $$ Hfl
  unfold done
  iintro ⟨Hd, Hs⟩
  isplitl [Hd]
  · iexists g, h
    iapply (Entails.of_eq (congrArg (fun w => ((R.blk k).view.loc (V d cs su) ↦[(R.blk k).view.set]{fullShare}
        (R.blk k).view.write (Elt F) g w Finset.univ : sProp 𝕄)) ((R.slotD k).view.read_write_univ f (R.pay d cs su tb ix k h))))
    iexact Hd
  iexists _; iexact Hs

/-- Awaiting the copy of block `k` out. -/
theorem step_left (k : ℕ) {src : Memref sig .scVector .vmem S128x128 .f32} {dst : Memref sig .scVector .hbm S128x128 .f32} {sem : DmaSem sig}
    (h₂ : dst = R.blk k) (h₃ : sem = R.semD k) {hs : src.view.WordExact} {hd : dst.view.WordExact}
    {kk : PUnit → Prog (TpuEff nD τ sig (Elt F) Λ₀ (.scVector cs su)) α} :
    iprop(R.leaving d cs su tb ix k ∗ owing d cs su O W ∗ Transfers.MayWaits (V d cs su) (default : HIx 3) O)
      ⊢ iprop((R.done d cs su tb ix k ∗ R.freeD d cs su k ∗ owing d cs su O W -∗ wp frame (wpE (defs₀ (F := F)) 𝒱₀ (V d cs su) none) Set.univ (kk ⟨⟩) Q)
        -∗ wp frame (wpE (defs₀ (F := F)) 𝒱₀ (V d cs su) none) Set.univ (.op (.waitDma2 sem src dst hs hd) kk) Q) := by
  subst h₂ h₃
  unfold leaving owing
  iintro ⟨Hfl, ⟨%W', %hW, HO⟩, #Hmw⟩ Hk
  iapply (Transfers.wp_waitLocalO countersEmb 𝒱₀ (V d cs su) none (default : HIx 3) (rfl : (R.blk k).view.dmaCredit = _)) $$ [Hfl HO]
  · isplitl [Hfl]; · iexact Hfl
    isplitl [HO]; · iexact HO
    iapply (Transfers.MayWaits.elim (SemLoc.dma (R.semD k))) $$ Hmw
  iintro ⟨⟨Hd, Hs⟩, Hv, HO⟩
  iapply Hk
  isplitl [Hd]; · iexact Hd
  isplitl [Hs Hv]
  · unfold freeD; isplitl [Hs] <;> iassumption
  iexists _; isplitr
  swap; · iexact HO
  ipureintro; intro p hp
  rcases Finset.mem_insert.mp hp with hp | hp
  · exact .inr (hp ▸ rfl)
  · exact hW p hp

/-- The state of the fetch of block `k`: in flight while there is such a block, its slot free after the last. -/
def istate (n k : ℕ) : sProp 𝕄 := if k < n then R.fetching d cs su ix qi k else R.freeI d cs su k
/-- The state of the copy out of the block before `k`: none yet before the first. -/
def ostate (k : ℕ) : sProp 𝕄 := if 0 < k then R.leaving d cs su tb ix (k - 1) else R.freeD d cs su (k + 1)

/-- What the tile holds before trip `k` of its `n`: the fetch of block `k` in flight, the blocks before `k - 1` written
    out, block `k - 1` on its way, the others still to do. -/
def inv (n k : ℕ) : sProp 𝕄 := iprop(Transfers.MayWaits (V d cs su) (default : HIx 3) O
  ∗ R.istate d cs su ix qi n k ∗ R.freeI d cs su (k + 1) ∗ (bigSep (Finset.Ico (k + 1) n) fun j => R.rowPts d cs su ix qi j)
  ∗ R.freeD d cs su k ∗ R.ostate d cs su tb ix k ∗ (bigSep (Finset.range (k - 1)) fun j => R.done d cs su tb ix j)
  ∗ (bigSep (Finset.Ico k n) fun j => R.todo d cs su j) ∗ R.tabPts d cs su tb qt ∗ semVal (V d cs su, .dma R.semG) 0 ∗ owing d cs su O W)

omit [FloatOps F] in
/-- A nonempty run of blocks is its first and the rest. -/
theorem bigSep_Ico (Φ : ℕ → sProp 𝕄) {a b : ℕ} (h : a < b) :
    (bigSep (Finset.Ico a b) Φ) = iprop(Φ a ∗ bigSep (Finset.Ico (a + 1) b) Φ) := by
  rw [← Finset.insert_Ico_add_one_left_eq_Ico h, BI.bigSep_insert (by simp)]; rfl

omit [FloatOps F] in
/-- The blocks up to and including `a` are those before it and it. -/
theorem bigSep_range_succ (Φ : ℕ → sProp 𝕄) (a : ℕ) :
    (bigSep (Finset.range (a + 1)) Φ) = iprop(Φ a ∗ bigSep (Finset.range a) Φ) := by
  rw [Finset.range_add_one, BI.bigSep_insert (by simp)]; rfl

/-- The slot of index rows that is free two trips on is the same one, -/
theorem freeI_two (k : ℕ) : R.freeI d cs su (F := F) (k + 2) = R.freeI d cs su k := by
  unfold freeI; rw [R.slotI_two, R.semI_two]
/-- and so is the block slot. -/
theorem freeD_two (k : ℕ) : R.freeD d cs su (F := F) (k + 2) = R.freeD d cs su k := by
  unfold freeD; rw [R.slotD_two, R.semD_two]

local notation "wpT" => wp frame (wpE (defs₀ (F := F)) 𝒱₀ (V d cs su) none) Set.univ

/-- A sequence runs its first program, then the rest. -/
theorem wp_seq {β γ : Type} (p : Prog (TpuEff nD τ sig (Elt F) Λ₀ (.scVector cs su)) β) (kk : β → Prog (TpuEff nD τ sig (Elt F) Λ₀ (.scVector cs su)) γ)
    (Q : γ → sProp (MT nD τ sig (HIx 3) (Elt F) ℕ UU ℕ)) : (wpT p fun x => wpT (kk x) Q) ⊢ wpT (p >>= kk) Q := by
  exact (congrArg (fun w => w ⊢ wpT (p >>= kk) Q) (Idealize.SL.Sem.wp_bind _ _ _ p kk Q)).mp .rfl

/-- A program that has returned leaves what is held. -/
theorem wp_pure {β : Type} (x : β) (Q : β → sProp (MT nD τ sig (HIx 3) (Elt F) ℕ UU ℕ)) :
    Q x ⊢ wpT (pure x : Prog (TpuEff nD τ sig (Elt F) Λ₀ (.scVector cs su)) β) Q := le_wp_ret _ _ _ _ _

/-- ONE TRIP: a program of the trip's shape, each of whose steps does its part on block `k` (or the blocks beside it),
    takes what the tile holds before trip `k` to what it holds before trip `k + 1`. -/
theorem trip {k n : ℕ} (hk : k < n) {c₃ c₉ : Prop} [Decidable c₃] [Decidable c₉]
    {p₃ : c₃ → Prog (TpuEff nD τ sig (Elt F) Λ₀ (.scVector cs su)) PUnit} {p₄ pe pw p₇ : Prog (TpuEff nD τ sig (Elt F) Λ₀ (.scVector cs su)) PUnit}
    {p₉ : c₉ → Prog (TpuEff nD τ sig (Elt F) Λ₀ (.scVector cs su)) PUnit} {a : α}
    (h₃ : c₃ ↔ k + 1 < n) (h₉ : c₉ ↔ 0 < k)
    (t₃ : ∀ h, iprop(R.rowPts d cs su ix qi (k + 1) ∗ R.freeI d cs su (k + 1)) ⊢ wpT (p₃ h) fun _ => R.fetching d cs su ix qi (k + 1))
    (t₄ : iprop(R.fetching d cs su ix qi k ∗ owing d cs su O W ∗ Transfers.MayWaits (V d cs su) (default : HIx 3) O)
      ⊢ wpT p₄ fun _ => iprop(R.fetched d cs su ix k ∗ owing d cs su O W))
    (tg : iprop(R.tabPts d cs su tb qt ∗ R.fetched d cs su ix k ∗ R.freeD d cs su k ∗ semVal (V d cs su, .dma R.semG) 0
        ∗ owing d cs su O W ∗ Transfers.MayWaits (V d cs su) (default : HIx 3) O)
      ⊢ wpT (pe >>= fun _ => pw) fun _ => iprop(R.tabPts d cs su tb qt ∗ R.freeI d cs su k ∗ R.gathered d cs su tb ix k
        ∗ semVal (V d cs su, .dma R.semG) 0 ∗ owing d cs su O W))
    (t₇ : iprop(R.gathered d cs su tb ix k ∗ R.todo d cs su k) ⊢ wpT p₇ fun _ => R.leaving d cs su tb ix k)
    (t₉ : ∀ h, iprop(R.leaving d cs su tb ix (k - 1) ∗ owing d cs su O W ∗ Transfers.MayWaits (V d cs su) (default : HIx 3) O)
      ⊢ wpT (p₉ h) fun _ => iprop(R.done d cs su tb ix (k - 1) ∗ R.freeD d cs su (k - 1) ∗ owing d cs su O W))
    (hQ : R.inv d cs su tb ix qt qi O W n (k + 1) ⊢ Q a)
    {r : Prog (TpuEff nD τ sig (Elt F) Λ₀ (.scVector cs su)) α}
    (hr : r = p₄ >>= fun _ => pe >>= fun _ => pw >>= fun _ => p₇ >>= fun _ => if h : c₉ then p₉ h >>= fun _ => pure a else pure a) :
    R.inv d cs su tb ix qt qi O W n k ⊢ wpT (if h : c₃ then p₃ h >>= fun _ => r else r) Q := by
  rw [show (if h : c₃ then p₃ h >>= fun _ => r else r) = (if h : c₃ then p₃ h else pure ⟨⟩) >>= fun _ => r by
    split
    · rfl
    · rw [pure_bind], hr,
    show (if h : c₉ then p₉ h >>= fun _ => (pure a : Prog (TpuEff nD τ sig (Elt F) Λ₀ (.scVector cs su)) α) else pure a)
      = (if h : c₉ then p₉ h else pure ⟨⟩) >>= fun _ => pure a by
    split
    · rfl
    · rw [pure_bind]]
  rw [← bind_assoc pe]
  unfold inv
  rw [show R.istate d cs su ix qi n k = R.fetching d cs su ix qi k from if_pos hk, bigSep_Ico _ hk]
  iintro ⟨#Hmw, Hf, HI, Hrows, HD, Ho, Hdone, ⟨Htd, Htodo⟩, Htab, Hg, HO⟩
  -- the fetch of the next block's row
  iapply (wp_seq _ _ _ _)
  iapply (wp_wand_r _ _ _)
  isplitl [HI Hrows]
  · iapply (show iprop(R.freeI d cs su (k + 1) ∗ (bigSep (Finset.Ico (k + 1) n) fun j => R.rowPts d cs su ix qi j))
      ⊢ wpT (if h : c₃ then p₃ h else pure ⟨⟩) fun _ => iprop(R.istate d cs su ix qi n (k + 1)
        ∗ bigSep (Finset.Ico (k + 1 + 1) n) fun j => R.rowPts d cs su ix qi j) from ?_) $$ [HI Hrows]
    swap; · isplitl [HI] <;> iassumption
    by_cases hc : k + 1 < n
    · rw [dif_pos (h₃.mpr hc), bigSep_Ico _ hc, show R.istate d cs su ix qi n (k + 1) = R.fetching d cs su ix qi (k + 1) from if_pos hc]
      iintro ⟨HI, Hr, Hrs⟩
      iapply (wp_wand_r _ _ _)
      isplitl [HI Hr]
      · iapply (t₃ (h₃.mpr hc)); isplitl [Hr] <;> iassumption
      iintro %_ Hf
      isplitl [Hf] <;> iassumption
    · rw [dif_neg (mt h₃.mp hc), show R.istate d cs su ix qi n (k + 1) = R.freeI d cs su (k + 1) from if_neg hc,
        Finset.Ico_eq_empty (by omega), Finset.Ico_eq_empty (by omega)]
      exact wp_pure d cs su _ _
  iintro %_ ⟨HI, Hrows⟩
  -- this block's row has arrived
  iapply (wp_seq _ _ _ _)
  iapply (wp_wand_r _ _ _)
  isplitl [Hf HO]
  · iapply t₄; isplitl [Hf]; · iexact Hf
    isplitl [HO]; · iexact HO
    iexact Hmw
  iintro %_ ⟨Hf, HO⟩
  -- its table rows are gathered
  iapply (wp_seq _ _ _ _)
  iapply (wp_wand_r _ _ _)
  isplitl [Htab Hf HD Hg HO]
  · iapply tg; isplitl [Htab]; · iexact Htab
    isplitl [Hf]; · iexact Hf
    isplitl [HD]; · iexact HD
    isplitl [Hg]; · iexact Hg
    isplitl [HO]; · iexact HO
    iexact Hmw
  iintro %_ ⟨Htab, HI2, HD, Hg, HO⟩
  -- and sent out
  iapply (wp_seq _ _ _ _)
  iapply (wp_wand_r _ _ _)
  isplitl [HD Htd]
  · iapply t₇; isplitl [HD] <;> iassumption
  iintro %_ Hl
  -- the block before it has left
  iapply (wp_seq _ _ _ _)
  iapply (wp_wand_r _ _ _)
  isplitl [Ho HO Hdone]
  · iapply (show iprop(Transfers.MayWaits (V d cs su) (default : HIx 3) O ∗ R.ostate d cs su tb ix k ∗ owing d cs su O W
        ∗ (bigSep (Finset.range (k - 1)) fun j => R.done d cs su tb ix j))
      ⊢ wpT (if h : c₉ then p₉ h else pure ⟨⟩) fun _ => iprop(R.freeD d cs su (k + 1) ∗ owing d cs su O W
        ∗ bigSep (Finset.range k) fun j => R.done d cs su tb ix j) from ?_) $$ [Ho HO Hdone]
    swap
    · isplitr; · iexact Hmw
      isplitl [Ho]; · iexact Ho
      isplitl [HO] <;> iassumption
    by_cases hc : 0 < k
    · rw [dif_pos (h₉.mpr hc), show R.ostate d cs su tb ix k = R.leaving d cs su tb ix (k - 1) from if_pos hc]
      obtain ⟨k, rfl⟩ : ∃ k', k = k' + 1 := ⟨k - 1, by omega⟩
      rw [bigSep_range_succ _ k, R.freeD_two]
      iintro ⟨#Hmw, Hl, HO, Hdone⟩
      iapply (wp_wand_r _ _ _)
      isplitl [Hl HO]
      · iapply (t₉ (h₉.mpr hc)); isplitl [Hl]; · iexact Hl
        isplitl [HO]; · iexact HO
        iexact Hmw
      iintro %_ ⟨Hd, HD, HO⟩
      isplitl [HD]; · iexact HD
      isplitl [HO]; · iexact HO
      isplitl [Hd]; · iexact Hd
      iexact Hdone
    · obtain rfl : k = 0 := by omega
      rw [dif_neg (mt h₉.mp hc), show R.ostate d cs su tb ix 0 = R.freeD d cs su 1 from if_neg hc]
      iintro ⟨-, Hl, HO, Hdone⟩
      iapply (wp_pure d cs su _ _)
      isplitl [Hl]; · iexact Hl
      isplitl [HO]; · iexact HO
      iexact Hdone
  iintro %_ ⟨HD, HO, Hdone⟩
  iapply (wp_pure d cs su _ _)
  iapply hQ
  unfold inv
  isplitr; · iexact Hmw
  isplitl [HI]; · iexact HI
  isplitl [HI2]; · rw [R.freeI_two]; iexact HI2
  isplitl [Hrows]; · iexact Hrows
  isplitl [HD]; · iexact HD
  isplitl [Hl]; · rw [show R.ostate d cs su tb ix (k + 1) = R.leaving d cs su tb ix k from if_pos (Nat.succ_pos k)]; iexact Hl
  isplitl [Hdone]; · iexact Hdone
  isplitl [Htodo]; · iexact Htodo
  isplitl [Htab]; · iexact Htab
  isplitl [Hg]; · iexact Hg
  iexact HO

/-- What a tile's task starts from: both slots of both buffers free, its index rows, its output blocks at anything, its
    share of the table. -/
def pre (n : ℕ) : sProp 𝕄 := iprop(Transfers.MayWaits (V d cs su) (default : HIx 3) O
  ∗ (R.freeI d cs su 0 ∗ R.freeI d cs su 1) ∗ (R.freeD d cs su 0 ∗ R.freeD d cs su 1)
  ∗ (bigSep (Finset.range n) fun j => R.rowPts d cs su ix qi j) ∗ (bigSep (Finset.range n) fun j => R.todo d cs su j)
  ∗ R.tabPts d cs su tb qt ∗ semVal (V d cs su, .dma R.semG) 0 ∗ owing d cs su O W)

/-- What it ends at: the slots free again, its output blocks gathered, its share of the table. -/
def post (n : ℕ) : sProp 𝕄 := iprop((R.freeI d cs su 0 ∗ R.freeI d cs su 1) ∗ (R.freeD d cs su 0 ∗ R.freeD d cs su 1)
  ∗ (bigSep (Finset.range n) fun j => R.done d cs su tb ix j)
  ∗ R.tabPts d cs su tb qt ∗ semVal (V d cs su, .dma R.semG) 0 ∗ owing d cs su O W)

omit [FloatOps F] in
/-- Of two alternating slots, those of blocks `n` and `n + 1` are the two. -/
theorem pair_two (Φ : ℕ → sProp 𝕄) (h : ∀ k, Φ (k + 2) = Φ k) (n : ℕ) : iprop(Φ n ∗ Φ (n + 1)) ⊢ iprop(Φ 0 ∗ Φ 1) := by
  induction n with
  | zero => exact .rfl
  | succ n ih => rw [h]; exact BI.sep_comm.trans ih

/-- The first fetch issued, the tile holds what trip `0` needs. -/
theorem inv_zero {n : ℕ} (hn : 0 < n) :
    iprop(Transfers.MayWaits (V d cs su) (default : HIx 3) O ∗ R.fetching d cs su ix qi 0 ∗ R.freeI d cs su 1
      ∗ (R.freeD d cs su 0 ∗ R.freeD d cs su 1) ∗ (bigSep (Finset.Ico 1 n) fun j => R.rowPts d cs su ix qi j)
      ∗ (bigSep (Finset.range n) fun j => R.todo d cs su j)
      ∗ R.tabPts d cs su tb qt ∗ semVal (V d cs su, .dma R.semG) 0 ∗ owing d cs su O W) ⊢ R.inv d cs su tb ix qt qi O W n 0 := by
  unfold inv
  rw [show R.istate d cs su ix qi n 0 = R.fetching d cs su ix qi 0 from if_pos hn,
    show R.ostate d cs su tb ix 0 = R.freeD d cs su 1 from if_neg (lt_irrefl 0), ← Finset.range_eq_Ico n]
  iintro ⟨Hm, Hf, HI, ⟨H0, H1⟩, Hr, Ht, Htab, Hg, HO⟩
  isplitl [Hm]; · iexact Hm
  isplitl [Hf]; · iexact Hf
  isplitl [HI]; · iexact HI
  isplitl [Hr]; · iexact Hr
  isplitl [H0]; · iexact H0
  isplitl [H1]; · iexact H1
  isplitr; · rw [show Finset.range (0 - 1) = ∅ from rfl, BI.bigSep_empty]; exact .rfl
  isplitl [Ht]; · iexact Ht
  isplitl [Htab]; · iexact Htab
  isplitl [Hg]; · iexact Hg
  iexact HO

/-- After the last trip, and the last copy's wait, the tile holds what its task ends at. -/
theorem inv_last {n : ℕ} (hn : 0 < n) {p : Prog (TpuEff nD τ sig (Elt F) Λ₀ (.scVector cs su)) PUnit}
    (t : iprop(R.leaving d cs su tb ix (n - 1) ∗ owing d cs su O W ∗ Transfers.MayWaits (V d cs su) (default : HIx 3) O)
      ⊢ wpT p fun _ => iprop(R.done d cs su tb ix (n - 1) ∗ R.freeD d cs su (n - 1) ∗ owing d cs su O W)) :
    R.inv d cs su tb ix qt qi O W n n ⊢ wpT p fun _ => R.post d cs su tb ix qt O W n := by
  obtain ⟨n, rfl⟩ : ∃ n', n = n' + 1 := ⟨n - 1, by omega⟩
  unfold inv
  rw [show R.istate d cs su ix qi (n + 1) (n + 1) = R.freeI d cs su (n + 1) from if_neg (lt_irrefl _),
    show R.ostate d cs su tb ix (n + 1) = R.leaving d cs su tb ix n from if_pos (Nat.succ_pos n)]
  iintro ⟨#Hmw, HI, HI', -, HD, Hl, Hdone, -, Htab, Hg, HO⟩
  iapply (wp_wand_r _ _ _)
  isplitl [Hl HO]
  · iapply t; isplitl [Hl]; · iexact Hl
    isplitl [HO]; · iexact HO
    iexact Hmw
  iintro %_ ⟨Hd, HD', HO⟩
  unfold post
  isplitl [HI HI']
  · iapply (pair_two (fun k => R.freeI d cs su (F := F) k) (R.freeI_two d cs su) (n + 1)); isplitl [HI]; · iexact HI
    iexact HI'
  isplitl [HD HD']
  · iapply (pair_two (fun k => R.freeD d cs su (F := F) k) (R.freeD_two d cs su) n); isplitl [HD']; · iexact HD'
    iexact HD
  isplitl [Hd Hdone]
  · rw [bigSep_range_succ _ n]; isplitl [Hd]; · iexact Hd
    iexact Hdone
  isplitl [Htab]; · iexact Htab
  isplitl [Hg]; · iexact Hg
  iexact HO

/-- A step whose continuation does nothing, as a triple. -/
theorem of_step {A B C : sProp (MT nD τ sig (HIx 3) (Elt F) ℕ UU ℕ)}
    (h : A ⊢ iprop((B -∗ wpT (pure ⟨⟩ : Prog (TpuEff nD τ sig (Elt F) Λ₀ (.scVector cs su)) PUnit) fun _ => B) -∗ C)) : A ⊢ C := by
  iintro HA
  iapply h $$ HA
  iintro HB
  iapply (wp_pure d cs su (⟨⟩ : PUnit) (fun _ => B))
  iexact HB

omit [FloatOps F] in
/-- A branch's continuation may be moved into its arms. -/
theorem dite_seq {β γ : Type} {c : Prop} [Decidable c] (t : c → Prog (TpuEff nD τ sig (Elt F) Λ₀ (.scVector cs su)) β)
    (e : ¬ c → Prog (TpuEff nD τ sig (Elt F) Λ₀ (.scVector cs su)) β) (kk : β → Prog (TpuEff nD τ sig (Elt F) Λ₀ (.scVector cs su)) γ) :
    (if h : c then t h else e h) >>= kk = if h : c then t h >>= kk else e h >>= kk := by split <;> rfl

end Steps

end Ring

end Cert.Proof.Bert
-- ==== Proof.Slots.lean ====
/-
  One tile's task of the gather over `n` index rows, over the memory references a program text slices: the ring it runs,
  one trip of its loop, and the whole task, from the closed forms of the offsets the text computes. Each of the two
  program texts of the gather is then these lemmas at its own offsets.
-/
module

public import proofs.«01_k».proof.Proof.Ring

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Call

/-! ## A tile's blocks -/

/-- The tile's number. -/
def wid (a : Fin 2) (b : Fin 16) : ℕ := 16 * a.val + b.val
/-- How many blocks it has: `c + 1` if it is one of the first `t`, else `c`. -/
def num (t c : ℕ) (a : Fin 2) (b : Fin 16) : ℕ := if wid a b < t then c + 1 else c
/-- Its first block. -/
def start (t c : ℕ) (a : Fin 2) (b : Fin 16) : ℕ := if wid a b < t then wid a b * (c + 1) else wid a b * c + t

/-- A tile has at most one block more than the common count. -/
theorem num_le (t c : ℕ) (a : Fin 2) (b : Fin 16) : num t c a b ≤ c + 1 := by unfold num; split <;> omega
/-- A tile has a block when the common count is positive. -/
theorem num_pos (t : ℕ) {c : ℕ} (hc : 0 < c) (a : Fin 2) (b : Fin 16) : 0 < num t c a b := by unfold num; split <;> omega

/-! ## The words a task computes -/

/-- The loop's carried words before trip `k` of `m`. -/
def acc (m k : ℕ) : BitVec 32 × BitVec 32 × BitVec 32 × BitVec 32 × BitVec 32 :=
  (BitVec.ofNat 32 (min (k + 1) m), BitVec.ofNat 32 k, BitVec.ofNat 32 k, BitVec.ofNat 32 (k - 1), if k = m then 0#32 else BitVec.ofNat 32 k)

/-- The carried words before a trip that is run. -/
theorem acc_lt {m k : ℕ} (h : k < m) :
    acc m k = (BitVec.ofNat 32 (min (k + 1) m), BitVec.ofNat 32 k, BitVec.ofNat 32 k, BitVec.ofNat 32 (k - 1), BitVec.ofNat 32 k) := by
  unfold acc; rw [if_neg h.ne]

/-- The carried words after trip `k` of `m`, as the trip of a tile whose first block is `s` computes them from those before it. -/
abbrev next (m s k : ℕ) : BitVec 32 × BitVec 32 × BitVec 32 × BitVec 32 × BitVec 32 :=
  let K := BitVec.ofNat 32 k
  let N := BitVec.ofNat 32 m
  let St := BitVec.ofNat 32 s
  let M := BitVec.ofNat 32 (min (k + 1) m)
  let P := BitVec.ofNat 32 (k - 1)
  let nx := Scalar.select (Scalar.cmpi .eq (Scalar.select 1#1 (Scalar.addi K 1#32) K) N) 0#32 (Scalar.select 1#1 (Scalar.addi K 1#32) K)
  let pv := Scalar.select (Scalar.cmpi .eq (Scalar.select 1#1 (Scalar.subi K 1#32) K) 4294967295#32) (Scalar.subi N 1#32)
    (Scalar.select 1#1 (Scalar.subi K 1#32) K)
  let A := Scalar.cmpi .ne (Scalar.addi K St) (Scalar.addi nx St)
  let iv := Scf.iv 0#32 1#32 k
  (Scalar.select (Scalar.andi (Scalar.andi A (Scalar.xori (Scalar.cmpi .sge iv (Scalar.addi (Scalar.subi (Scalar.muli 1#32 N) 2#32) 1#32)) 1#1)) 1#1)
      (Scalar.addi M 1#32) M,
    Scalar.select (Scalar.ori A (Scalar.cmpi .eq iv (Scalar.subi (Scalar.muli 1#32 N) 1#32))) (Scalar.addi K 1#32) K,
    Scalar.select (Scalar.andi (Scalar.ori A (Scalar.cmpi .eq iv (Scalar.subi (Scalar.muli 1#32 N) 1#32))) 1#1) (Scalar.addi K 1#32) K,
    Scalar.select (Scalar.andi (Scalar.andi (Scalar.cmpi .ne (Scalar.addi K St) (Scalar.addi pv St)) (Scalar.xori (Scalar.cmpi .eq iv 0#32) 1#1)) 1#1)
      (Scalar.addi P 1#32) P,
    nx)

/-- What a text computes of tile `(a, b)`, from the words `t`, `hi` and `lo` it divides the blocks by: its number of
    blocks, its first block, and the first carried words. -/
abbrev Words (t hi lo : BitVec 32) (m s : ℕ) (a b : ℕ) : Prop :=
  let v := Scalar.addi (Scalar.addi 0#32 (Scalar.muli (BitVec.ofNat 32 b) 1#32)) (Scalar.muli (BitVec.ofNat 32 a) 16#32)
  Scalar.select (Scalar.cmpi .slt v t) hi lo = BitVec.ofNat 32 m
  ∧ Scalar.select (Scalar.cmpi .slt v t) (Scalar.muli v (BitVec.ofNat 32 m)) (Scalar.addi (Scalar.muli v lo) t) = BitVec.ofNat 32 s
  ∧ (Scalar.select (Scalar.andi 1#1 (Scalar.cmpi .sgt (Scalar.muli 1#32 (BitVec.ofNat 32 m)) 0#32)) (Scalar.addi 0#32 1#32) 0#32,
      0#32, 0#32, 0#32, 0#32) = acc m 0

/-- The offsets of trip `k` of `m`, of a tile whose first block is `s` among `n`: of the next block's fetch (`i` its slot,
    `r` its row, `e` its semaphore), of this block's (`i'`, `e'`), of its gather (`g`, `l`), of its copy out (`u`, `w`, `x`),
    and of the copy before it (`w'`, `x'`). -/
abbrev Offs (n s m k : ℕ) (i : Fin 3 → ℕ) (r : Fin 2 → ℕ) (e : Fin 1 → ℕ) (i' : Fin 3 → ℕ) (e' : Fin 1 → ℕ) (g l u : Fin 3 → ℕ)
    (w : Fin 2 → ℕ) (x : Fin 1 → ℕ) (w' : Fin 2 → ℕ) (x' : Fin 1 → ℕ) : Prop :=
  (k + 1 < m → i = ![(k + 1) % 2, 0, 0] ∧ r = ![min (s + (k + 1)) (n - 1), 0] ∧ e = ![(k + 1) % 2])
  ∧ (i' = ![k % 2, 0, 0] ∧ e' = ![k % 2])
  ∧ (g = ![k % 2, 0, 0] ∧ l = ![k % 2, 0, 0])
  ∧ (u = ![k % 2, 0, 0] ∧ w = ![128 * min (s + k) (n - 1), 0] ∧ x = ![k % 2])
  ∧ (0 < k → w' = ![128 * min (s + (k - 1)) (n - 1), 0] ∧ x' = ![(k - 1) % 2])

/-! ## The memory references a task slices -/

/-- The slot of parity `k` lies inside the buffer of index rows. -/
theorem inb3 (k : ℕ) : ∀ x, (![k % 2, 0, 0] : Fin 3 → ℕ) x + S1x1x128.size x ≤ S2x1x128.size x := by
  have := Nat.mod_lt k (show 2 > 0 by decide)
  intro x; fin_cases x <;> simp <;> omega
/-- The slot of parity `k` lies inside the buffer of blocks. -/
theorem inb3' (k : ℕ) : ∀ x, (![k % 2, 0, 0] : Fin 3 → ℕ) x + S1x128x128.size x ≤ S2x128x128.size x := by
  have := Nat.mod_lt k (show 2 > 0 by decide)
  intro x; fin_cases x <;> simp <;> omega
/-- The semaphore of parity `k` lies inside its pair. -/
theorem inb1 (k : ℕ) : ∀ x, (![k % 2] : Fin 1 → ℕ) x + S1.size x ≤ S2.size x := by
  have := Nat.mod_lt k (show 2 > 0 by decide)
  intro x; fin_cases x; simp; omega

section Slots
variable (al : Memref sig .scVector .vmem S2x1x128 .i32) (v12 : DmaSems sig S2) (al4 : Memref sig .scVector .vmem S2x128x128 .f32)

/-- The slot of the two index slots at an offset, -/
abbrev slotI (o : Fin 3 → ℕ) (h : ∀ x, o x + S1x1x128.size x ≤ S2x1x128.size x) : Memref sig .scVector .vmem S1x128 .i32 :=
  (al.slice (Rect.unit (s := S2x1x128) o S1x1x128.size h) (fun _ => rfl)).squeeze S1x128 squeezes_S1x1x128_S1x128
/-- that of the two block slots, -/
abbrev slotD (o : Fin 3 → ℕ) (h : ∀ x, o x + S1x128x128.size x ≤ S2x128x128.size x) : Memref sig .scVector .vmem S128x128 .f32 :=
  (al4.slice (Rect.unit (s := S2x128x128) o S1x128x128.size h) (fun _ => rfl)).squeeze S128x128 squeezes_S1x128x128_S128x128
/-- and that of a pair of semaphores. -/
abbrev semAt (o : Fin 1 → ℕ) (h : ∀ x, o x + S1.size x ≤ S2.size x) : DmaSem sig :=
  ((v12.slice (Rect.unit (s := S2) o S1.size h)).squeeze S_ squeezes_S1_S_).sem

variable {al v12 al4} in
/-- A slot is its offset's. -/
theorem slotI_congr {o o' : Fin 3 → ℕ} (e : o = o') (h h') : slotI al o h = slotI al o' h' := by subst e; rfl
variable {al v12 al4} in
/-- Equal offsets give equal block slots. -/
theorem slotD_congr {o o' : Fin 3 → ℕ} (e : o = o') (h h') : slotD al4 o h = slotD al4 o' h' := by subst e; rfl
variable {al v12 al4} in
/-- Equal offsets give equal semaphores. -/
theorem sem_congr {o o' : Fin 1 → ℕ} (e : o = o') (h h') : semAt v12 o h = semAt v12 o' h' := by subst e; rfl

/-- A slot's rows are credited, together, what the slot is. -/
def CreditAt (k : ℕ) : Prop := ∑ j, ((slotD al4 ![k % 2, 0, 0] (inb3' k)).slice (S128x128.rowRect (gathers_S100000x128_S128x128).axis' j)
    (S128x128.stride_rowRect (gathers_S100000x128_S128x128).axis' j)).view.dmaCredit
  = (slotD al4 ![k % 2, 0, 0] (inb3' k)).view.dmaCredit

/-- Every slot is so credited. -/
def Credits : Prop := ∀ k, CreditAt al4 k

variable {al4} in
/-- All slots are credited alike. -/
theorem credits_of (h : CreditAt al4 0) : Credits al4 := fun _ => h

/-- The semaphores a task waits on: a pair for the fetches, a pair for the copies out, one for the gathers. -/
abbrev sems (v12 v13 : DmaSems sig S2) (r1 : DmaSems sig S_) : List (SemLoc sig) :=
  [.dma (semAt v12 ![0] (inb1 0)), .dma (semAt v12 ![1] (inb1 1)), .dma (semAt v13 ![0] (inb1 0)), .dma (semAt v13 ![1] (inb1 1)), .dma r1.sem]

end Slots

section Refs
variable {n N : ℕ} (hn : 0 < n) (hN : N = 128 * n) (arg2 : Memref sig .scVector .hbm S100000x128 .f32)
  (arg3 : Memref sig .scVector .hbm ⟨2, ![n, 128]⟩ .i32) (arg4 : Memref sig .scVector .hbm ⟨2, ![N, 128]⟩ .f32)

/-- The table, as a task addresses it. -/
abbrev tab : Memref sig .scVector .hbm S100000x128 .f32 :=
  arg2.slice (Rect.unit (s := S100000x128) ![0, 0] S100000x128.size inb_S100000x128_S100000x128_0_0) (fun _ => rfl)

include hn in
/-- The row a tile names lies inside the index rows. -/
theorem inbR (r : ℕ) : ∀ x, (![min r (n - 1), 0] : Fin 2 → ℕ) x + S1x128.size x ≤ (⟨2, ![n, 128]⟩ : Shape).size x := by
  intro x; fin_cases x <;> simp; omega
include hn hN in
/-- The block a tile names lies inside the output. -/
theorem inbB (r : ℕ) : ∀ x, (![128 * min r (n - 1), 0] : Fin 2 → ℕ) x + S128x128.size x ≤ (⟨2, ![N, 128]⟩ : Shape).size x := by
  intro x; fin_cases x <;> simp; omega

/-- The index row at an offset, -/
abbrev rowAt (o : Fin 2 → ℕ) (h : ∀ x, o x + S1x128.size x ≤ (⟨2, ![n, 128]⟩ : Shape).size x) : Memref sig .scVector .hbm S1x128 .i32 :=
  arg3.slice (Rect.unit (s := ⟨2, ![n, 128]⟩) o S1x128.size h) (fun _ => rfl)
/-- and the block of the output at one. -/
abbrev blkAt (o : Fin 2 → ℕ) (h : ∀ x, o x + S128x128.size x ≤ (⟨2, ![N, 128]⟩ : Shape).size x) : Memref sig .scVector .hbm S128x128 .f32 :=
  arg4.slice (Rect.unit (s := ⟨2, ![N, 128]⟩) o S128x128.size h) (fun _ => rfl)

/-- Index row `r`. -/
abbrev row (r : ℕ) : Memref sig .scVector .hbm S1x128 .i32 :=
  arg3.slice (Rect.unit (s := ⟨2, ![n, 128]⟩) ![min r (n - 1), 0] S1x128.size (inbR hn r)) (fun _ => rfl)
/-- Block `r` of the output. -/
abbrev blk (r : ℕ) : Memref sig .scVector .hbm S128x128 .f32 :=
  arg4.slice (Rect.unit (s := ⟨2, ![N, 128]⟩) ![128 * min r (n - 1), 0] S128x128.size (inbB hn hN r)) (fun _ => rfl)

variable (s : ℕ) (al : Memref sig .scVector .vmem S2x1x128 .i32) (v12 : DmaSems sig S2)
  (al4 : Memref sig .scVector .vmem S2x128x128 .f32) (v13 : DmaSems sig S2) (r1 : DmaSems sig S_) (hc : Credits al4)

/-- The ring of the tile whose first block is `s`. -/
def ring : Ring where
  tab := tab arg2
  row k := row hn arg3 (s + k)
  blk k := blk hn hN arg4 (s + k)
  slotI k := slotI al ![k % 2, 0, 0] (inb3 k)
  slotD k := slotD al4 ![k % 2, 0, 0] (inb3' k)
  semI k := semAt v12 ![k % 2] (inb1 k)
  semD k := semAt v13 ![k % 2] (inb1 k)
  semG := r1.sem
  slotI_two k := slotI_congr (by rw [Nat.add_mod_right]) _ _
  slotD_two k := slotD_congr (by rw [Nat.add_mod_right]) _ _
  semI_two k := sem_congr (by rw [Nat.add_mod_right]) _ _
  semD_two k := sem_congr (by rw [Nat.add_mod_right]) _ _
  credit := hc

/-! ## A trip and the task -/

variable (R : Ring) (eR : R = ring hn hN arg2 arg3 arg4 s al v12 al4 v13 r1 hc) (d : Dev nD) (cs : Fin τ.nSC) (su : Fin τ.nSub)
include eR

/-! What the text slices at the ring's offsets are the ring's memory references. -/

variable {R s al v12 al4 v13}

/-- At the offset of row `s + k`, the index row is the ring's row `k`. -/
theorem at_row (k : ℕ) {o : Fin 2 → ℕ} (e : o = ![min (s + k) (n - 1), 0]) {h} :
    rowAt arg3 o h = R.row k := by
  rw [eR]; exact Memref.slice_unit_congr _ e _ _ (fun _ => rfl) (fun _ => rfl)
/-- At the offset of block `s + k`, the block is the ring's block `k`. -/
theorem at_blk (k : ℕ) {o : Fin 2 → ℕ} (e : o = ![128 * min (s + k) (n - 1), 0]) {h} :
    blkAt arg4 o h = R.blk k := by
  rw [eR]; exact Memref.slice_unit_congr _ e _ _ (fun _ => rfl) (fun _ => rfl)
/-- At the parity of `k`, the slot of index rows is the ring's slot `k`. -/
theorem at_slotI (k : ℕ) {o : Fin 3 → ℕ} (e : o = ![k % 2, 0, 0]) {h} : slotI al o h = R.slotI k := by rw [eR]; exact slotI_congr e _ _
/-- At the parity of `k`, the block slot is the ring's slot `k`. -/
theorem at_slotD (k : ℕ) {o : Fin 3 → ℕ} (e : o = ![k % 2, 0, 0]) {h} : slotD al4 o h = R.slotD k := by rw [eR]; exact slotD_congr e _ _
/-- At the parity of `k`, the fetch semaphore is the ring's. -/
theorem at_semI (k : ℕ) {o : Fin 1 → ℕ} (e : o = ![k % 2]) {h} : semAt v12 o h = R.semI k := by rw [eR]; exact sem_congr e _ _
/-- At the parity of `k`, the copy-out semaphore is the ring's. -/
theorem at_semD (k : ℕ) {o : Fin 1 → ℕ} (e : o = ![k % 2]) {h} : semAt v13 o h = R.semD k := by rw [eR]; exact sem_congr e _ _

variable (R)
local notation "wpT" => wp frame (wpE (defs₀ (F := F)) 𝒱₀ (V d cs su) none) Set.univ

variable (tb : Buf (Elt F) (View.loc (V d cs su) R.tab.view)) (ix : ∀ k, Buf (Elt F) (View.loc (V d cs su) (R.row k).view))
  (qt qi : PosShare TreeShare) (O : CellTallies nD τ sig (HIx 3)) (W : Waits sig (HIx 3))

/-- One trip, as a text writes it: what the tile holds before trip `k` becomes what it holds after, whatever the text's
    offsets are, if they are the trip's. -/
theorem trip {α : Type} {m k : ℕ} (hk : k < m) (hin : R.InRange d cs su ix k) {c₃ c₉ : Prop} [Decidable c₃] [Decidable c₉]
    (h₃ : c₃ ↔ k + 1 < m) (h₉ : c₉ ↔ 0 < k)
    {i i' g l u : Fin 3 → ℕ} {r w w' : Fin 2 → ℕ} {e e' x x' : Fin 1 → ℕ} (ho : Offs n s m k i r e i' e' g l u w x w' x')
    {bi : c₃ → ∀ x, i x + S1x1x128.size x ≤ S2x1x128.size x} {br : c₃ → ∀ x, r x + S1x128.size x ≤ (⟨2, ![n, 128]⟩ : Shape).size x}
    {be : c₃ → ∀ x, e x + S1.size x ≤ S2.size x} {bi' : ∀ x, i' x + S1x1x128.size x ≤ S2x1x128.size x} {be' : ∀ x, e' x + S1.size x ≤ S2.size x}
    {bg bg' : ∀ x, g x + S1x128x128.size x ≤ S2x128x128.size x} {bl : ∀ x, l x + S1x1x128.size x ≤ S2x1x128.size x}
    {bu : ∀ x, u x + S1x128x128.size x ≤ S2x128x128.size x} {bw : ∀ x, w x + S128x128.size x ≤ (⟨2, ![N, 128]⟩ : Shape).size x}
    {bx : ∀ y, x y + S1.size y ≤ S2.size y} {bw' : c₉ → ∀ x, w' x + S128x128.size x ≤ (⟨2, ![N, 128]⟩ : Shape).size x}
    {bx' : c₉ → ∀ y, x' y + S1.size y ≤ S2.size y}
    {p₃ : c₃ → Prog (TpuEff nD τ sig (Elt F) Λ₀ (.scVector cs su)) PUnit} {p₄ pg pw p₇ : Prog (TpuEff nD τ sig (Elt F) Λ₀ (.scVector cs su)) PUnit}
    {p₉ : c₉ → Prog (TpuEff nD τ sig (Elt F) Λ₀ (.scVector cs su)) PUnit}
    {src₄ : Memref sig .scVector .hbm S1x128 .i32} {src₉ : c₉ → Memref sig .scVector .vmem S128x128 .f32}
    {srcw : Memref sig .scVector .hbm S100000x128 .f32}
    {hs₃ : ∀ h, (rowAt arg3 r (br h)).view.WordExact} {hd₃ : ∀ h, (slotI al i (bi h)).view.WordExact}
    {ht₃ : ∀ h, (DmaTarget.here (slotI al i (bi h)) : DmaTarget nD τ sig (.scVector cs su) .vmem S1x128 .i32).Typed .hbm (.dma (semAt v12 e (be h)))}
    {hs₄ : src₄.view.WordExact} {hd₄ : (slotI al i' bi').view.WordExact} {hp : (V d cs su : Thread nD τ).2.kind = .scVector}
    {hl : S128.numel = S128x128.size (gathers_S100000x128_S128x128).axis'} {hsg : R.tab.view.WordExact} {h32 : EltTy.f32.bits = 32}
    {hsp : Space.hbm = .hbm ∨ Space.hbm = .shared} {hst : S100000x128.StreamRows 0} {hsw : srcw.view.WordExact} {hdw : (slotD al4 g bg').view.WordExact}
    {hs₇ : (slotD al4 u bu).view.WordExact} {hd₇ : (blkAt arg4 w bw).view.WordExact}
    {ht₇ : (DmaTarget.here (blkAt arg4 w bw) : DmaTarget nD τ sig (.scVector cs su) .hbm S128x128 .f32).Typed .vmem (.dma (semAt v13 x bx))}
    {hs₉ : ∀ h, (src₉ h).view.WordExact} {hd₉ : ∀ h, (blkAt arg4 w' (bw' h)).view.WordExact}
    (e₃ : ∀ h, p₃ h = Prog.lift (.enqueueDma (rowAt arg3 r (br h))
      (.here (slotI al i (bi h))) (.dma (semAt v12 e (be h))) (hs₃ h) (hd₃ h) (ht₃ h)))
    (e₄ : p₄ = Prog.lift (.waitDma2 (semAt v12 e' be') src₄ (slotI al i' bi') hs₄ hd₄))
    (eg : pg = (SparseCore.enqueueIndirectGather hp R.tab (slotD al4 g bg) gathers_S100000x128_S128x128
      (((slotI al l bl).slice (Rect.unit (s := S1x128) ![0, 0] S1x128.size inb_S1x128_S1x128_0_0) (fun _ => rfl)).squeeze S128 squeezes_S1x128_S128)
      hl R.semG hsg h32 hsp hst : Prog (TpuEff nD τ sig (Elt F) Λ₀ (.scVector cs su)) PUnit))
    (ew : pw = (SparseCore.waitIndirectGather R.semG srcw (slotD al4 g bg') hsw hdw : Prog (TpuEff nD τ sig (Elt F) Λ₀ (.scVector cs su)) PUnit))
    (e₇ : p₇ = Prog.lift (.enqueueDma (slotD al4 u bu) (.here (blkAt arg4 w bw))
      (.dma (semAt v13 x bx)) hs₇ hd₇ ht₇))
    (e₉ : ∀ h, p₉ h = Prog.lift (.waitDma2 (semAt v13 x' (bx' h)) (src₉ h)
      (blkAt arg4 w' (bw' h)) (hs₉ h) (hd₉ h)))
    {a : α} {Q : α → sProp (MT nD τ sig (HIx 3) (Elt F) ℕ UU ℕ)} (hQ : R.inv d cs su tb ix qt qi O W m (k + 1) ⊢ Q a)
    {q : Prog (TpuEff nD τ sig (Elt F) Λ₀ (.scVector cs su)) α}
    (hq : q = p₄ >>= fun _ => pg >>= fun _ => pw >>= fun _ => p₇ >>= fun _ => if h : c₉ then p₉ h >>= fun _ => pure a else pure a) :
    R.inv d cs su tb ix qt qi O W m k ⊢ wpT (if h : c₃ then p₃ h >>= fun _ => q else q) Q := by
  obtain ⟨o₃, ⟨oi, oe⟩, ⟨og, ol⟩, ⟨ou, ow, ox⟩, o₉⟩ := ho
  obtain rfl : p₃ = _ := funext e₃
  obtain rfl : p₉ = _ := funext e₉
  subst e₄ eg ew e₇
  refine Ring.trip R d cs su tb ix qt qi O W hk h₃ h₉ (fun h => ?_) ?_ ?_ ?_ (fun h => ?_) hQ hq
  · obtain ⟨oi, or, oe⟩ := o₃ (h₃.mp h)
    exact Ring.of_step d cs su (Ring.step_fetch R d cs su ix qi (k + 1) (at_row hn hN arg2 arg3 arg4 r1 hc eR _ or)
      (at_slotI hn hN arg2 arg3 arg4 r1 hc eR _ oi) (at_semI hn hN arg2 arg3 arg4 r1 hc eR _ oe))
  · exact Ring.of_step d cs su (Ring.step_fetched R d cs su ix qi O W k (at_slotI hn hN arg2 arg3 arg4 r1 hc eR _ oi) (at_semI hn hN arg2 arg3 arg4 r1 hc eR _ oe))
  · exact Ring.of_step d cs su (Ring.step_gather R d cs su tb ix qt O W k hin rfl (at_slotD hn hN arg2 arg3 arg4 r1 hc eR _ og) (at_slotD hn hN arg2 arg3 arg4 r1 hc eR _ og)
      (congrArg (fun m : Memref sig .scVector .vmem S1x128 .i32 =>
        (m.slice (Rect.unit (s := S1x128) ![0, 0] S1x128.size inb_S1x128_S1x128_0_0) (fun _ => rfl)).squeeze S128 squeezes_S1x128_S128)
        (at_slotI hn hN arg2 arg3 arg4 r1 hc eR _ ol)))
  · exact Ring.of_step d cs su (Ring.step_issue R d cs su tb ix k (at_slotD hn hN arg2 arg3 arg4 r1 hc eR _ ou)
      (at_blk hn hN arg2 arg3 arg4 r1 hc eR _ ow) (at_semD hn hN arg2 arg3 arg4 r1 hc eR _ ox))
  · obtain ⟨ow, ox⟩ := o₉ (h₉.mp h)
    exact Ring.of_step d cs su (Ring.step_left R d cs su tb ix O W (k - 1) (at_blk hn hN arg2 arg3 arg4 r1 hc eR _ ow)
      (at_semD hn hN arg2 arg3 arg4 r1 hc eR _ ox))

/-- The wait for the last block's copy, after the last trip, ends the task. -/
theorem last {m : ℕ} (hm : 0 < m) {w : Fin 2 → ℕ} {x : Fin 1 → ℕ} (ow : w = ![128 * min (s + (m - 1)) (n - 1), 0]) (ox : x = ![(m - 1) % 2])
    {bw : ∀ x, w x + S128x128.size x ≤ (⟨2, ![N, 128]⟩ : Shape).size x} {bx : ∀ y, x y + S1.size y ≤ S2.size y}
    {src : Memref sig .scVector .vmem S128x128 .f32} {hs : src.view.WordExact} {hd : (blkAt arg4 w bw).view.WordExact} :
    R.inv d cs su tb ix qt qi O W m m
      ⊢ wpT ((Prog.lift (.waitDma2 (semAt v13 x bx) src (blkAt arg4 w bw) hs hd) : Prog (TpuEff nD τ sig (Elt F) Λ₀ (.scVector cs su)) PUnit)
        >>= fun _ => (pure ⟨⟩ : Prog (TpuEff nD τ sig (Elt F) Λ₀ (.scVector cs su)) PUnit)) fun _ => R.post d cs su tb ix qt O W m :=
  Ring.inv_last R d cs su tb ix qt qi O W hm (Ring.of_step d cs su (Ring.step_left R d cs su tb ix O W (m - 1)
    (at_blk hn hN arg2 arg3 arg4 r1 hc eR _ ow) (at_semD hn hN arg2 arg3 arg4 r1 hc eR _ ox)))

/-- THE TASK, as a text writes it: the first block's fetch, a loop of `m` trips, a loop of none, and an end. -/
theorem task {m : ℕ} (hm : 0 < m) {i : Fin 3 → ℕ} {r : Fin 2 → ℕ} {e : Fin 1 → ℕ} (oi : i = ![0, 0, 0]) (or : r = ![min (s + 0) (n - 1), 0]) (oe : e = ![0])
    {bi : ∀ x, i x + S1x1x128.size x ≤ S2x1x128.size x} {br : ∀ x, r x + S1x128.size x ≤ (⟨2, ![n, 128]⟩ : Shape).size x}
    {be : ∀ x, e x + S1.size x ≤ S2.size x} {hs : (rowAt arg3 r br).view.WordExact} {hd : (slotI al i bi).view.WordExact}
    {ht : (DmaTarget.here (slotI al i bi) : DmaTarget nD τ sig (.scVector cs su) .vmem S1x128 .i32).Typed .hbm (.dma (semAt v12 e be))}
    {L L' : Scf.Loop 32} (hL : L.trips = m) (hL' : L'.trips = 0) {ok : L.OK} {ok' : L'.OK}
    {body : Fin L.trips → BitVec 32 × BitVec 32 × BitVec 32 × BitVec 32 × BitVec 32
      → Prog (TpuEff nD τ sig (Elt F) Λ₀ (.scVector cs su)) (BitVec 32 × BitVec 32 × BitVec 32 × BitVec 32 × BitVec 32)}
    {body' : Fin L'.trips → BitVec 32 × BitVec 32 × BitVec 32 × BitVec 32 × BitVec 32
      → Prog (TpuEff nD τ sig (Elt F) Λ₀ (.scVector cs su)) (BitVec 32 × BitVec 32 × BitVec 32 × BitVec 32 × BitVec 32)}
    {tail : BitVec 32 × BitVec 32 × BitVec 32 × BitVec 32 × BitVec 32 → Prog (TpuEff nD τ sig (Elt F) Λ₀ (.scVector cs su)) PUnit}
    (hbody : ∀ k : Fin L.trips, R.inv d cs su tb ix qt qi O W m k.val
      ⊢ wpT (body k (acc m k.val)) fun ac => iprop(⌜ac = acc m (k.val + 1)⌝ ∗ R.inv d cs su tb ix qt qi O W m (k.val + 1)))
    (htail : ∀ A : BitVec 32 × BitVec 32 × BitVec 32 × BitVec 32 × BitVec 32, A.2.2.2.1 = BitVec.ofNat 32 (m - 1) → A.2.2.2.2 = 0#32 →
      R.inv d cs su tb ix qt qi O W m m ⊢ wpT (tail A) fun _ => R.post d cs su tb ix qt O W m) :
    R.pre d cs su tb ix qt qi O W m
      ⊢ wpT ((Prog.lift (.enqueueDma (rowAt arg3 r br) (.here (slotI al i bi))
          (.dma (semAt v12 e be)) hs hd ht) : Prog (TpuEff nD τ sig (Elt F) Λ₀ (.scVector cs su)) PUnit) >>= fun _ => L.for ok (acc m 0) body >>= fun A => L'.for ok' A body' >>= tail)
        fun _ => R.post d cs su tb ix qt O W m := by
  unfold Ring.pre
  rw [Finset.range_eq_Ico, Ring.bigSep_Ico (fun j => R.rowPts d cs su ix qi j) hm, ← Finset.range_eq_Ico]
  iintro ⟨#Hmw, ⟨HI0, HI1⟩, HD, ⟨Hr, Hrows⟩, Htodo, Htab, Hg, HO⟩
  -- the first fetch
  iapply (Ring.step_fetch R d cs su ix qi 0
    (at_row hn hN arg2 arg3 arg4 r1 hc eR _ or) (at_slotI hn hN arg2 arg3 arg4 r1 hc eR _ oi) (at_semI hn hN arg2 arg3 arg4 r1 hc eR _ oe)) $$ [Hr HI0]
  · isplitl [Hr]; · iexact Hr
    iexact HI0
  iintro Hf
  -- the trips
  iapply (Scf.wp_for_bind frame _ Set.univ _ _ _ _ _ _
    (fun k ac => iprop(⌜ac = acc m k⌝ ∗ R.inv d cs su tb ix qt qi O W m k)) ?_) $$ [Hf HI1 HD Hrows Htodo Htab Hg HO]
  · intro k ac
    iintro ⟨%hac, H⟩
    subst hac
    iapply (hbody k)
    iexact H
  · isplitr; · ipureintro; rfl
    iapply (R.inv_zero d cs su tb ix qt qi O W hm)
    isplitr; · iexact Hmw
    isplitl [Hf]; · iexact Hf
    isplitl [HI1]; · iexact HI1
    isplitl [HD]; · iexact HD
    isplitl [Hrows]; · iexact Hrows
    isplitl [Htodo]; · iexact Htodo
    isplitl [Htab]; · iexact Htab
    isplitl [Hg]; · iexact Hg
    iexact HO
  iintro %ac ⟨%hac, H⟩
  obtain rfl := hac.trans (congrArg (acc m) hL)
  rw [show Scf.trips L.lb L.ub L.st = m from hL]
  -- no trips more
  iapply (Scf.wp_for_bind frame _ Set.univ _ _ _ _ _ _
    (fun _ ac => iprop(⌜ac = acc m m⌝ ∗ R.inv d cs su tb ix qt qi O W m m)) ?_) $$ [H]
  · intro k; exact absurd (k.isLt.trans_eq hL') (Nat.not_lt_zero _)
  · isplitr; · ipureintro; rfl
    iexact H
  iintro %ac ⟨%hac, H⟩
  subst hac
  -- the last block leaves
  iapply (htail _ rfl (if_pos rfl))
  iexact H

end Refs

end Call

end Cert.Proof.Bert
-- ==== Proof.Tile0.lean ====
/-
  The program text of the gather's first two calls (600 index rows): what it computes of a tile and of a trip, in closed
  form; a trip and the task are then the ring's.
-/
module

public import proofs.«01_k».proof.Proof.Slots

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

namespace K0

open Call (acc Credits)

/-- The tile `(a, b)`. -/
def crd (a : Fin 2) (b : Fin 16) : grid0.Coords := fun | 0 => a | 1 => b | ⟨_ + 2, h⟩ => absurd h (Nat.not_lt.2 (Nat.le_add_left _ _))
/-- How many blocks it has, of the 600. -/
abbrev num : Fin 2 → Fin 16 → ℕ := Call.num 24 18
/-- Its first block. -/
abbrev start : Fin 2 → Fin 16 → ℕ := Call.start 24 18
/-- Its SparseCore -/
abbrev cs (a : Fin 2) (b : Fin 16) : Fin τ.nSC := (crd a b 0).castLE hcore0
/-- and its subcore. -/
abbrev su (a : Fin 2) (b : Fin 16) : Fin τ.nSub := (crd a b 1).castLE hsub0

/-! ## What the text computes, in closed form -/

/-- The first loop has a trip for each of the tile's blocks, -/
theorem trips_eq : ∀ a b, (k0_t1_loop (crd a b)).trips = num a b := by decide +kernel
/-- the second has none; -/
theorem trips2_eq : ∀ a b, (k0_t2_loop (crd a b)).trips = 0 := by decide +kernel
/-- the tile has a block, so it runs its pipeline, -/
theorem cond1 : ∀ a b, k0_cond1 (crd a b) = 1#1 := by decide +kernel
/-- fetches its first index row before the loop, -/
theorem cond2 : ∀ a b, k0_cond2 (crd a b) = 1#1 := by decide +kernel
/-- and awaits its last copy out after it. -/
theorem cond18 : ∀ a b, k0_cond18 (crd a b) = 1#1 := by decide +kernel

/-- The conditions and the side conditions of a trip. -/
theorem conds : ∀ (a : Fin 2) (b : Fin 16) (k : Fin 19) (h : k.val < (k0_t1_loop (crd a b)).trips),
    (k0_cond3 (crd a b) ⟨k.val, h⟩ (BitVec.ofNat 32 k.val) = 1#1 ↔ k.val + 1 < num a b)
    ∧ k0_cond4 (crd a b) ⟨k.val, h⟩ (BitVec.ofNat 32 k.val) = 1#1
    ∧ k0_cond7 (crd a b) ⟨k.val, h⟩ (BitVec.ofNat 32 k.val) = 1#1
    ∧ (k0_cond9 (crd a b) ⟨k.val, h⟩ (BitVec.ofNat 32 k.val) = 1#1 ↔ 0 < k.val)
    ∧ k0_chk3 (crd a b) (BitVec.ofNat 32 k.val) ∧ k0_chk2 (crd a b) (BitVec.ofNat 32 k.val)
    ∧ k0_chk1 (crd a b) ⟨k.val, h⟩ (BitVec.ofNat 32 (min (k.val + 1) (num a b))) (BitVec.ofNat 32 k.val) (BitVec.ofNat 32 k.val)
        (BitVec.ofNat 32 (k.val - 1)) (BitVec.ofNat 32 k.val) := by decide +kernel

/-- The offsets of a trip. -/
theorem offs : ∀ (a : Fin 2) (b : Fin 16) (k : Fin 19), k.val < num a b →
    let K := BitVec.ofNat 32 k.val
    let M := BitVec.ofNat 32 (min (k.val + 1) (num a b))
    Call.Offs 600 (start a b) (num a b) k.val (k0_off4 M) (k0_off5 (crd a b) K) (k0_off6 M) (k0_off7 K) (k0_off9 K) (k0_off10 K) (k0_off11 K)
      (k0_off12 K) (k0_off13 (crd a b) K) (k0_off14 K) (k0_off16 (crd a b) K) (k0_off17 (BitVec.ofNat 32 (k.val - 1))) := by decide +kernel

/-- The offsets and the side conditions before and after the loops. -/
theorem offs' : ∀ (a : Fin 2) (b : Fin 16), k0_off1 = ![0, 0, 0] ∧ k0_off2 (crd a b) = ![min (start a b + 0) (600 - 1), 0] ∧ k0_off3 = ![0]
    ∧ k0_off33 (crd a b) 0#32 = ![128 * min (start a b + (num a b - 1)) (600 - 1), 0]
    ∧ k0_off34 (BitVec.ofNat 32 (num a b - 1)) = ![(num a b - 1) % 2]
    ∧ k0_chk8 (crd a b) 0#32 ∧ k0_chk7 (crd a b) (BitVec.ofNat 32 (num a b - 1)) := by decide +kernel

/-- The carried words after a trip are the next trip's. -/
theorem next : ∀ (a : Fin 2) (b : Fin 16) (k : Fin 19), k.val < num a b → Call.next (num a b) (start a b) k.val = acc (num a b) (k.val + 1) := by
  decide +kernel

/-- The words the text computes of a tile are its number of blocks, its first block and the first carried words. -/
theorem words : ∀ (a : Fin 2) (b : Fin 16), Call.Words 24#32 19#32 18#32 (num a b) (start a b) (crd a b 0).val (crd a b 1).val := by decide +kernel

/-! ## The text, over the ring -/

section Body
variable (a : Fin 2) (b : Fin 16) (arg2 : Memref sig .scVector .hbm S100000x128 .f32) (arg3 : Memref sig .scVector .hbm S600x128 .i32)
  (arg4 : Memref sig .scVector .hbm S76800x128 .f32) (al : Memref sig .scVector .vmem S2x1x128 .i32) (v12 : DmaSems sig S2)
  (al4 : Memref sig .scVector .vmem S2x128x128 .f32) (v13 : DmaSems sig S2) (r1 r2 : DmaSems sig S_) (hc : Credits al4)
  (harg2 : arg2.IsWhole) (harg3 : arg3.IsWhole) (harg4 : arg4.IsWhole) (hal : al.IsWhole) (hal4 : al4.IsWhole)

/-- The ring of tile `(a, b)` over the memory references it is run at. -/
abbrev ring : Ring := Call.ring (n := 600) (N := 76800) (Nat.succ_pos _) rfl arg2 arg3 arg4 (start a b) al v12 al4 v13 r1 hc

variable (d : Dev nD) (tb : Buf (Elt F) (View.loc (V d (cs a b) (su a b)) (ring a b arg2 arg3 arg4 al v12 al4 v13 r1 hc).tab.view))
  (ix : ∀ k, Buf (Elt F) (View.loc (V d (cs a b) (su a b)) ((ring a b arg2 arg3 arg4 al v12 al4 v13 r1 hc).row k).view))
  (qt qi : PosShare TreeShare) (O : CellTallies nD τ sig (HIx 3)) (W : Waits sig (HIx 3))

/-- One trip: what the tile holds before it, at the carried words before it, becomes what it holds after. -/
theorem trip (k : ℕ) (hk : k < (k0_t1_loop (crd a b)).trips) (hin : (ring a b arg2 arg3 arg4 al v12 al4 v13 r1 hc).InRange d (cs a b) (su a b) ix k) (v11 c2 c3 c4 c5 v41 v45 : BitVec 32) :
    (ring a b arg2 arg3 arg4 al v12 al4 v13 r1 hc).inv d (cs a b) (su a b) tb ix qt qi O W (num a b) k
      ⊢ wp frame (wpE (defs₀ (F := F)) 𝒱₀ (V d (cs a b) (su a b)) none) Set.univ
        (k0_t1_body (crd a b) arg2 harg2 arg3 harg3 arg4 harg4 al hal v12 al4 hal4 v13 r1 r2 (BitVec.ofNat 32 (num a b)) (BitVec.ofNat 32 (start a b)) v11 (cond1 a b) v41 0#32 c2 c3 c4 c5 v45 ⟨k, hk⟩
          (acc (num a b) k))
        fun ac => iprop(⌜ac = acc (num a b) (k + 1)⌝ ∗ (ring a b arg2 arg3 arg4 al v12 al4 v13 r1 hc).inv d (cs a b) (su a b) tb ix qt qi O W (num a b) (k + 1)) := by
  have hk' : k < num a b := by rw [← trips_eq]; exact hk
  have hk'' : k < 19 := hk'.trans_le (Call.num_le _ _ _ _)
  rw [Call.acc_lt hk']
  obtain ⟨h3, h4, h7, h9, k3, k2, k1⟩ := conds a b ⟨k, hk''⟩ hk
  unfold k0_t1_body
  simp only [k0_part1_eq_skeleton, k0_part2_eq_skeleton]
  unfold k0_part1_skel k0_part2_skel
  simp only [bind_assoc]
  refine exec_assume 𝒱₀ _ none _ _ _ k3 ?_
  refine exec_assume 𝒱₀ _ none _ _ _ k2 ?_
  refine exec_assume 𝒱₀ _ none _ _ _ k1 ?_
  simp only [pure_bind, Ring.dite_seq, h4, h7, ↓reduceDIte, ite_self, bind_assoc]
  refine Call.trip (n := 600) (N := 76800) (Nat.succ_pos _) rfl arg2 arg3 arg4 r1 hc _ rfl d (cs a b) (su a b) tb ix qt qi O W hk' hin h3 h9
    (offs a b ⟨k, hk''⟩ hk') (fun _ => rfl) rfl rfl rfl rfl (fun _ => rfl) ?_ rfl
  iintro H
  isplitr
  · ipureintro; exact next a b ⟨k, hk''⟩ hk'
  · iexact H

/-- THE TASK of tile `(a, b)`. -/
theorem task (hin : ∀ k, (ring a b arg2 arg3 arg4 al v12 al4 v13 r1 hc).InRange d (cs a b) (su a b) ix k) :
    (ring a b arg2 arg3 arg4 al v12 al4 v13 r1 hc).pre d (cs a b) (su a b) tb ix qt qi O W (num a b)
      ⊢ wp frame (wpE (defs₀ (F := F)) 𝒱₀ (V d (cs a b) (su a b)) none) Set.univ
        (cc0_gather_kernel (crd a b) arg2 harg2 arg3 harg3 arg4 harg4 al hal v12 al4 hal4 v13 r1 r2)
        fun _ => (ring a b arg2 arg3 arg4 al v12 al4 v13 r1 hc).post d (cs a b) (su a b) tb ix qt O W (num a b) := by
  have hm : 0 < num a b := Call.num_pos _ (by decide) a b
  obtain ⟨w1, w2, w3⟩ := words a b
  simp only at w1 w2 w3
  simp only [cc0_gather_kernel_eq_skeleton]
  unfold cc0_gather_kernel_skel
  simp only [cond1 a b, ↓reduceDIte, k0_part5_eq_skeleton, k0_part6_eq_skeleton, w1, w2]
  unfold k0_part5_skel k0_part6_skel
  simp only [cond2 a b, cond18 a b, ↓reduceDIte, dite_eq_ite, ite_self, bind_assoc, pure_bind]
  rw [w3]
  obtain ⟨o1, o2, o3, o33, o34, k8, k7⟩ := offs' a b
  refine Call.task (n := 600) (N := 76800) (Nat.succ_pos _) rfl arg2 arg3 arg4 r1 hc _ rfl d (cs a b) (su a b) tb ix qt qi O W hm o1 o2 o3
    (trips_eq a b) (trips2_eq a b)
    (fun k => trip a b arg2 arg3 arg4 al v12 al4 v13 r1 r2 hc harg2 harg3 harg4 hal hal4 d tb ix qt qi O W k.val k.isLt (hin _) _ _ _ _ _ _ _)
    fun A hA4 hA5 => ?_
  rw [← hA5] at o33 k8
  rw [← hA4] at o34 k7
  refine exec_assume 𝒱₀ _ none _ _ _ k8 ?_
  refine exec_assume 𝒱₀ _ none _ _ _ k7 ?_
  exact Call.last (n := 600) (N := 76800) (Nat.succ_pos _) rfl arg2 arg3 arg4 r1 hc _ rfl d (cs a b) (su a b) tb ix qt qi O W hm o33 o34

end Body
end K0
end Cert.Proof.Bert
-- ==== Proof.Tile4.lean ====
/-
  The program text of the gather's last call (400 index rows), in the same way.
-/
module

public import proofs.«01_k».proof.Proof.Slots

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

namespace K4

open Call (acc Credits)

/-- The tile `(a, b)`. -/
def crd (a : Fin 2) (b : Fin 16) : grid4.Coords := fun | 0 => a | 1 => b | ⟨_ + 2, h⟩ => absurd h (Nat.not_lt.2 (Nat.le_add_left _ _))
/-- How many blocks it has, of the 400. -/
abbrev num : Fin 2 → Fin 16 → ℕ := Call.num 16 12
/-- Its first block. -/
abbrev start : Fin 2 → Fin 16 → ℕ := Call.start 16 12
/-- Its SparseCore -/
abbrev cs (a : Fin 2) (b : Fin 16) : Fin τ.nSC := (crd a b 0).castLE hcore4
/-- and its subcore. -/
abbrev su (a : Fin 2) (b : Fin 16) : Fin τ.nSub := (crd a b 1).castLE hsub4

/-! ## What the text computes, in closed form -/

/-- The first loop has a trip for each of the tile's blocks, -/
theorem trips_eq : ∀ a b, (k4_t1_loop (crd a b)).trips = num a b := by decide +kernel
/-- the second has none; -/
theorem trips2_eq : ∀ a b, (k4_t2_loop (crd a b)).trips = 0 := by decide +kernel
/-- the tile has a block, so it runs its pipeline, -/
theorem cond1 : ∀ a b, k4_cond1 (crd a b) = 1#1 := by decide +kernel
/-- fetches its first index row before the loop, -/
theorem cond2 : ∀ a b, k4_cond2 (crd a b) = 1#1 := by decide +kernel
/-- and awaits its last copy out after it. -/
theorem cond18 : ∀ a b, k4_cond18 (crd a b) = 1#1 := by decide +kernel

/-- The conditions and the side conditions of a trip. -/
theorem conds : ∀ (a : Fin 2) (b : Fin 16) (k : Fin 13) (h : k.val < (k4_t1_loop (crd a b)).trips),
    (k4_cond3 (crd a b) ⟨k.val, h⟩ (BitVec.ofNat 32 k.val) = 1#1 ↔ k.val + 1 < num a b)
    ∧ k4_cond4 (crd a b) ⟨k.val, h⟩ (BitVec.ofNat 32 k.val) = 1#1
    ∧ k4_cond7 (crd a b) ⟨k.val, h⟩ (BitVec.ofNat 32 k.val) = 1#1
    ∧ (k4_cond9 (crd a b) ⟨k.val, h⟩ (BitVec.ofNat 32 k.val) = 1#1 ↔ 0 < k.val)
    ∧ k4_chk3 (crd a b) (BitVec.ofNat 32 k.val) ∧ k4_chk2 (crd a b) (BitVec.ofNat 32 k.val)
    ∧ k4_chk1 (crd a b) ⟨k.val, h⟩ (BitVec.ofNat 32 (min (k.val + 1) (num a b))) (BitVec.ofNat 32 k.val) (BitVec.ofNat 32 k.val)
        (BitVec.ofNat 32 (k.val - 1)) (BitVec.ofNat 32 k.val) := by decide +kernel

/-- The offsets of a trip. -/
theorem offs : ∀ (a : Fin 2) (b : Fin 16) (k : Fin 13), k.val < num a b →
    let K := BitVec.ofNat 32 k.val
    let M := BitVec.ofNat 32 (min (k.val + 1) (num a b))
    Call.Offs 400 (start a b) (num a b) k.val (k4_off4 M) (k4_off5 (crd a b) K) (k4_off6 M) (k4_off7 K) (k4_off9 K) (k4_off10 K) (k4_off11 K)
      (k4_off12 K) (k4_off13 (crd a b) K) (k4_off14 K) (k4_off16 (crd a b) K) (k4_off17 (BitVec.ofNat 32 (k.val - 1))) := by decide +kernel

/-- The offsets and the side conditions before and after the loops. -/
theorem offs' : ∀ (a : Fin 2) (b : Fin 16), k4_off1 = ![0, 0, 0] ∧ k4_off2 (crd a b) = ![min (start a b + 0) (400 - 1), 0] ∧ k4_off3 = ![0]
    ∧ k4_off33 (crd a b) 0#32 = ![128 * min (start a b + (num a b - 1)) (400 - 1), 0]
    ∧ k4_off34 (BitVec.ofNat 32 (num a b - 1)) = ![(num a b - 1) % 2]
    ∧ k4_chk8 (crd a b) 0#32 ∧ k4_chk7 (crd a b) (BitVec.ofNat 32 (num a b - 1)) := by decide +kernel

/-- The carried words after a trip are the next trip's. -/
theorem next : ∀ (a : Fin 2) (b : Fin 16) (k : Fin 13), k.val < num a b → Call.next (num a b) (start a b) k.val = acc (num a b) (k.val + 1) := by
  decide +kernel

/-- The words the text computes of a tile are its number of blocks, its first block and the first carried words. -/
theorem words : ∀ (a : Fin 2) (b : Fin 16), Call.Words 16#32 13#32 12#32 (num a b) (start a b) (crd a b 0).val (crd a b 1).val := by decide +kernel

/-! ## The text, over the ring -/

section Body
variable (a : Fin 2) (b : Fin 16) (arg2 : Memref sig .scVector .hbm S100000x128 .f32) (arg3 : Memref sig .scVector .hbm S400x128 .i32)
  (arg4 : Memref sig .scVector .hbm S51200x128 .f32) (al : Memref sig .scVector .vmem S2x1x128 .i32) (v12 : DmaSems sig S2)
  (al4 : Memref sig .scVector .vmem S2x128x128 .f32) (v13 : DmaSems sig S2) (r1 r2 : DmaSems sig S_) (hc : Credits al4)
  (harg2 : arg2.IsWhole) (harg3 : arg3.IsWhole) (harg4 : arg4.IsWhole) (hal : al.IsWhole) (hal4 : al4.IsWhole)

/-- The ring of tile `(a, b)` over the memory references it is run at. -/
abbrev ring : Ring := Call.ring (n := 400) (N := 51200) (Nat.succ_pos _) rfl arg2 arg3 arg4 (start a b) al v12 al4 v13 r1 hc

variable (d : Dev nD) (tb : Buf (Elt F) (View.loc (V d (cs a b) (su a b)) (ring a b arg2 arg3 arg4 al v12 al4 v13 r1 hc).tab.view))
  (ix : ∀ k, Buf (Elt F) (View.loc (V d (cs a b) (su a b)) ((ring a b arg2 arg3 arg4 al v12 al4 v13 r1 hc).row k).view))
  (qt qi : PosShare TreeShare) (O : CellTallies nD τ sig (HIx 3)) (W : Waits sig (HIx 3))

/-- One trip: what the tile holds before it, at the carried words before it, becomes what it holds after. -/
theorem trip (k : ℕ) (hk : k < (k4_t1_loop (crd a b)).trips) (hin : (ring a b arg2 arg3 arg4 al v12 al4 v13 r1 hc).InRange d (cs a b) (su a b) ix k) (v11 c2 c3 c4 c5 v41 v45 : BitVec 32) :
    (ring a b arg2 arg3 arg4 al v12 al4 v13 r1 hc).inv d (cs a b) (su a b) tb ix qt qi O W (num a b) k
      ⊢ wp frame (wpE (defs₀ (F := F)) 𝒱₀ (V d (cs a b) (su a b)) none) Set.univ
        (k4_t1_body (crd a b) arg2 harg2 arg3 harg3 arg4 harg4 al hal v12 al4 hal4 v13 r1 r2 (BitVec.ofNat 32 (num a b)) (BitVec.ofNat 32 (start a b)) v11 (cond1 a b) v41 0#32 c2 c3 c4 c5 v45 ⟨k, hk⟩
          (acc (num a b) k))
        fun ac => iprop(⌜ac = acc (num a b) (k + 1)⌝ ∗ (ring a b arg2 arg3 arg4 al v12 al4 v13 r1 hc).inv d (cs a b) (su a b) tb ix qt qi O W (num a b) (k + 1)) := by
  have hk' : k < num a b := by rw [← trips_eq]; exact hk
  have hk'' : k < 13 := hk'.trans_le (Call.num_le _ _ _ _)
  rw [Call.acc_lt hk']
  obtain ⟨h3, h4, h7, h9, k3, k2, k1⟩ := conds a b ⟨k, hk''⟩ hk
  unfold k4_t1_body
  simp only [k4_part1_eq_skeleton, k4_part2_eq_skeleton]
  unfold k4_part1_skel k4_part2_skel
  simp only [bind_assoc]
  refine exec_assume 𝒱₀ _ none _ _ _ k3 ?_
  refine exec_assume 𝒱₀ _ none _ _ _ k2 ?_
  refine exec_assume 𝒱₀ _ none _ _ _ k1 ?_
  simp only [pure_bind, Ring.dite_seq, h4, h7, ↓reduceDIte, ite_self, bind_assoc]
  refine Call.trip (n := 400) (N := 51200) (Nat.succ_pos _) rfl arg2 arg3 arg4 r1 hc _ rfl d (cs a b) (su a b) tb ix qt qi O W hk' hin h3 h9
    (offs a b ⟨k, hk''⟩ hk') (fun _ => rfl) rfl rfl rfl rfl (fun _ => rfl) ?_ rfl
  iintro H
  isplitr
  · ipureintro; exact next a b ⟨k, hk''⟩ hk'
  · iexact H

/-- THE TASK of tile `(a, b)`. -/
theorem task (hin : ∀ k, (ring a b arg2 arg3 arg4 al v12 al4 v13 r1 hc).InRange d (cs a b) (su a b) ix k) :
    (ring a b arg2 arg3 arg4 al v12 al4 v13 r1 hc).pre d (cs a b) (su a b) tb ix qt qi O W (num a b)
      ⊢ wp frame (wpE (defs₀ (F := F)) 𝒱₀ (V d (cs a b) (su a b)) none) Set.univ
        (cc4_gather_kernel (crd a b) arg2 harg2 arg3 harg3 arg4 harg4 al hal v12 al4 hal4 v13 r1 r2)
        fun _ => (ring a b arg2 arg3 arg4 al v12 al4 v13 r1 hc).post d (cs a b) (su a b) tb ix qt O W (num a b) := by
  have hm : 0 < num a b := Call.num_pos _ (by decide) a b
  obtain ⟨w1, w2, w3⟩ := words a b
  simp only at w1 w2 w3
  simp only [cc4_gather_kernel_eq_skeleton]
  unfold cc4_gather_kernel_skel
  simp only [cond1 a b, ↓reduceDIte, k4_part5_eq_skeleton, k4_part6_eq_skeleton, w1, w2]
  unfold k4_part5_skel k4_part6_skel
  simp only [cond2 a b, cond18 a b, ↓reduceDIte, dite_eq_ite, ite_self, bind_assoc, pure_bind]
  rw [w3]
  obtain ⟨o1, o2, o3, o33, o34, k8, k7⟩ := offs' a b
  refine Call.task (n := 400) (N := 51200) (Nat.succ_pos _) rfl arg2 arg3 arg4 r1 hc _ rfl d (cs a b) (su a b) tb ix qt qi O W hm o1 o2 o3
    (trips_eq a b) (trips2_eq a b)
    (fun k => trip a b arg2 arg3 arg4 al v12 al4 v13 r1 r2 hc harg2 harg3 harg4 hal hal4 d tb ix qt qi O W k.val k.isLt (hin _) _ _ _ _ _ _ _)
    fun A hA4 hA5 => ?_
  rw [← hA5] at o33 k8
  rw [← hA4] at o34 k7
  refine exec_assume 𝒱₀ _ none _ _ _ k8 ?_
  refine exec_assume 𝒱₀ _ none _ _ _ k7 ?_
  exact Call.last (n := 400) (N := 51200) (Nat.succ_pos _) rfl arg2 arg3 arg4 r1 hc _ rfl d (cs a b) (su a b) tb ix qt qi O W hm o33 o34

end Body
end K4
end Cert.Proof.Bert
-- ==== Proof.Split.lean ====
/-
  How what a call is handed splits over its tiles and comes together again: the index rows and the output's blocks by
  the tiles' ranges of blocks, the table by shares, a tile's two buffers by slots, and its scratch buffers and semaphores
  out of what the subcore owns.
-/
module

public import proofs.«01_k».proof.Proof.Tile0
public import proofs.«01_k».proof.Proof.Tile4
public import Idealize.ShloMosaic.Lib.ShareLeaves

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-! ## Ranges of blocks -/

section Ranges
variable {M : Type} [URA M]

/-- A range of numbers, shifted. -/
theorem range_shift (Φ : ℕ → sProp M) (s n : ℕ) :
    bigSep (Finset.Ico s (s + n)) Φ = bigSep (Finset.range n) fun k => Φ (s + k) := by
  have h : Finset.Ico s (s + n) = (Finset.range n).map (addLeftEmbedding s) := by
    rw [Finset.range_eq_Ico, Finset.map_add_left_Ico, Nat.add_zero]
  rw [h, bigSep_map]; rfl

/-- Over a disjoint union, by its parts. -/
theorem bigSep_parts {J : Type} [DecidableEq J] (t : J → Finset ℕ) (Φ : ℕ → sProp M) (S : Finset J)
    (hd : ∀ j ∈ S, ∀ j' ∈ S, j ≠ j' → Disjoint (t j) (t j')) :
    bigSep (S.biUnion t) Φ = bigSep S fun j => bigSep (t j) Φ := by
  induction S using Finset.induction_on with
  | empty => rfl
  | insert j S hj ih =>
    have hu : Disjoint (t j) (S.biUnion t) := (Finset.disjoint_biUnion_right _ _ _).mpr fun j' hj' =>
      hd j (Finset.mem_insert_self _ _) j' (Finset.mem_insert_of_mem hj') (fun e => hj (e ▸ hj'))
    rw [Finset.biUnion_insert, BI.bigSep_insert hj, bigSep_union hu,
      ih fun a ha b hb => hd a (Finset.mem_insert_of_mem ha) b (Finset.mem_insert_of_mem hb)]

/-- Numbers below `N`, dealt to the tiles: tile `(a, b)`'s are the `n a b` from `s a b`. -/
theorem deal {N : ℕ} (s n : Fin 2 → Fin 16 → ℕ)
    (hc : Finset.range N = (Finset.univ : Finset (Fin 2 × Fin 16)).biUnion fun p => Finset.Ico (s p.1 p.2) (s p.1 p.2 + n p.1 p.2))
    (hd : ∀ p p' : Fin 2 × Fin 16, p ≠ p' → s p.1 p.2 + n p.1 p.2 ≤ s p'.1 p'.2 ∨ s p'.1 p'.2 + n p'.1 p'.2 ≤ s p.1 p.2) (Φ : ℕ → sProp M) :
    bigSep (Finset.range N) Φ = bigSep Finset.univ fun a => bigSep Finset.univ fun b => bigSep (Finset.range (n a b)) fun k => Φ (s a b + k) := by
  rw [hc, bigSep_parts _ _ _ (fun p _ p' _ h => Finset.disjoint_left.mpr fun x hx hx' => by
    have h1 := Finset.mem_Ico.mp hx; have h2 := Finset.mem_Ico.mp hx'
    rcases hd p p' h with h | h <;> omega), bigSep_univ_prod]
  exact bigSep_congr fun a _ => bigSep_congr fun b _ => range_shift Φ _ _

/-- The thirty-two tiles, numbered. -/
def tileNo (a : Fin 2) (b : Fin 16) : Fin 32 := ⟨16 * a.val + b.val, by omega⟩

/-- The numbers below 32, as the tiles' numbers. -/
theorem deal_tiles (Φ : Fin 32 → sProp M) : bigSep Finset.univ Φ = bigSep Finset.univ fun a => bigSep Finset.univ fun b => Φ (tileNo a b) := by
  rw [bigSep_univ_equiv (finProdFinEquiv : Fin 2 × Fin 16 ≃ Fin (2 * 16)) (Φ : Fin (2 * 16) → sProp M), bigSep_univ_prod]
  exact bigSep_congr fun a _ => bigSep_congr fun b _ => congrArg Φ (Fin.ext (by simp [finProdFinEquiv, tileNo]; omega))

end Ranges

/-! ## An array by its blocks of rows -/

/-- The elements of an array of rows of 128, held by its blocks of `h` rows. -/
theorem pts_blocks {e : EltTy} {H h n : ℕ} (thr : Thread nD τ) (M : Memref sig thr.2.kind .hbm ⟨2, ![H, 128]⟩ e) (hM : M.view.set = Finset.univ)
    (R : ℕ → Rect ⟨2, ![H, 128]⟩) (hs : ∀ r a, (R r).stride a = 1)
    (hR : ∀ r < n, ∀ i : (⟨2, ![H, 128]⟩ : Shape).Idx, i ∈ (R r).set ↔ h * r ≤ (i 0).val ∧ (i 0).val < h * r + h) (hN : H = h * n) (h0 : 0 < h)
    (q : PosShare TreeShare) (f : Buf (Elt F) (M.view.loc thr)) :
    (M.view.loc thr ↦{q} f : sProp (MT nD τ sig (HIx 3) (Elt F) ℕ UU ℕ))
      = bigSep (Finset.range n) fun r => (M.slice (R r) (hs r)).view.loc thr ↦[(M.slice (R r) (hs r)).view.set]{q} f := by
  have hset : ∀ r, (M.slice (R r) (hs r)).view.set = (R r).set.map M.view.emb := fun r => View.set_slice _ _
  have hu : (Finset.univ : Finset (Idx (M.view.loc thr))) = (Finset.range n).biUnion fun r => (M.slice (R r) (hs r)).view.set := by
    refine (Eq.symm ?_)
    rw [Finset.eq_univ_iff_forall]
    intro x
    have hx : x ∈ M.view.set := by rw [hM]; exact Finset.mem_univ _
    obtain ⟨i, -, rfl⟩ := Finset.mem_map.mp hx
    have hi : (i 0).val < h * n := by have := (i 0).isLt; rw [← hN]; exact this
    have hlt : (i 0).val / h < n := Nat.div_lt_of_lt_mul hi
    refine Finset.mem_biUnion.mpr ⟨(i 0).val / h, Finset.mem_range.mpr hlt, ?_⟩
    rw [hset]
    refine Finset.mem_map_of_mem _ ((hR _ hlt i).mpr ⟨Nat.mul_div_le _ _, ?_⟩)
    have := Nat.lt_mul_div_succ (i 0).val h0
    rw [Nat.mul_succ] at this; exact this
  refine (congrArg (fun S => (M.view.loc thr ↦[S]{q} f : sProp (MT nD τ sig (HIx 3) (Elt F) ℕ UU ℕ))) hu).trans ?_
  refine pointsTo_biUnion (ℓ := M.view.loc thr) (Finset.range n) (fun r => (M.slice (R r) (hs r)).view.set) ?_
  intro r hr r' hr' hne
  have hr := Finset.mem_range.mp hr
  have hr' := Finset.mem_range.mp hr'
  rw [hset, hset, Finset.disjoint_map]
  refine Finset.disjoint_left.mpr fun i hi hi' => hne ?_
  have h1 := (hR r hr i).mp hi
  have h2 := (hR r' hr' i).mp hi'
  rcases Nat.lt_trichotomy r r' with hlt | he | hlt
  · have := Nat.mul_le_mul_left h (Nat.succ_le_of_lt hlt); rw [Nat.mul_succ] at this; omega
  · exact he
  · have := Nat.mul_le_mul_left h (Nat.succ_le_of_lt hlt); rw [Nat.mul_succ] at this; omega

/-! ## A buffer by its two slots -/

/-- A buffer held at anything on two disjoint parts is the parts so held. -/
theorem pts_two {ℓ : Loc nD τ sig} {A B : Finset (Idx ℓ)} (h : Disjoint A B) (hu : A ∪ B = Finset.univ) :
    (iprop(∃ f, ℓ ↦{fullShare} f) : sProp (MT nD τ sig (HIx 3) (Elt F) ℕ UU ℕ))
      = iprop((∃ f, ℓ ↦[A]{fullShare} f) ∗ ∃ f, ℓ ↦[B]{fullShare} f) := by
  have h1 : (iprop(∃ f, ℓ ↦{fullShare} f) : sProp (MT nD τ sig (HIx 3) (Elt F) ℕ UU ℕ))
      ⊢ iprop((∃ f, ℓ ↦[A]{fullShare} f) ∗ ∃ f, ℓ ↦[B]{fullShare} f) := by
    rw [← hu]
    iintro ⟨%f, H⟩
    ihave H' := (pointsTo_union h).1 $$ H
    icases H' with ⟨HA, HB⟩
    isplitl [HA]
    · iexists f; iexact HA
    · iexists f; iexact HB
  have h2 : (iprop((∃ f, ℓ ↦[A]{fullShare} f) ∗ ∃ f, ℓ ↦[B]{fullShare} f) : sProp (MT nD τ sig (HIx 3) (Elt F) ℕ UU ℕ))
      ⊢ iprop(∃ f, ℓ ↦{fullShare} f) := by
    rw [← hu]
    iintro ⟨⟨%f, HA⟩, ⟨%g, HB⟩⟩
    iexists _
    iapply (pointsTo_join h)
    isplitl [HA]; · iexact HA
    iexact HB
  exact BI.Entails.antisymm h1 h2

/-! ## What a vector subcore owns -/

/-- Two of its buffers, and the rest. -/
theorem ownBufs_two (d : Dev nD) (c : Fin τ.nSC) (i : Fin τ.nSub) (r₀ r₁ : Ref sig .scVector)
    (h₀ : ((Proc.scVector c i).devRef r₀).owner = .proc (.scVector c i)) (h₁ : ((Proc.scVector c i).devRef r₁).owner = .proc (.scVector c i)) (hne : r₁ ≠ r₀) :
    (ownBufs (V d c i) : sProp (MT nD τ sig (HIx 3) (Elt F) ℕ UU ℕ))
      = iprop((∃ f, (V d c i).loc r₀ ↦{fullShare} f) ∗ (∃ f, (V d c i).loc r₁ ↦{fullShare} f)
          ∗ bigSep (((ownRefs (τ := τ) (.scVector c i)).erase ((Proc.scVector c i).devRef r₀)).erase ((Proc.scVector c i).devRef r₁))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) h₀)).trans ?_
  rw [SparseCore.bigSep_erase' (Finset.mem_erase.mpr ⟨fun e => absurd (Proc.devRef_injective _ e) hne,
    SparseCore.Cfg.mem_ownRefs_of_owner (p := Proc.scVector c i) h₁⟩)]

/-- Five of its semaphores, and the rest. -/
theorem ownSems_five (thr : Thread nD τ) (s₀ s₁ s₂ s₃ s₄ : SemLoc sig) (hs : ∀ s ∈ [s₀, s₁, s₂, s₃, s₄], s.isScoped thr.2.kind = true)
    (hn : [s₀, s₁, s₂, s₃, s₄].Nodup) :
    ∃ rest : sProp (MT nD τ sig (HIx 3) (Elt F) ℕ UU ℕ), (ownSems0 thr : sProp (MT nD τ sig (HIx 3) (Elt F) ℕ UU ℕ))
      = iprop((semVal (thr, s₀) 0 ∗ semVal (thr, s₁) 0 ∗ semVal (thr, s₂) 0 ∗ semVal (thr, s₃) 0 ∗ semVal (thr, s₄) 0) ∗ rest) := by
  let S : Finset (GSem nD τ sig) := [s₀, s₁, s₂, s₃, s₄].toFinset.map ⟨fun s => (thr, s), fun _ _ e => (Prod.mk.inj e).2⟩
  have hsub : S ⊆ ownCells thr := by
    intro g hg
    obtain ⟨s, hm, rfl⟩ := Finset.mem_map.mp hg
    exact mem_ownCells.mpr ⟨rfl, hs s (List.mem_toFinset.mp hm)⟩
  refine ⟨bigSep (ownCells thr \ S) fun g => semVal g 0, (bigSep_sdiff_split hsub).trans ?_⟩
  congr 1
  rw [bigSep_map]
  simp only [List.nodup_cons, List.mem_cons, List.not_mem_nil, or_false, not_or, List.nodup_nil, and_true, not_false_eq_true] at hn
  obtain ⟨⟨h1, h2, h3, h4⟩, ⟨h5, h6, h7⟩, ⟨h8, h9⟩, h10⟩ := hn
  simp only [List.toFinset_cons, List.toFinset_nil, insert_empty_eq]
  rw [BI.bigSep_insert (by simp [*]), BI.bigSep_insert (by simp [*]), BI.bigSep_insert (by simp [*]), BI.bigSep_insert (by simp [*]), BI.bigSep_singleton]
  rfl

/-! ## A tile's task, from what the call hands it -/

namespace Ring
variable (R : Ring) (d : Dev nD) (cs : Fin τ.nSC) (su : Fin τ.nSub)
variable (tb : Buf (Elt F) (R.tab.view.loc (V d cs su))) (ix : ∀ k, Buf (Elt F) ((R.row k).view.loc (V d cs su)))
  (qt qi : PosShare TreeShare) (O : CellTallies nD τ sig (HIx 3)) (W : Waits sig (HIx 3))

/-- A gathered block is the block of whatever array reads, on the block, as what was gathered. -/
theorem done_at (k : ℕ) (G : Buf (Elt F) ((R.blk k).view.loc (V d cs su))) (hG : ∀ h, R.pay d cs su tb ix k h = (R.blk k).view.read (Elt F) G) :
    R.done d cs su tb ix k ⊢ (R.blk k).view.loc (V d cs su) ↦[(R.blk k).view.set]{fullShare} G := by
  unfold done
  iintro ⟨%f, %h, H⟩
  have he : ((R.blk k).view.loc (V d cs su) ↦[(R.blk k).view.set]{fullShare} (R.blk k).view.write (Elt F) f (R.pay d cs su tb ix k h) Finset.univ
      : sProp (MT nD τ sig (HIx 3) (Elt F) ℕ UU ℕ)) = (R.blk k).view.loc (V d cs su) ↦[(R.blk k).view.set]{fullShare} G := by
    refine pointsTo_congr fun i hi => ?_
    obtain ⟨y, -, rfl⟩ := Finset.mem_map.mp hi
    have h1 := congrFun ((R.blk k).view.read_write_univ f (R.pay d cs su tb ix k h)) y
    rw [hG h, View.read_apply, View.read_apply] at h1
    rw [hG h]
    exact (cast_inj _).mp h1
  rw [← he]
  iexact H

/-- The task over the ring, as the launch asks it of the tile: from its share of the table, its index rows and its blocks, with
    the subcore's own buffers and semaphores and the subcore owing what it owes, to the table's share back and the blocks done. -/
theorem wrap {n : ℕ} (hn : 0 < n) (hF : (K (F := F)).Facts) (hO : ∀ g, O g none = 0) {p : Prog (TpuEff nD τ sig (Elt F) Λ₀ (.scVector cs su)) PUnit}
    {bI bD rB : sProp (MT nD τ sig (HIx 3) (Elt F) ℕ UU ℕ)} {Dn : ℕ → sProp (MT nD τ sig (HIx 3) (Elt F) ℕ UU ℕ)}
    (hB : (ownBufs (V d cs su) : sProp (MT nD τ sig (HIx 3) (Elt F) ℕ UU ℕ)) = iprop(bI ∗ bD ∗ rB))
    (hI : bI = iprop((∃ f, (R.slotI 0).view.loc (V d cs su) ↦[(R.slotI 0).view.set]{fullShare} f)
      ∗ ∃ f, (R.slotI 1).view.loc (V d cs su) ↦[(R.slotI 1).view.set]{fullShare} f))
    (hD : bD = iprop((∃ f, (R.slotD 0).view.loc (V d cs su) ↦[(R.slotD 0).view.set]{fullShare} f)
      ∗ ∃ f, (R.slotD 1).view.loc (V d cs su) ↦[(R.slotD 1).view.set]{fullShare} f))
    (hS : ∃ rest : sProp (MT nD τ sig (HIx 3) (Elt F) ℕ UU ℕ), (ownSems0 (V d cs su) : sProp (MT nD τ sig (HIx 3) (Elt F) ℕ UU ℕ))
      = iprop((semVal (V d cs su, .dma (R.semI 0)) 0 ∗ semVal (V d cs su, .dma (R.semI 1)) 0 ∗ semVal (V d cs su, .dma (R.semD 0)) 0
          ∗ semVal (V d cs su, .dma (R.semD 1)) 0 ∗ semVal (V d cs su, .dma R.semG) 0) ∗ rest))
    (hdone : ∀ k < n, R.done d cs su tb ix k ⊢ Dn k)
    (htask : R.pre d cs su tb ix qt qi O W n ⊢ wp frame (wpE (defs₀ (F := F)) 𝒱₀ (V d cs su) none) Set.univ p fun _ => R.post d cs su tb ix qt O W n) :
    iprop(levAts (K (F := F)).L (K (F := F)).lev ∗ emp
        ∗ (R.tabPts d cs su tb qt ∗ (bigSep (Finset.range n) fun k => R.rowPts d cs su ix qi k) ∗ (bigSep (Finset.range n) fun k => R.todo d cs su k))
        ∗ scopedBufs (V d cs su) ∗ scopedSems0 (V d cs su) ∗ owes (V d cs su) O W)
      ⊢ wp frame (wpE (defs₀ (F := F)) 𝒱₀ (V d cs su) none) Set.univ p
          fun _ => iprop((R.tabPts d cs su tb qt ∗ bigSep (Finset.range n) Dn)
            ∗ scopedBufs (V d cs su) ∗ scopedSems0 (V d cs su)
            ∗ ∃ W', ⌜∀ p ∈ W', p ∈ W ∨ p.2 = none⌝ ∗ owes (V d cs su) O W') := by
  obtain ⟨rS, hS⟩ := hS
  rw [(K (F := F)).scopedBufs_V hF d cs su, SparseCore.Cfg.scopedSems0_V (Val := Elt F) d cs su, hB, hS, hI, hD]
  iintro ⟨#Hlv, -, ⟨Ht, Hr, Htodo⟩, ⟨⟨HI0, HI1⟩, ⟨HD0, HD1⟩, Hbufs⟩, ⟨⟨HsI0, HsI1, HsD0, HsD1, HsG⟩, Hsems⟩, HO⟩
  ihave Hmw := (show levAts (K (F := F)).L (K (F := F)).lev ⊢ Transfers.MayWaits (V d cs su) (default : HIx 3) O from
    (K (F := F)).mayWaits_none (thr := V d cs su) hO) $$ Hlv
  iapply (wp_wand_r _ _ _)
  isplitl [Hmw Ht Hr Htodo HI0 HI1 HD0 HD1 HsI0 HsI1 HsD0 HsD1 HsG HO]
  · iapply htask
    unfold pre freeI freeD owing
    isplitl [Hmw]; · iexact Hmw
    isplitl [HI0 HI1 HsI0 HsI1]
    · isplitl [HI0 HsI0]
      · isplitl [HI0]; · iexact HI0
        iexact HsI0
      · isplitl [HI1]; · iexact HI1
        iexact HsI1
    isplitl [HD0 HD1 HsD0 HsD1]
    · isplitl [HD0 HsD0]
      · isplitl [HD0]; · iexact HD0
        iexact HsD0
      · isplitl [HD1]; · iexact HD1
        iexact HsD1
    isplitl [Hr]; · iexact Hr
    isplitl [Htodo]; · iexact Htodo
    isplitl [Ht]; · iexact Ht
    isplitl [HsG]; · iexact HsG
    iexists W
    isplitr
    · ipureintro; exact fun p hp => .inl hp
    · iexact HO
  unfold post freeI freeD owing
  iintro %_ ⟨⟨⟨HI0, HsI0⟩, ⟨HI1, HsI1⟩⟩, ⟨⟨HD0, HsD0⟩, ⟨HD1, HsD1⟩⟩, Hd, Ht, HsG, HO⟩
  ihave Hd' := (show bigSep (Finset.range n) (R.done d cs su tb ix) ⊢ bigSep (Finset.range n) Dn from
    bigSep_mono fun k hk => hdone k (Finset.mem_range.mp hk)) $$ Hd
  isplitl [Ht Hd']
  · isplitl [Ht]; · iexact Ht
    iexact Hd'
  isplitl [HI0 HI1 HD0 HD1 Hbufs]
  · isplitl [HI0 HI1]
    · isplitl [HI0]; · iexact HI0
      iexact HI1
    isplitl [HD0 HD1]
    · isplitl [HD0]; · iexact HD0
      iexact HD1
    iexact Hbufs
  isplitr [HO]
  · isplitr [Hsems]
    · isplitl [HsI0]; · iexact HsI0
      isplitl [HsI1]; · iexact HsI1
      isplitl [HsD0]; · iexact HsD0
      isplitl [HsD1]; · iexact HsD1
      iexact HsG
    · iexact Hsems
  iexact HO

end Ring

end Cert.Proof.Bert
-- ==== Proof.Gather.lean ====
/-
  The array a call of the kernel leaves: row `r` of it is the table's row that word `r` of the index rows names. A tile's
  blocks read as that array, a tile's two slots make up its buffer, and the index rows and the output go to the tiles by
  ranges of blocks.
-/
module

public import proofs.«01_k».proof.Proof.Split

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-! ## The gathered array -/

/-- The gathered array over `n` index rows: row `r` is the table's row named by word `r` of the index rows, in row-major order
    (the last row of the table when the word names none). -/
def gat {n N : ℕ} (h : N = (⟨2, ![n, 128]⟩ : Shape).numel) (tb : S100000x128.Idx → Elt F .f32)
    (ix : (⟨2, ![n, 128]⟩ : Shape).Idx → Elt F .i32) : (⟨2, ![N, 128]⟩ : Shape).Idx → Elt F .f32 := fun j =>
  tb (Shape.pair (d := ![100000, 128])
    ⟨min (ix ((⟨2, ![n, 128]⟩ : Shape).rowMajor.symm ((j 0).cast h))).toNat 99999, Nat.lt_succ_of_le (Nat.min_le_right _ _)⟩ (j 1))

/-- The index of a list of 128 at a position. -/
def at128 (r : Fin 128) : S128.Idx := fun b => ⟨r.val, by fin_cases b; exact r.isLt⟩

/-- A block of 128 rows of the gathered array, gathered by the index row at the block's number. -/
theorem gat_block {n N : ℕ} (h : N = (⟨2, ![n, 128]⟩ : Shape).numel) (tb : S100000x128.Idx → Elt F .f32)
    (ix : (⟨2, ![n, 128]⟩ : Shape).Idx → Elt F .i32) (r : ℕ)
    (inbr : ∀ a, (![r, 0] : Fin 2 → ℕ) a + S1x128.size a ≤ (⟨2, ![n, 128]⟩ : Shape).size a)
    (inbb : ∀ a, (![128 * r, 0] : Fin 2 → ℕ) a + S128x128.size a ≤ (⟨2, ![N, 128]⟩ : Shape).size a) (y : S128x128.Idx)
    (row : S1x128.Idx → Elt F .i32) (hrow : ∀ z, row z = ix ((Rect.unit (s := ⟨2, ![n, 128]⟩) ![r, 0] S1x128.size inbr).emb z))
    (tb' : S100000x128.Idx → Elt F .f32) (htb : ∀ z, tb' z = tb ((Rect.unit (s := S100000x128) ![0, 0] S100000x128.size inb_S100000x128_S100000x128_0_0).emb z))
    (hh : ∀ x, (Ring.asList row x).toNat < S100000x128.size (gathers_S100000x128_S128x128).axis) :
    SparseCore.gatherPayload gathers_S100000x128_S128x128 tb' (SparseCore.rows (Ring.asList row) rfl hh) y
      = gat h tb ix ((Rect.unit (s := ⟨2, ![N, 128]⟩) ![128 * r, 0] S128x128.size inbb).emb y) := by
  have hx : ∀ x : S128.Idx, Ring.asList row x = ix ((⟨2, ![n, 128]⟩ : Shape).rowMajor.symm
      (((Rect.unit (s := ⟨2, ![N, 128]⟩) ![128 * r, 0] S128x128.size inbb).emb (Shape.pair (d := ![128, 128]) (x 0) (y 1)) 0).cast h)) := by
    intro x
    unfold Ring.asList
    rw [hrow]
    refine congrArg ix ?_
    rw [Equiv.eq_symm_apply]
    apply Fin.ext
    rw [Shape.rowMajor_val_two]
    have e : (Shape.reshapeEquiv squeezes_S1x128_S128.numel_eq x : S1x128.Idx) = Shape.pair (d := ![1, 128]) ⟨0, Nat.one_pos⟩ (x 0) :=
      Shape.reshapeEquiv_eq_of_rowMajor _ (by rw [Shape.rowMajor_val_one, Shape.rowMajor_val_two]; change 0 * 128 + (x 0).val = _; omega)
    rw [e]
    change (r + 1 * (0 + 1 * 0)) * 128 + (0 + 1 * (0 + 1 * (x 0).val)) = 128 * r + 1 * (x 0).val
    omega
  unfold SparseCore.gatherPayload gat
  rw [htb]
  refine congrArg tb ?_
  funext c
  apply Fin.ext
  by_cases hc : c.val = 0
  · obtain rfl : c = 0 := Fin.ext hc
    have h1 := congrArg Fin.val (Shape.Gathers.idx_axis gathers_S100000x128_S128x128 (SparseCore.rows (Ring.asList row) rfl hh) y)
    have hz : S128.rowMajor.symm (Fin.cast (rfl : S128.numel = 128).symm (y 0)) = at128 (y 0) := by
      rw [Equiv.symm_apply_eq]; exact Fin.ext (Shape.rowMajor_val_one (at128 (y 0))).symm
    have h2 : (SparseCore.rows (Ring.asList row) rfl hh (y 0)).val = (Ring.asList row (at128 (y 0))).toNat :=
      congrArg (fun z => (Ring.asList row z).toNat) hz
    have h3 := hh (at128 (y 0))
    change 0 + 1 * (Shape.Gathers.idx gathers_S100000x128_S128x128 (SparseCore.rows (Ring.asList row) rfl hh) y 0).val = min _ 99999
    rw [hx (at128 (y 0))] at h2 h3
    have h4 := h1.trans h2
    change _ < 100000 at h3
    change (Shape.Gathers.idx gathers_S100000x128_S128x128 (SparseCore.rows (Ring.asList row) rfl hh) y 0).val = _ at h4
    rw [h4, Nat.zero_add, Nat.one_mul]
    exact (Nat.min_eq_left (Nat.le_of_lt_succ h3)).symm
  · obtain rfl : c = 1 := Fin.ext (by have := c.isLt; change c.val < 2 at this; change c.val = 1; omega)
    have := Shape.Gathers.idx_of_ne gathers_S100000x128_S128x128 (SparseCore.rows (Ring.asList row) rfl hh) y 1 (by decide)
    change 0 + 1 * (Shape.Gathers.idx gathers_S100000x128_S128x128 (SparseCore.rows (Ring.asList row) rfl hh) y 1).val = 0 + 1 * (y 1).val
    rw [this]; rfl

/-! ## The two slots of a tile's buffers -/

/-- A buffer held at anything is two disjoint rectangles of it, together all of it, so held. -/
theorem halves (thr : Thread nD τ) {sp : Space} {s : Shape} {e : EltTy} (M : Memref sig thr.2.kind sp s e) (hM : M.view.set = Finset.univ) (r r' : Rect s)
    (hd : Disjoint r.set r'.set) (hu : ∀ i, i ∈ r.set ∨ i ∈ r'.set) {A B : Finset (Idx (M.view.loc thr))}
    (hA : A = r.set.map M.view.emb) (hB : B = r'.set.map M.view.emb) :
    (iprop(∃ f, M.view.loc thr ↦{fullShare} f) : sProp (MT nD τ sig (HIx 3) (Elt F) ℕ UU ℕ))
      = iprop((∃ f, M.view.loc thr ↦[A]{fullShare} f) ∗ ∃ f, M.view.loc thr ↦[B]{fullShare} f) := by
  subst hA hB
  refine pts_two ((Finset.disjoint_map _).mpr hd) (Finset.eq_univ_iff_forall.mpr fun x => ?_)
  have hx : x ∈ M.view.set := by rw [hM]; exact Finset.mem_univ _
  obtain ⟨i, -, rfl⟩ := Finset.mem_map.mp hx
  rcases hu i with h | h
  · exact Finset.mem_union_left _ (Finset.mem_map_of_mem _ h)
  · exact Finset.mem_union_right _ (Finset.mem_map_of_mem _ h)

/-- The first coordinate of an array of two parts picks the part. -/
theorem parts_cover {B C : ℕ} {i0 : ∀ a, (![0, 0, 0] : Fin 3 → ℕ) a + (![1, B, C] : Fin 3 → ℕ) a ≤ (⟨3, ![2, B, C]⟩ : Shape).size a}
    {i1 : ∀ a, (![1, 0, 0] : Fin 3 → ℕ) a + (![1, B, C] : Fin 3 → ℕ) a ≤ (⟨3, ![2, B, C]⟩ : Shape).size a} (i : (⟨3, ![2, B, C]⟩ : Shape).Idx) :
    i ∈ (Rect.unit (s := ⟨3, ![2, B, C]⟩) ![0, 0, 0] ![1, B, C] i0).set ∨ i ∈ (Rect.unit (s := ⟨3, ![2, B, C]⟩) ![1, 0, 0] ![1, B, C] i1).set := by
  have h0 : (i 0).val < 2 := (i 0).isLt
  have h1 : (i 1).val < B := (i 1).isLt
  have h2 : (i 2).val < C := (i 2).isLt
  rcases Nat.lt_or_ge (i 0).val 1 with h | h
  · refine .inl (Rect.mem_set_unit.mpr fun a => ?_)
    fin_cases a
    · exact ⟨Nat.zero_le _, by change (i 0).val < 0 + 1; omega⟩
    · exact ⟨Nat.zero_le _, by change (i 1).val < 0 + B; omega⟩
    · exact ⟨Nat.zero_le _, by change (i 2).val < 0 + C; omega⟩
  · refine .inr (Rect.mem_set_unit.mpr fun a => ?_)
    fin_cases a
    · exact ⟨h, by change (i 0).val < 1 + 1; omega⟩
    · exact ⟨Nat.zero_le _, by change (i 1).val < 0 + B; omega⟩
    · exact ⟨Nat.zero_le _, by change (i 2).val < 0 + C; omega⟩

end Cert.Proof.Bert
-- ==== Proof.Call.lean ====
/-
  One call of the gather over `n` index rows, whatever its arrays: what the call takes and leaves, dealt to its tiles and
  gathered from them, and a tile's task between its part of the one and of the other.
-/
module

public import proofs.«01_k».proof.Proof.Gather

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Call

section Refs
variable {n N : ℕ} (hn : 0 < n) (hN : N = 128 * n) (arg2 : Memref sig .scVector .hbm S100000x128 .f32)
  (arg3 : Memref sig .scVector .hbm ⟨2, ![n, 128]⟩ .i32) (arg4 : Memref sig .scVector .hbm ⟨2, ![N, 128]⟩ .f32)

variable (num start : Fin 2 → Fin 16 → ℕ) (d : Dev nD) (cs : Fin τ.nSC) (su : Fin τ.nSub)
  (tb : Buf (Elt F) (arg2.view.loc (V d cs su))) (ix : Buf (Elt F) (arg3.view.loc (V d cs su))) (G : Buf (Elt F) (arg4.view.loc (V d cs su)))

/-- What tile `(a, b)` is handed: its share of the table, its index rows, its blocks of the output at anything. -/
def go (a : Fin 2) (b : Fin 16) : sProp (MT nD τ sig (HIx 3) (Elt F) ℕ UU ℕ) :=
  iprop(((tab arg2).view.loc (V d cs su) ↦[(tab arg2).view.set]{ShareLeaves.leaf 5 fullShare (tileNo a b)} tb)
    ∗ (bigSep (Finset.range (num a b)) fun k =>
        (row hn arg3 (start a b + k)).view.loc (V d cs su) ↦[(row hn arg3 (start a b + k)).view.set]{fullShare} ix)
    ∗ (bigSep (Finset.range (num a b)) fun k =>
        iprop(∃ f, (blk hn hN arg4 (start a b + k)).view.loc (V d cs su) ↦[(blk hn hN arg4 (start a b + k)).view.set]{fullShare} f)))

/-- What it hands back: its share of the table, its blocks at the gathered array. -/
def td (a : Fin 2) (b : Fin 16) : sProp (MT nD τ sig (HIx 3) (Elt F) ℕ UU ℕ) :=
  iprop(((tab arg2).view.loc (V d cs su) ↦[(tab arg2).view.set]{ShareLeaves.leaf 5 fullShare (tileNo a b)} tb)
    ∗ (bigSep (Finset.range (num a b)) fun k =>
        (blk hn hN arg4 (start a b + k)).view.loc (V d cs su) ↦[(blk hn hN arg4 (start a b + k)).view.set]{fullShare} G))

instance go_storable (a : Fin 2) (b : Fin 16) :
    BI.Storable (upEmb : UEmb _ (MT nD τ sig (HIx 3) (Elt F) ℕ UU ℕ)) (go hn hN arg2 arg3 arg4 num start d cs su tb ix a b) := by
  unfold go; infer_instance
instance td_storable (a : Fin 2) (b : Fin 16) :
    BI.Storable (upEmb : UEmb _ (MT nD τ sig (HIx 3) (Elt F) ℕ UU ℕ)) (td hn hN arg2 arg4 num start d cs su tb G a b) := by
  unfold td; infer_instance

/-- The tiles' ranges of blocks make up the blocks below `n`, and every tile has a block. -/
structure Dealt (n : ℕ) (num start : Fin 2 → Fin 16 → ℕ) : Prop where
  pos : ∀ a b, 0 < num a b
  cover : Finset.range n = (Finset.univ : Finset (Fin 2 × Fin 16)).biUnion fun p => Finset.Ico (start p.1 p.2) (start p.1 p.2 + num p.1 p.2)
  apart : ∀ p p' : Fin 2 × Fin 16, p ≠ p' → start p.1 p.2 + num p.1 p.2 ≤ start p'.1 p'.2 ∨ start p'.1 p'.2 + num p'.1 p'.2 ≤ start p.1 p.2

variable (hd : Dealt n num start) (h2 : arg2.view.set = Finset.univ) (h3 : arg3.view.set = Finset.univ) (h4 : arg4.view.set = Finset.univ)

/-- Every index of the table lies in the whole-table rectangle. -/
theorem mem_all (i : S100000x128.Idx) : i ∈ (Rect.unit (s := S100000x128) ![0, 0] S100000x128.size inb_S100000x128_S100000x128_0_0).set := by
  have h0 : (i 0).val < 100000 := (i 0).isLt
  have h1 : (i 1).val < 128 := (i 1).isLt
  rw [Rect.mem_set_unit, Fin.forall_fin_two]
  change (0 ≤ (i 0).val ∧ (i 0).val < 0 + 100000) ∧ (0 ≤ (i 1).val ∧ (i 1).val < 0 + 128)
  omega

include h2 in
/-- The table, held whole, is one share of it for each of the 32 tiles. -/
theorem tab_shares : (arg2.view.loc (V d cs su) ↦{fullShare} tb : sProp (MT nD τ sig (HIx 3) (Elt F) ℕ UU ℕ))
    = bigSep Finset.univ fun a => bigSep Finset.univ fun b =>
        ((tab arg2).view.loc (V d cs su) ↦[(tab arg2).view.set]{ShareLeaves.leaf 5 fullShare (tileNo a b)} tb) := by
  have hs : (tab arg2).view.set = Finset.univ := by
    refine Finset.eq_univ_iff_forall.mpr fun x => ?_
    have hx : x ∈ arg2.view.set := by rw [h2]; exact Finset.mem_univ _
    obtain ⟨i, -, rfl⟩ := Finset.mem_map.mp hx
    rw [View.set_slice]
    exact Finset.mem_map_of_mem _ (mem_all i)
  rw [hs]
  exact (ShareLeaves.pointsTo_leaves Finset.univ tb 5 fullShare).trans
    (deal_tiles fun i => (arg2.view.loc (V d cs su) ↦{ShareLeaves.leaf 5 fullShare i} tb : sProp (MT nD τ sig (HIx 3) (Elt F) ℕ UU ℕ)))

/-- The indices of row `r` of the index rows are those whose first coordinate is `r`. -/
theorem mem_row {r : ℕ} (hr : r < n) (i : (⟨2, ![n, 128]⟩ : Shape).Idx) :
    i ∈ (Rect.unit (s := ⟨2, ![n, 128]⟩) ![min r (n - 1), 0] S1x128.size (inbR hn r)).set ↔ 1 * r ≤ (i 0).val ∧ (i 0).val < 1 * r + 1 := by
  have h1 : (i 1).val < 128 := (i 1).isLt
  rw [Rect.mem_set_unit, Fin.forall_fin_two]
  change ((min r (n - 1) ≤ (i 0).val ∧ (i 0).val < min r (n - 1) + 1) ∧ (0 ≤ (i 1).val ∧ (i 1).val < 0 + 128)) ↔ _
  omega

/-- The indices of block `r` of the output are those in its 128 rows. -/
theorem mem_blk {r : ℕ} (hr : r < n) (i : (⟨2, ![N, 128]⟩ : Shape).Idx) :
    i ∈ (Rect.unit (s := ⟨2, ![N, 128]⟩) ![128 * min r (n - 1), 0] S128x128.size (inbB hn hN r)).set ↔ 128 * r ≤ (i 0).val ∧ (i 0).val < 128 * r + 128 := by
  have h1 : (i 1).val < 128 := (i 1).isLt
  rw [Rect.mem_set_unit, Fin.forall_fin_two]
  change ((128 * min r (n - 1) ≤ (i 0).val ∧ (i 0).val < 128 * min r (n - 1) + 128) ∧ (0 ≤ (i 1).val ∧ (i 1).val < 0 + 128)) ↔ _
  omega

include hd h3 in
/-- The index rows, held whole, are each tile's own range of rows. -/
theorem rows_dealt : (arg3.view.loc (V d cs su) ↦{fullShare} ix : sProp (MT nD τ sig (HIx 3) (Elt F) ℕ UU ℕ))
    = bigSep Finset.univ fun a => bigSep Finset.univ fun b => bigSep (Finset.range (num a b)) fun k =>
        ((row hn arg3 (start a b + k)).view.loc (V d cs su) ↦[(row hn arg3 (start a b + k)).view.set]{fullShare} ix) :=
  (pts_blocks (V d cs su) arg3 h3 (fun r => Rect.unit (s := ⟨2, ![n, 128]⟩) ![min r (n - 1), 0] S1x128.size (inbR hn r)) (fun _ _ => rfl)
    (fun r hr i => mem_row hn hr i) (Nat.one_mul n).symm Nat.one_pos fullShare ix).trans
  (deal start num hd.cover hd.apart fun r => ((row hn arg3 r).view.loc (V d cs su) ↦[(row hn arg3 r).view.set]{fullShare} ix))

include hd h4 in
/-- The output, held whole, is each tile's own range of blocks. -/
theorem blks_dealt (f : Buf (Elt F) (arg4.view.loc (V d cs su))) :
    (arg4.view.loc (V d cs su) ↦{fullShare} f : sProp (MT nD τ sig (HIx 3) (Elt F) ℕ UU ℕ))
    = bigSep Finset.univ fun a => bigSep Finset.univ fun b => bigSep (Finset.range (num a b)) fun k =>
        ((blk hn hN arg4 (start a b + k)).view.loc (V d cs su) ↦[(blk hn hN arg4 (start a b + k)).view.set]{fullShare} f) :=
  (pts_blocks (V d cs su) arg4 h4 (fun r => Rect.unit (s := ⟨2, ![N, 128]⟩) ![128 * min r (n - 1), 0] S128x128.size (inbB hn hN r)) (fun _ _ => rfl)
    (fun r hr i => mem_blk hn hN hr i) hN (by decide) fullShare f).trans
  (deal start num hd.cover hd.apart fun r => ((blk hn hN arg4 r).view.loc (V d cs su) ↦[(blk hn hN arg4 r).view.set]{fullShare} f))

/-- A block held with known contents is a block held with some contents. -/
theorem blk_any (r : ℕ) (f : Buf (Elt F) (arg4.view.loc (V d cs su))) :
    (iprop((blk hn hN arg4 r).view.loc (V d cs su) ↦[(blk hn hN arg4 r).view.set]{fullShare} f) : sProp (MT nD τ sig (HIx 3) (Elt F) ℕ UU ℕ))
      ⊢ iprop(∃ f, (blk hn hN arg4 r).view.loc (V d cs su) ↦[(blk hn hN arg4 r).view.set]{fullShare} f) := by
  iintro H
  iexists f
  iexact H

include hd h2 h3 h4 in
/-- The call's arrays, dealt to the tiles. -/
theorem enter (f : Buf (Elt F) (arg4.view.loc (V d cs su))) :
    (iprop((arg2.view.loc (V d cs su) ↦{fullShare} tb) ∗ (arg3.view.loc (V d cs su) ↦{fullShare} ix) ∗ (arg4.view.loc (V d cs su) ↦{fullShare} f))
        : sProp (MT nD τ sig (HIx 3) (Elt F) ℕ UU ℕ))
      ⊢ bigSep Finset.univ fun a => bigSep Finset.univ fun b => go hn hN arg2 arg3 arg4 num start d cs su tb ix a b := by
  rw [tab_shares arg2 d cs su tb h2, rows_dealt hn arg3 num start d cs su ix hd h3, blks_dealt hn hN arg4 num start d cs su hd h4]
  rw [← bigSep_sep', ← bigSep_sep']
  refine bigSep_mono fun a _ => ?_
  rw [← bigSep_sep', ← bigSep_sep']
  refine bigSep_mono fun b _ => ?_
  unfold go
  have hb : (bigSep (Finset.range (num a b)) fun k =>
        ((blk hn hN arg4 (start a b + k)).view.loc (V d cs su) ↦[(blk hn hN arg4 (start a b + k)).view.set]{fullShare} f)
          : sProp (MT nD τ sig (HIx 3) (Elt F) ℕ UU ℕ))
      ⊢ bigSep (Finset.range (num a b)) fun k =>
        iprop(∃ f, (blk hn hN arg4 (start a b + k)).view.loc (V d cs su) ↦[(blk hn hN arg4 (start a b + k)).view.set]{fullShare} f) :=
    bigSep_mono fun k _ => blk_any hn hN arg4 d cs su _ f
  exact BI.sep_mono_r (BI.sep_mono_r hb)

include hd h2 h4 in
/-- What the tiles hand back, together. -/
theorem leave :
    (bigSep Finset.univ fun a => bigSep Finset.univ fun b => td hn hN arg2 arg4 num start d cs su tb G a b)
      ⊢ (iprop((arg2.view.loc (V d cs su) ↦{fullShare} tb) ∗ (arg4.view.loc (V d cs su) ↦{fullShare} G)) : sProp (MT nD τ sig (HIx 3) (Elt F) ℕ UU ℕ)) := by
  rw [tab_shares arg2 d cs su tb h2, blks_dealt hn hN arg4 num start d cs su hd h4]
  rw [← bigSep_sep']
  refine bigSep_mono fun a _ => ?_
  rw [← bigSep_sep']
  exact BI.Entails.refl _

section Task
variable (al : Memref sig .scVector .vmem S2x1x128 .i32) (v12 : DmaSems sig S2)
  (al4 : Memref sig .scVector .vmem S2x128x128 .f32) (v13 : DmaSems sig S2) (r1 : DmaSems sig S_) (hc : Credits al4)
variable (hrow : N = (⟨2, ![n, 128]⟩ : Shape).numel)
  (hG : arg4.view.read (Elt F) G = gat hrow (arg2.view.read (Elt F) tb) (arg3.view.read (Elt F) ix))
  (hix : ∀ j, (arg3.view.read (Elt F) ix j).toNat < 100000)

include hG in
/-- What a block is gathered with is the block of the gathered array. -/
theorem pay_eq (s k : ℕ) (h : (ring hn hN arg2 arg3 arg4 s al v12 al4 v13 r1 hc).InRange d cs su (fun _ => ix) k) :
    (ring hn hN arg2 arg3 arg4 s al v12 al4 v13 r1 hc).pay d cs su tb (fun _ => ix) k h = (blk hn hN arg4 (s + k)).view.read (Elt F) G := by
  funext y
  refine (gat_block hrow (arg2.view.read (Elt F) tb) (arg3.view.read (Elt F) ix) (min (s + k) (n - 1)) (inbR hn _) (inbB hn hN _) y
    ((row hn arg3 (s + k)).view.read (Elt F) ix) (fun z => rfl) ((tab arg2).view.read (Elt F) tb) (fun z => rfl) h).trans ?_
  rw [← hG]
  rfl

include hix in
/-- Every index word names a row of the table, so each trip's gather is in range. -/
theorem inRange (s k : ℕ) : (ring hn hN arg2 arg3 arg4 s al v12 al4 v13 r1 hc).InRange d cs su (fun _ => ix) k := fun _ => hix _

/-- The buffer of index rows is its two slots. -/
theorem slotI_halves (s : ℕ) (hal : al.view.set = Finset.univ) :
    (iprop(∃ f, al.view.loc (V d cs su) ↦{fullShare} f) : sProp (MT nD τ sig (HIx 3) (Elt F) ℕ UU ℕ))
      = iprop((∃ f, ((ring hn hN arg2 arg3 arg4 s al v12 al4 v13 r1 hc).slotI 0).view.loc (V d cs su)
            ↦[((ring hn hN arg2 arg3 arg4 s al v12 al4 v13 r1 hc).slotI 0).view.set]{fullShare} f)
          ∗ ∃ f, ((ring hn hN arg2 arg3 arg4 s al v12 al4 v13 r1 hc).slotI 1).view.loc (V d cs su)
            ↦[((ring hn hN arg2 arg3 arg4 s al v12 al4 v13 r1 hc).slotI 1).view.set]{fullShare} f) :=
  halves (V d cs su) al hal (Rect.unit (s := S2x1x128) ![0, 0, 0] S1x1x128.size (inb3 0)) (Rect.unit (s := S2x1x128) ![1, 0, 0] S1x1x128.size (inb3 1))
    (Rect.unit_disjoint 0 (.inl (by decide))) (fun i => parts_cover i) ((View.set_reshape _ _).trans (View.set_slice _ _)) ((View.set_reshape _ _).trans (View.set_slice _ _))

/-- The buffer of blocks is its two slots. -/
theorem slotD_halves (s : ℕ) (hal4 : al4.view.set = Finset.univ) :
    (iprop(∃ f, al4.view.loc (V d cs su) ↦{fullShare} f) : sProp (MT nD τ sig (HIx 3) (Elt F) ℕ UU ℕ))
      = iprop((∃ f, ((ring hn hN arg2 arg3 arg4 s al v12 al4 v13 r1 hc).slotD 0).view.loc (V d cs su)
            ↦[((ring hn hN arg2 arg3 arg4 s al v12 al4 v13 r1 hc).slotD 0).view.set]{fullShare} f)
          ∗ ∃ f, ((ring hn hN arg2 arg3 arg4 s al v12 al4 v13 r1 hc).slotD 1).view.loc (V d cs su)
            ↦[((ring hn hN arg2 arg3 arg4 s al v12 al4 v13 r1 hc).slotD 1).view.set]{fullShare} f) :=
  halves (V d cs su) al4 hal4 (Rect.unit (s := S2x128x128) ![0, 0, 0] S1x128x128.size (inb3' 0)) (Rect.unit (s := S2x128x128) ![1, 0, 0] S1x128x128.size (inb3' 1))
    (Rect.unit_disjoint 0 (.inl (by decide))) (fun i => parts_cover i) ((View.set_reshape _ _).trans (View.set_slice _ _)) ((View.set_reshape _ _).trans (View.set_slice _ _))

variable (O : CellTallies nD τ sig (HIx 3)) (W : Waits sig (HIx 3)) (a : Fin 2) (b : Fin 16)

include hd hG hix in
/-- A tile's task, from what it is handed to what it hands back. -/
theorem tile (hF : (K (F := F)).Facts) (hO : ∀ g, O g none = 0) {p : Prog (TpuEff nD τ sig (Elt F) Λ₀ (.scVector cs su)) PUnit}
    (hal : al.view.set = Finset.univ) (hal4 : al4.view.set = Finset.univ) {rB : sProp (MT nD τ sig (HIx 3) (Elt F) ℕ UU ℕ)}
    (hB : (ownBufs (V d cs su) : sProp (MT nD τ sig (HIx 3) (Elt F) ℕ UU ℕ))
      = iprop((∃ f, al.view.loc (V d cs su) ↦{fullShare} f) ∗ (∃ f, al4.view.loc (V d cs su) ↦{fullShare} f) ∗ rB))
    (hs : ∀ s ∈ sems v12 v13 r1, s.isScoped .scVector = true) (hs' : (sems v12 v13 r1).Nodup)
    (htask : ∀ (tb : Buf (Elt F) (View.loc (V d cs su) (ring hn hN arg2 arg3 arg4 (start a b) al v12 al4 v13 r1 hc).tab.view))
        (ix : ∀ k, Buf (Elt F) (View.loc (V d cs su) ((ring hn hN arg2 arg3 arg4 (start a b) al v12 al4 v13 r1 hc).row k).view))
        (qt qi : PosShare TreeShare) (O : CellTallies nD τ sig (HIx 3)) (W : Waits sig (HIx 3)),
      (∀ k, (ring hn hN arg2 arg3 arg4 (start a b) al v12 al4 v13 r1 hc).InRange d cs su ix k) →
      (ring hn hN arg2 arg3 arg4 (start a b) al v12 al4 v13 r1 hc).pre d cs su tb ix qt qi O W (num a b)
      ⊢ wp frame (wpE (defs₀ (F := F)) 𝒱₀ (V d cs su) none) Set.univ p
        fun _ => (ring hn hN arg2 arg3 arg4 (start a b) al v12 al4 v13 r1 hc).post d cs su tb ix qt O W (num a b)) :
    iprop(levAts (K (F := F)).L (K (F := F)).lev ∗ emp ∗ go hn hN arg2 arg3 arg4 num start d cs su tb ix a b
        ∗ scopedBufs (V d cs su) ∗ scopedSems0 (V d cs su) ∗ owes (V d cs su) O W)
      ⊢ wp frame (wpE (defs₀ (F := F)) 𝒱₀ (V d cs su) none) Set.univ p
          fun _ => iprop(td hn hN arg2 arg4 num start d cs su tb G a b
            ∗ scopedBufs (V d cs su) ∗ scopedSems0 (V d cs su)
            ∗ ∃ W', ⌜∀ p ∈ W', p ∈ W ∨ p.2 = none⌝ ∗ owes (V d cs su) O W') := by
  have hI := slotI_halves hn hN arg2 arg3 arg4 d cs su al v12 al4 v13 r1 hc (start a b) hal (F := F)
  have hD := slotD_halves hn hN arg2 arg3 arg4 d cs su al v12 al4 v13 r1 hc (start a b) hal4 (F := F)
  have hdone : ∀ k < num a b, (ring hn hN arg2 arg3 arg4 (start a b) al v12 al4 v13 r1 hc).done d cs su tb (fun _ => ix) k
      ⊢ (blk hn hN arg4 (start a b + k)).view.loc (V d cs su) ↦[(blk hn hN arg4 (start a b + k)).view.set]{fullShare} G :=
    fun k _ => Ring.done_at (ring hn hN arg2 arg3 arg4 (start a b) al v12 al4 v13 r1 hc) d cs su tb (fun _ => ix) k G fun h => pay_eq hn hN arg2 arg3 arg4 d cs su tb ix G al v12 al4 v13 r1 hc hrow hG (start a b) k h
  have hS := ownSems_five (F := F) (V d cs su) _ _ _ _ _ hs hs'
  exact Ring.wrap (ring hn hN arg2 arg3 arg4 (start a b) al v12 al4 v13 r1 hc) d cs su tb (fun _ => ix) (ShareLeaves.leaf 5 fullShare (tileNo a b)) fullShare O W
    (hd.pos a b) hF hO hB hI hD hS hdone (htask _ _ _ _ _ _ fun k => inRange hn hN arg2 arg3 arg4 d cs su ix al v12 al4 v13 r1 hc hix (start a b) k)

end Task

end Refs

/-! ## The calls' ranges -/

/-- Ranges deal out the blocks below `n` when none is empty, each ends by `n`, every block lies in one, and each ends before a later tile's starts. -/
theorem dealt_of {n : ℕ} {num start : Fin 2 → Fin 16 → ℕ} (hp : ∀ a b, 0 < num a b) (hle : ∀ a b, start a b + num a b ≤ n)
    (hc : ∀ x : Fin n, ∃ a b, start a b ≤ x.val ∧ x.val < start a b + num a b)
    (ha : ∀ a b a' b', 16 * a.val + b.val < 16 * a'.val + b'.val → start a b + num a b ≤ start a' b') : Dealt n num start where
  pos := hp
  cover := by
    ext x
    simp only [Finset.mem_range, Finset.mem_biUnion, Finset.mem_univ, true_and, Finset.mem_Ico, Prod.exists]
    exact ⟨fun h => hc ⟨x, h⟩, fun ⟨a, b, _, h⟩ => Nat.lt_of_lt_of_le h (hle a b)⟩
  apart p p' h := by
    have hne : 16 * p.1.val + p.2.val ≠ 16 * p'.1.val + p'.2.val := fun e => h (Prod.ext (Fin.ext (by omega)) (Fin.ext (by omega)))
    rcases Nat.lt_or_gt_of_ne hne with h | h
    · exact .inl (ha _ _ _ _ h)
    · exact .inr (ha _ _ _ _ h)

/-- The 600 blocks of the first two calls are dealt to the tiles. -/
theorem dealt0 : Dealt 600 K0.num K0.start :=
  dealt_of (by decide +kernel) (by decide +kernel) (by decide +kernel) (by decide +kernel)
/-- The 400 blocks of the third call are dealt to the tiles. -/
theorem dealt4 : Dealt 400 K4.num K4.start :=
  dealt_of (by decide +kernel) (by decide +kernel) (by decide +kernel) (by decide +kernel)

end Call

end Cert.Proof.Bert
-- ==== Proof.Tiles.lean ====
/-
  What each of the three SparseCore calls hands its tiles and is handed back, as the launch theorem takes it.
-/
module

public import proofs.«01_k».proof.Proof.Call

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-- The contents of the table and of the index rows each call is handed. -/
structure Words (F : FTy → Type) where
  tb : Dev nD → S100000x128.Idx → Elt F .f32
  i0 : Dev nD → S600x128.Idx → Elt F .i32
  i1 : Dev nD → S600x128.Idx → Elt F .i32
  i2 : Dev nD → S400x128.Idx → Elt F .i32

/-- The first two calls gather 76800 rows, one per index word. -/
theorem numel0 : 76800 = (⟨2, ![600, 128]⟩ : Shape).numel := by decide
/-- The third call gathers 51200 rows, one per index word. -/
theorem numel4 : 51200 = (⟨2, ![400, 128]⟩ : Shape).numel := by decide

namespace Words
variable (w : Words F)

/-- Every word of the index rows names a row of the table. -/
structure Ok : Prop where
  h0 : ∀ d j, (w.i0 d j).toNat < 100000
  h1 : ∀ d j, (w.i1 d j).toNat < 100000
  h2 : ∀ d j, (w.i2 d j).toNat < 100000

/-- The gathered array of each call. -/
def g0 (d : Dev nD) : S76800x128.Idx → Elt F .f32 := gat (n := 600) (N := 76800) numel0 (w.tb d) (w.i0 d)
def g1 (d : Dev nD) : S76800x128.Idx → Elt F .f32 := gat (n := 600) (N := 76800) numel0 (w.tb d) (w.i1 d)
def g2 (d : Dev nD) : S51200x128.Idx → Elt F .f32 := gat (n := 400) (N := 51200) numel4 (w.tb d) (w.i2 d)

/-- What tile `(a, b)` is handed and hands back at each call. -/
def go0 (d : Dev nD) (cs : Fin τ.nSC) (su : Fin τ.nSub) (a : Fin 2) (b : Fin 16) : sProp (MT nD τ sig (HIx 3) (Elt F) ℕ UU ℕ) :=
  Call.go (n := 600) (N := 76800) (Nat.succ_pos _) rfl (.whole main_arg2_scv) (.whole main_v7_scv) (.whole main_v8_scv) K0.num K0.start d cs su (w.tb d) (w.i0 d) a b
def go1 (d : Dev nD) (cs : Fin τ.nSC) (su : Fin τ.nSub) (a : Fin 2) (b : Fin 16) : sProp (MT nD τ sig (HIx 3) (Elt F) ℕ UU ℕ) :=
  Call.go (n := 600) (N := 76800) (Nat.succ_pos _) rfl (.whole main_arg2_scv) (.whole main_v10_scv) (.whole main_v11_scv) K0.num K0.start d cs su (w.tb d) (w.i1 d) a b
def go2 (d : Dev nD) (cs : Fin τ.nSC) (su : Fin τ.nSub) (a : Fin 2) (b : Fin 16) : sProp (MT nD τ sig (HIx 3) (Elt F) ℕ UU ℕ) :=
  Call.go (n := 400) (N := 51200) (Nat.succ_pos _) rfl (.whole main_arg2_scv) (.whole main_v13_scv) (.whole main_v14_scv) K4.num K4.start d cs su (w.tb d) (w.i2 d) a b
def td0 (d : Dev nD) (cs : Fin τ.nSC) (su : Fin τ.nSub) (a : Fin 2) (b : Fin 16) : sProp (MT nD τ sig (HIx 3) (Elt F) ℕ UU ℕ) :=
  Call.td (n := 600) (N := 76800) (Nat.succ_pos _) rfl (.whole main_arg2_scv) (.whole main_v8_scv) K0.num K0.start d cs su (w.tb d) (w.g0 d) a b
def td1 (d : Dev nD) (cs : Fin τ.nSC) (su : Fin τ.nSub) (a : Fin 2) (b : Fin 16) : sProp (MT nD τ sig (HIx 3) (Elt F) ℕ UU ℕ) :=
  Call.td (n := 600) (N := 76800) (Nat.succ_pos _) rfl (.whole main_arg2_scv) (.whole main_v11_scv) K0.num K0.start d cs su (w.tb d) (w.g1 d) a b
def td2 (d : Dev nD) (cs : Fin τ.nSC) (su : Fin τ.nSub) (a : Fin 2) (b : Fin 16) : sProp (MT nD τ sig (HIx 3) (Elt F) ℕ UU ℕ) :=
  Call.td (n := 400) (N := 51200) (Nat.succ_pos _) rfl (.whole main_arg2_scv) (.whole main_v14_scv) K4.num K4.start d cs su (w.tb d) (w.g2 d) a b

/-- The subcore at which the arrays' references are read (a reference to shared memory denotes the same buffer at every one). -/
abbrev c0 : Fin τ.nSC := ⟨0, by decide⟩
abbrev s0 : Fin τ.nSub := ⟨0, by decide⟩

/-- What tile `(a, b)` is handed at call `q`, -/
def goQ (q : Fin 3) (d : Dev nD) (a : Fin 2) (b : Fin 16) : sProp (MT nD τ sig (HIx 3) (Elt F) ℕ UU ℕ) :=
  match q with | 0 => w.go0 d c0 s0 a b | 1 => w.go1 d c0 s0 a b | 2 => w.go2 d c0 s0 a b
/-- and what it hands back. -/
def tdQ (q : Fin 3) (d : Dev nD) (a : Fin 2) (b : Fin 16) : sProp (MT nD τ sig (HIx 3) (Elt F) ℕ UU ℕ) :=
  match q with | 0 => w.td0 d c0 s0 a b | 1 => w.td1 d c0 s0 a b | 2 => w.td2 d c0 s0 a b

instance goQ_storable (q : Fin 3) (d : Dev nD) (a : Fin 2) (b : Fin 16) : BI.Storable (upEmb : UEmb _ (MT nD τ sig (HIx 3) (Elt F) ℕ UU ℕ)) (w.goQ q d a b) :=
  match q with
  | 0 => by unfold goQ go0; infer_instance
  | 1 => by unfold goQ go1; infer_instance
  | 2 => by unfold goQ go2; infer_instance
instance tdQ_storable (q : Fin 3) (d : Dev nD) (a : Fin 2) (b : Fin 16) : BI.Storable (upEmb : UEmb _ (MT nD τ sig (HIx 3) (Elt F) ℕ UU ℕ)) (w.tdQ q d a b) :=
  match q with
  | 0 => by unfold tdQ td0; infer_instance
  | 1 => by unfold tdQ td1; infer_instance
  | 2 => by unfold tdQ td2; infer_instance

/-- Every call runs on two SparseCores, -/
theorem nCore_eq (q : Fin 3) : (K (F := F)).nCore q = 2 := match q with | 0 => rfl | 1 => rfl | 2 => rfl
/-- of 16 tiles each. -/
theorem nSub_eq (q : Fin 3) : (K (F := F)).nSub q = 16 := match q with | 0 => rfl | 1 => rfl | 2 => rfl

/-- The handshakes' payloads. -/
def P : (K (F := F)).Pay (nD := nD) (Val := Elt F) (Name := ℕ) (U := UU) where
  st q d c := bigSep Finset.univ fun b : Fin 16 => w.goQ q d (Fin.cast (nCore_eq q) c) b
  dn q d c := bigSep Finset.univ fun b : Fin 16 => w.tdQ q d (Fin.cast (nCore_eq q) c) b
  go q d c i := w.goQ q d (Fin.cast (nCore_eq q) c) (Fin.cast (nSub_eq q) i)
  td q d c i := w.tdQ q d (Fin.cast (nCore_eq q) c) (Fin.cast (nSub_eq q) i)
  x _ _ := iprop(emp)

instance P_storable : (w.P).IsStorable where
  st q d c := (inferInstance : BI.Storable (upEmb : UEmb _ (MT nD τ sig (HIx 3) (Elt F) ℕ UU ℕ)) (bigSep Finset.univ fun b : Fin 16 => w.goQ q d (Fin.cast (nCore_eq q) c) b))
  dn q d c := (inferInstance : BI.Storable (upEmb : UEmb _ (MT nD τ sig (HIx 3) (Elt F) ℕ UU ℕ)) (bigSep Finset.univ fun b : Fin 16 => w.tdQ q d (Fin.cast (nCore_eq q) c) b))
  go q d c i := w.goQ_storable q d _ _
  td q d c i := w.tdQ_storable q d _ _

/-- A call's operands for one SparseCore are its tiles', and its results theirs. -/
theorem vecSplit (q : Fin 3) : (K (F := F)).VecSplit' w.P q := by
  intro d c
  have h : ∀ Φ : Fin 16 → sProp (MT nD τ sig (HIx 3) (Elt F) ℕ UU ℕ), bigSep Finset.univ Φ
      = bigSep Finset.univ fun i : Fin ((K (F := F)).nSub q) => Φ (Fin.cast (nSub_eq q) i) :=
    fun Φ => bigSep_univ_equiv (finCongr (nSub_eq q)) Φ
  show (bigSep Finset.univ fun b : Fin 16 => w.goQ q d (Fin.cast (nCore_eq q) c) b) ⊢ |={Set.univ}=> iprop(
    (bigSep Finset.univ fun i : Fin ((K (F := F)).nSub q) => w.goQ q d (Fin.cast (nCore_eq q) c) (Fin.cast (nSub_eq q) i))
      ∗ ((bigSep Finset.univ fun i : Fin ((K (F := F)).nSub q) => w.tdQ q d (Fin.cast (nCore_eq q) c) (Fin.cast (nSub_eq q) i))
        -∗ bigSep Finset.univ fun b : Fin 16 => w.tdQ q d (Fin.cast (nCore_eq q) c) b))
  rw [h, h]
  iintro H
  imodintro
  isplitl [H]; · iexact H
  iintro H
  iexact H

end Words

end Cert.Proof.Bert
-- ==== Proof.Obl.lean ====
/-
  The three SparseCore calls as the launch theorem takes them: every tile's task keeps to what its call hands it and takes
  back, and what a call's arrays become over the call.
-/
module

public import proofs.«01_k».proof.Proof.Tiles

@[expose] public section

noncomputable section
namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

namespace Words
variable (w : Words F)

/-! ## The tiles' tasks -/

/-- The first call's block slots are credited by their rows; -/
theorem credits0 : Call.Credits (.whole (sig := sig) cc0_scoped2) := Call.credits_of (by unfold Call.CreditAt; decide +kernel)
/-- so are the second call's, -/
theorem credits2 : Call.Credits (.whole (sig := sig) cc2_scoped2) := Call.credits_of (by unfold Call.CreditAt; decide +kernel)
/-- and the third's. -/
theorem credits4 : Call.Credits (.whole (sig := sig) cc4_scoped2) := Call.credits_of (by unfold Call.CreditAt; decide +kernel)

/-- The first call's task, by its program text. -/
theorem defs₀_0 (c : Fin τ.nSC) (s : Fin τ.nSub) :
    defs₀ (F := F) (.scVector c s) 0 () = SparseCore.onTile hcore0 hsub0 (fun c s => cc0_gather_kernel (K0.crd c s) (.whole main_arg2_scv) (Memref.isWhole_whole _) (.whole main_v7_scv) (Memref.isWhole_whole _) (.whole main_v8_scv) (Memref.isWhole_whole _) (.whole cc0_scoped0) (Memref.isWhole_whole _) cc0_scoped1 (.whole cc0_scoped2) (Memref.isWhole_whole _) cc0_scoped3 cc0_scoped4 cc0_scoped5) ⟨⟩ c s := rfl
/-- The second call's task is the first's, over its own arrays. -/
theorem defs₀_2 (c : Fin τ.nSC) (s : Fin τ.nSub) :
    defs₀ (F := F) (.scVector c s) 2 () = SparseCore.onTile hcore0 hsub0 (fun c s => cc0_gather_kernel (K0.crd c s) (.whole main_arg2_scv) (Memref.isWhole_whole _) (.whole main_v10_scv) (Memref.isWhole_whole _) (.whole main_v11_scv) (Memref.isWhole_whole _) (.whole cc2_scoped0) (Memref.isWhole_whole _) cc2_scoped1 (.whole cc2_scoped2) (Memref.isWhole_whole _) cc2_scoped3 cc2_scoped4 cc2_scoped5) ⟨⟩ c s := rfl
/-- The third call's task, by its program text. -/
theorem defs₀_4 (c : Fin τ.nSC) (s : Fin τ.nSub) :
    defs₀ (F := F) (.scVector c s) 4 () = SparseCore.onTile hcore4 hsub4 (fun c s => cc4_gather_kernel (K4.crd c s) (.whole main_arg2_scv) (Memref.isWhole_whole _) (.whole main_v13_scv) (Memref.isWhole_whole _) (.whole main_v14_scv) (Memref.isWhole_whole _) (.whole cc4_scoped0) (Memref.isWhole_whole _) cc4_scoped1 (.whole cc4_scoped2) (Memref.isWhole_whole _) cc4_scoped3 cc4_scoped4 cc4_scoped5) ⟨⟩ c s := rfl

/-- A task waits only at the index it was given or at none. -/
theorem obl_post {thr : Thread nD τ} {A B C : sProp (MT nD τ sig (HIx 3) (Elt F) ℕ UU ℕ)} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Words

attribute [local irreducible] Idealize.SL.Sem.wp

namespace Words
variable (w : Words F)

/-- A whole buffer's view covers every index. -/
theorem whole_pure {κ : Kind} (r : Ref sig κ) : (Memref.whole (sig := sig) r).view.set = Finset.univ := View.set_whole _

section Bodies
variable (hw : w.Ok) (d : Dev nD) (a : Fin 2) (b : Fin 16) (O : CellTallies nD τ sig (HIx 3)) (W : Waits sig (HIx 3)) (hO : ∀ g, O g none = 0)
include hw hO

/-- A tile's task in the first call. -/
theorem body0 : iprop(levAts (K (F := F)).L (K (F := F)).lev ∗ emp ∗ w.go0 d (K0.cs a b) (K0.su a b) a b
        ∗ scopedBufs (V d (K0.cs a b) (K0.su a b)) ∗ scopedSems0 (V d (K0.cs a b) (K0.su a b)) ∗ owes (V d (K0.cs a b) (K0.su a b)) O W)
      ⊢ wp frame (wpE (defs₀ (F := F)) 𝒱₀ (V d (K0.cs a b) (K0.su a b)) none) Set.univ
          (cc0_gather_kernel (K0.crd a b) (.whole main_arg2_scv) (Memref.isWhole_whole _) (.whole main_v7_scv) (Memref.isWhole_whole _) (.whole main_v8_scv) (Memref.isWhole_whole _) (.whole cc0_scoped0) (Memref.isWhole_whole _) cc0_scoped1 (.whole cc0_scoped2) (Memref.isWhole_whole _) cc0_scoped3 cc0_scoped4 cc0_scoped5)
          fun _ => iprop(w.td0 d (K0.cs a b) (K0.su a b) a b ∗ scopedBufs (V d (K0.cs a b) (K0.su a b)) ∗ scopedSems0 (V d (K0.cs a b) (K0.su a b))
            ∗ ∃ W', ⌜∀ p ∈ W', p ∈ W ∨ p.2 = none⌝ ∗ owes (V d (K0.cs a b) (K0.su a b)) O W') :=
  Call.tile (n := 600) (N := 76800) (Nat.succ_pos _) rfl (.whole main_arg2_scv) (.whole main_v7_scv) (.whole main_v8_scv) K0.num K0.start
    d (K0.cs a b) (K0.su a b) (w.tb d) (w.i0 d) (w.g0 d) Call.dealt0 (.whole cc0_scoped0) cc0_scoped1 (.whole cc0_scoped2) cc0_scoped3 cc0_scoped4
    credits0 numel0 rfl (hw.h0 d) O W a b (facts (F := F)) hO (whole_pure _) (whole_pure _)
    (ownBufs_two d (K0.cs a b) (K0.su a b) cc0_scoped0 cc0_scoped2 rfl rfl (by decide)) (by decide +kernel) (by decide +kernel)
    (K0.task a b _ _ _ _ _ _ _ _ _ _ _ _ _ _ _ d)

/-- A tile's task in the second call. -/
theorem body1 : iprop(levAts (K (F := F)).L (K (F := F)).lev ∗ emp ∗ w.go1 d (K0.cs a b) (K0.su a b) a b
        ∗ scopedBufs (V d (K0.cs a b) (K0.su a b)) ∗ scopedSems0 (V d (K0.cs a b) (K0.su a b)) ∗ owes (V d (K0.cs a b) (K0.su a b)) O W)
      ⊢ wp frame (wpE (defs₀ (F := F)) 𝒱₀ (V d (K0.cs a b) (K0.su a b)) none) Set.univ
          (cc0_gather_kernel (K0.crd a b) (.whole main_arg2_scv) (Memref.isWhole_whole _) (.whole main_v10_scv) (Memref.isWhole_whole _) (.whole main_v11_scv) (Memref.isWhole_whole _) (.whole cc2_scoped0) (Memref.isWhole_whole _) cc2_scoped1 (.whole cc2_scoped2) (Memref.isWhole_whole _) cc2_scoped3 cc2_scoped4 cc2_scoped5)
          fun _ => iprop(w.td1 d (K0.cs a b) (K0.su a b) a b ∗ scopedBufs (V d (K0.cs a b) (K0.su a b)) ∗ scopedSems0 (V d (K0.cs a b) (K0.su a b))
            ∗ ∃ W', ⌜∀ p ∈ W', p ∈ W ∨ p.2 = none⌝ ∗ owes (V d (K0.cs a b) (K0.su a b)) O W') :=
  Call.tile (n := 600) (N := 76800) (Nat.succ_pos _) rfl (.whole main_arg2_scv) (.whole main_v10_scv) (.whole main_v11_scv) K0.num K0.start
    d (K0.cs a b) (K0.su a b) (w.tb d) (w.i1 d) (w.g1 d) Call.dealt0 (.whole cc2_scoped0) cc2_scoped1 (.whole cc2_scoped2) cc2_scoped3 cc2_scoped4
    credits2 numel0 rfl (hw.h1 d) O W a b (facts (F := F)) hO (whole_pure _) (whole_pure _)
    (ownBufs_two d (K0.cs a b) (K0.su a b) cc2_scoped0 cc2_scoped2 rfl rfl (by decide)) (by decide +kernel) (by decide +kernel)
    (K0.task a b _ _ _ _ _ _ _ _ _ _ _ _ _ _ _ d)

/-- A tile's task in the third call. -/
theorem body2 : iprop(levAts (K (F := F)).L (K (F := F)).lev ∗ emp ∗ w.go2 d (K4.cs a b) (K4.su a b) a b
        ∗ scopedBufs (V d (K4.cs a b) (K4.su a b)) ∗ scopedSems0 (V d (K4.cs a b) (K4.su a b)) ∗ owes (V d (K4.cs a b) (K4.su a b)) O W)
      ⊢ wp frame (wpE (defs₀ (F := F)) 𝒱₀ (V d (K4.cs a b) (K4.su a b)) none) Set.univ
          (cc4_gather_kernel (K4.crd a b) (.whole main_arg2_scv) (Memref.isWhole_whole _) (.whole main_v13_scv) (Memref.isWhole_whole _) (.whole main_v14_scv) (Memref.isWhole_whole _) (.whole cc4_scoped0) (Memref.isWhole_whole _) cc4_scoped1 (.whole cc4_scoped2) (Memref.isWhole_whole _) cc4_scoped3 cc4_scoped4 cc4_scoped5)
          fun _ => iprop(w.td2 d (K4.cs a b) (K4.su a b) a b ∗ scopedBufs (V d (K4.cs a b) (K4.su a b)) ∗ scopedSems0 (V d (K4.cs a b) (K4.su a b))
            ∗ ∃ W', ⌜∀ p ∈ W', p ∈ W ∨ p.2 = none⌝ ∗ owes (V d (K4.cs a b) (K4.su a b)) O W') :=
  Call.tile (n := 400) (N := 51200) (Nat.succ_pos _) rfl (.whole main_arg2_scv) (.whole main_v13_scv) (.whole main_v14_scv) K4.num K4.start
    d (K4.cs a b) (K4.su a b) (w.tb d) (w.i2 d) (w.g2 d) Call.dealt4 (.whole cc4_scoped0) cc4_scoped1 (.whole cc4_scoped2) cc4_scoped3 cc4_scoped4
    credits4 numel4 rfl (hw.h2 d) O W a b (facts (F := F)) hO (whole_pure _) (whole_pure _)
    (ownBufs_two d (K4.cs a b) (K4.su a b) cc4_scoped0 cc4_scoped2 rfl rfl (by decide)) (by decide +kernel) (by decide +kernel)
    (K4.task a b _ _ _ _ _ _ _ _ _ _ _ _ _ _ _ d)

end Bodies

/-- A call's tiles keep to what the call hands them and takes back if the program each runs does. -/
theorem obl_of (w : Words F) {q : Fin 3}
    {t : ∀ (c : Fin ((K (F := F)).nCore q)) (i : Fin ((K (F := F)).nSub q)), Prog (TpuEff nD τ sig (Elt F) Λ₀ (.scVector ((K (F := F)).core q c) ((K (F := F)).sub q i))) (ΛP.Result ((K (F := F)).body q))}
    (hp : ∀ c i, D (F := F) (.scVector ((K (F := F)).core q c) ((K (F := F)).sub q i)) ((K (F := F)).body q) ((K (F := F)).args q) = Pipeline.liftProg (t c i))
    (ht : ∀ (d : Dev nD) c i (O : CellTallies nD τ sig (HIx 3)) (W : Waits sig (HIx 3)), (∀ g, O g none = 0) →
      iprop(levAts (K (F := F)).L (K (F := F)).lev ∗ emp ∗ w.P.go q d c i ∗ scopedBufs (V d ((K (F := F)).core q c) ((K (F := F)).sub q i))
          ∗ scopedSems0 (V d ((K (F := F)).core q c) ((K (F := F)).sub q i)) ∗ owes (V d ((K (F := F)).core q c) ((K (F := F)).sub q i)) O W)
        ⊢ wp frame (wpE (defs₀ (F := F)) 𝒱₀ (V d ((K (F := F)).core q c) ((K (F := F)).sub q i)) none) Set.univ (t c i) fun _ =>
          iprop(w.P.td q d c i ∗ scopedBufs (V d ((K (F := F)).core q c) ((K (F := F)).sub q i))
            ∗ scopedSems0 (V d ((K (F := F)).core q c) ((K (F := F)).sub q i))
            ∗ ∃ W', ⌜∀ p ∈ W', p ∈ W ∨ p.2 = none⌝ ∗ owes (V d ((K (F := F)).core q c) ((K (F := F)).sub q i)) O W')) :
    (K (F := F)).TileObl (D (F := F)) 𝒱 w.P v₀ q := by
  intro d c i O W hO _ _
  simp only [show w.P.ox = fun _ _ => 0 from rfl, add_zero]
  rw [hp c i]
  refine BI.Entails.trans ?_ (Pipeline.wp_liftProg (D (F := F)) (Pipeline.defs_kernel pcfgs defs₀) 𝒱₀ _ Set.univ none _ _)
  exact (ht d c i O W hO).trans (wp_mono frame _ _ fun _ => obl_post)

/-- Every tile of the first call keeps to what the call hands it and takes back. -/
theorem tileObl0 (hw : w.Ok) : (K (F := F)).TileObl (D (F := F)) 𝒱 w.P v₀ 0 :=
  w.obl_of (fun c i => congrArg Pipeline.liftProg ((defs₀_0 _ _).trans (dif_pos ⟨c.isLt, i.isLt⟩)))
    fun d c i O W hO => w.body0 hw d (Fin.cast (nCore_eq 0) c) (Fin.cast (nSub_eq 0) i) O W hO

/-- Every tile of the second call keeps to what the call hands it and takes back. -/
theorem tileObl1 (hw : w.Ok) : (K (F := F)).TileObl (D (F := F)) 𝒱 w.P v₀ 1 :=
  w.obl_of (fun c i => congrArg Pipeline.liftProg ((defs₀_2 _ _).trans (dif_pos ⟨c.isLt, i.isLt⟩)))
    fun d c i O W hO => w.body1 hw d (Fin.cast (nCore_eq 1) c) (Fin.cast (nSub_eq 1) i) O W hO

/-- Every tile of the third call keeps to what the call hands it and takes back. -/
theorem tileObl2 (hw : w.Ok) : (K (F := F)).TileObl (D (F := F)) 𝒱 w.P v₀ 2 :=
  w.obl_of (fun c i => congrArg Pipeline.liftProg ((defs₀_4 _ _).trans (dif_pos ⟨c.isLt, i.isLt⟩)))
    fun d c i O W hO => w.body2 hw d (Fin.cast (nCore_eq 2) c) (Fin.cast (nSub_eq 2) i) O W hO

/-! ## A call's arrays, as the TensorCore holds them -/

/-- The calls' tiles, by SparseCore and subcore. -/
theorem over_cores (q : Fin 3) (Φ : Fin 2 → sProp (MT nD τ sig (HIx 3) (Elt F) ℕ UU ℕ)) :
    (bigSep Finset.univ fun c : Fin ((K (F := F)).nCore q) => Φ (Fin.cast (nCore_eq q) c)) = bigSep Finset.univ Φ :=
  (bigSep_univ_equiv (finCongr (nCore_eq q)) Φ).symm

/-- What the first call takes, -/
theorem enter0 (d : Dev nD) (f : S76800x128.Idx → Elt F .f32) :
    (iprop(((SparseCore.T d : Thread nD τ).loc main_arg2 ↦{fullShare} w.tb d) ∗ ((SparseCore.T d : Thread nD τ).loc main_v7 ↦{fullShare} w.i0 d) ∗ ((SparseCore.T d : Thread nD τ).loc main_v8 ↦{fullShare} f)) : sProp (MT nD τ sig (HIx 3) (Elt F) ℕ UU ℕ))
      ⊢ bigSep Finset.univ fun c : Fin ((K (F := F)).nCore 0) => w.P.st 0 d c := by
  refine (Call.enter (F := F) (n := 600) (N := 76800) (Nat.succ_pos _) rfl (.whole main_arg2_scv) (.whole main_v7_scv) (.whole main_v8_scv) K0.num K0.start d c0 s0 (w.tb d) (w.i0 d)
    Call.dealt0 (whole_pure _) (whole_pure _) (whole_pure _) f).trans ?_
  exact Entails.of_eq (over_cores 0 fun a => bigSep Finset.univ fun b => w.goQ 0 d a b).symm
/-- and what it leaves. -/
theorem leave0 (d : Dev nD) :
    (bigSep Finset.univ fun c : Fin ((K (F := F)).nCore 0) => w.P.dn 0 d c)
      ⊢ (iprop(((SparseCore.T d : Thread nD τ).loc main_arg2 ↦{fullShare} w.tb d) ∗ ((SparseCore.T d : Thread nD τ).loc main_v8 ↦{fullShare} w.g0 d)) : sProp (MT nD τ sig (HIx 3) (Elt F) ℕ UU ℕ)) := by
  refine (Entails.of_eq (over_cores 0 fun a => bigSep Finset.univ fun b => w.tdQ 0 d a b)).trans ?_
  exact Call.leave (F := F) (n := 600) (N := 76800) (Nat.succ_pos _) rfl (.whole main_arg2_scv) (.whole main_v8_scv) K0.num K0.start d c0 s0 (w.tb d) (w.g0 d)
    Call.dealt0 (whole_pure _) (whole_pure _)

/-- What the second call takes, -/
theorem enter1 (d : Dev nD) (f : S76800x128.Idx → Elt F .f32) :
    (iprop(((SparseCore.T d : Thread nD τ).loc main_arg2 ↦{fullShare} w.tb d) ∗ ((SparseCore.T d : Thread nD τ).loc main_v10 ↦{fullShare} w.i1 d) ∗ ((SparseCore.T d : Thread nD τ).loc main_v11 ↦{fullShare} f)) : sProp (MT nD τ sig (HIx 3) (Elt F) ℕ UU ℕ))
      ⊢ bigSep Finset.univ fun c : Fin ((K (F := F)).nCore 1) => w.P.st 1 d c := by
  refine (Call.enter (F := F) (n := 600) (N := 76800) (Nat.succ_pos _) rfl (.whole main_arg2_scv) (.whole main_v10_scv) (.whole main_v11_scv) K0.num K0.start d c0 s0 (w.tb d) (w.i1 d)
    Call.dealt0 (whole_pure _) (whole_pure _) (whole_pure _) f).trans ?_
  exact Entails.of_eq (over_cores 1 fun a => bigSep Finset.univ fun b => w.goQ 1 d a b).symm
/-- and what it leaves. -/
theorem leave1 (d : Dev nD) :
    (bigSep Finset.univ fun c : Fin ((K (F := F)).nCore 1) => w.P.dn 1 d c)
      ⊢ (iprop(((SparseCore.T d : Thread nD τ).loc main_arg2 ↦{fullShare} w.tb d) ∗ ((SparseCore.T d : Thread nD τ).loc main_v11 ↦{fullShare} w.g1 d)) : sProp (MT nD τ sig (HIx 3) (Elt F) ℕ UU ℕ)) := by
  refine (Entails.of_eq (over_cores 1 fun a => bigSep Finset.univ fun b => w.tdQ 1 d a b)).trans ?_
  exact Call.leave (F := F) (n := 600) (N := 76800) (Nat.succ_pos _) rfl (.whole main_arg2_scv) (.whole main_v11_scv) K0.num K0.start d c0 s0 (w.tb d) (w.g1 d)
    Call.dealt0 (whole_pure _) (whole_pure _)

/-- What the third call takes, -/
theorem enter2 (d : Dev nD) (f : S51200x128.Idx → Elt F .f32) :
    (iprop(((SparseCore.T d : Thread nD τ).loc main_arg2 ↦{fullShare} w.tb d) ∗ ((SparseCore.T d : Thread nD τ).loc main_v13 ↦{fullShare} w.i2 d) ∗ ((SparseCore.T d : Thread nD τ).loc main_v14 ↦{fullShare} f)) : sProp (MT nD τ sig (HIx 3) (Elt F) ℕ UU ℕ))
      ⊢ bigSep Finset.univ fun c : Fin ((K (F := F)).nCore 2) => w.P.st 2 d c := by
  refine (Call.enter (F := F) (n := 400) (N := 51200) (Nat.succ_pos _) rfl (.whole main_arg2_scv) (.whole main_v13_scv) (.whole main_v14_scv) K4.num K4.start d c0 s0 (w.tb d) (w.i2 d)
    Call.dealt4 (whole_pure _) (whole_pure _) (whole_pure _) f).trans ?_
  exact Entails.of_eq (over_cores 2 fun a => bigSep Finset.univ fun b => w.goQ 2 d a b).symm
/-- and what it leaves. -/
theorem leave2 (d : Dev nD) :
    (bigSep Finset.univ fun c : Fin ((K (F := F)).nCore 2) => w.P.dn 2 d c)
      ⊢ (iprop(((SparseCore.T d : Thread nD τ).loc main_arg2 ↦{fullShare} w.tb d) ∗ ((SparseCore.T d : Thread nD τ).loc main_v14 ↦{fullShare} w.g2 d)) : sProp (MT nD τ sig (HIx 3) (Elt F) ℕ UU ℕ)) := by
  refine (Entails.of_eq (over_cores 2 fun a => bigSep Finset.univ fun b => w.tdQ 2 d a b)).trans ?_
  exact Call.leave (F := F) (n := 400) (N := 51200) (Nat.succ_pos _) rfl (.whole main_arg2_scv) (.whole main_v14_scv) K4.num K4.start d c0 s0 (w.tb d) (w.g2 d)
    Call.dealt4 (whole_pure _) (whole_pure _)

end Words

end Cert.Proof.Bert
-- ==== Proof.Steps.lean ====
/-
  The steps @main takes on the TensorCore, each over a set of whole buffers held at some contents: a host operation, a
  call of the SparseCores, a call of the TensorCore's own.
-/
module

public import proofs.«01_k».proof.Proof.Regions
public import proofs.«01_k».proof.Proof.Obl
public import Idealize.ShloMosaic.Lib.Pipeline.FrameTail

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ
open Idealize.ShloMosaic.Pipeline (RegionSeg arrRefs)
open Idealize.ShloMosaic.StableHlo (held)

attribute [local irreducible] Idealize.SL.Sem.wp

/-- A host operation over a set holding its buffers. -/
theorem step_op (d : Dev nD) (op : HloOp τ sig (Elt F)) (S : Finset (DevRef τ sig)) (hS : op.bufs ⊆ S) (hf : op.fresh = ∅)
    (V : Valuation τ sig (Elt F)) {Φ : PUnit → sProp 𝕄} :
    iprop(boundary (SparseCore.T d : Thread nD τ) ∗ held (SparseCore.T d : Thread nD τ) S V
        ∗ (iprop(boundary (SparseCore.T d : Thread nD τ) ∗ held (SparseCore.T d : Thread nD τ) S (op.result V)) -∗ Φ ⟨⟩))
      ⊢ wp frame (wpE ((K (F := F)).defs (D (F := F))) 𝒱 (SparseCore.T d) none) Set.univ (hlo rfl op fun _ => .ret ⟨⟩) Φ := by
  iintro ⟨Hb, Hh, Hk⟩
  iapply (StableHlo.wp_hlo_within 𝒱 (SparseCore.T d : Thread nD τ) none Set.univ hS (hf := hf)) $$ [Hb Hh]
  · isplitl [Hb] <;> iassumption
  iintro H
  rw [wp_ret]; imodintro
  iapply Hk; iexact H

/-- Three buffers out of a held set, -/
theorem held_take (d : Dev nD) (S : Finset (DevRef τ sig)) (V : Valuation τ sig (Elt F)) (a b c : DevRef τ sig)
    (ha : a ∈ S) (hb : b ∈ S) (hc : c ∈ S) (hab : a ≠ b) (hac : a ≠ c) (hbc : b ≠ c) :
    (held (SparseCore.T d : Thread nD τ) S V : sProp 𝕄)
      = iprop((((d, a) : Loc nD τ sig) ↦{fullShare} V a) ∗ (((d, b) : Loc nD τ sig) ↦{fullShare} V b)
          ∗ (((d, c) : Loc nD τ sig) ↦{fullShare} V c) ∗ held (SparseCore.T d : Thread nD τ) (((S.erase b).erase a).erase c) V) := by
  unfold held
  rw [SparseCore.bigSep_erase' ha, SparseCore.bigSep_erase' (i := b) (by simp [hb, Ne.symm hab]),
    SparseCore.bigSep_erase' (i := c) (by simp [hc, Ne.symm hac, Ne.symm hbc]), Finset.erase_right_comm (s := S) (a := a) (b := b)]

/-- and two of them put back, the second at new contents. -/
theorem held_put (d : Dev nD) (S : Finset (DevRef τ sig)) (V : Valuation τ sig (Elt F)) (a b c : DevRef τ sig) (g)
    (ha : a ∈ S) (hc : c ∈ S) (hab : a ≠ b) (hac : a ≠ c) (hbc : b ≠ c) :
    (iprop((((d, a) : Loc nD τ sig) ↦{fullShare} V a) ∗ (((d, c) : Loc nD τ sig) ↦{fullShare} g)
        ∗ held (SparseCore.T d : Thread nD τ) (((S.erase b).erase a).erase c) V) : sProp 𝕄)
      = held (SparseCore.T d : Thread nD τ) (S.erase b) (Function.update V c g) := by
  unfold held
  rw [SparseCore.bigSep_erase' (s := S.erase b) (i := a) (by simp [ha, hab]),
    SparseCore.bigSep_erase' (s := (S.erase b).erase a) (i := c) (by simp [hc, Ne.symm hac, Ne.symm hbc]),
    Function.update_of_ne hac, Function.update_self]
  congr 2
  exact bigSep_congr fun x hx => by rw [Function.update_of_ne (Finset.ne_of_mem_erase hx)]

/-- A call of the SparseCores over a set holding its three buffers: what the call takes off them and what it leaves of
    them (`hin`, `hout`), the index rows spent. -/
theorem step_sc (w : Words F) (κ : GSem nD τ sig → ℕ) (d : Dev nD) (q : Fin 3) (S : Finset (DevRef τ sig))
    (V : Valuation τ sig (Elt F)) (a b c : DevRef τ sig) (g) (ha : a ∈ S) (hb : b ∈ S) (hc : c ∈ S) (hab : a ≠ b) (hac : a ≠ c) (hbc : b ≠ c)
    (hin : (iprop((((d, a) : Loc nD τ sig) ↦{fullShare} V a) ∗ (((d, b) : Loc nD τ sig) ↦{fullShare} V b) ∗ (((d, c) : Loc nD τ sig) ↦{fullShare} V c)) : sProp 𝕄)
      ⊢ bigSep Finset.univ fun i : Fin ((K (F := F)).nCore q) => w.P.st q d i)
    (hout : (bigSep Finset.univ fun i : Fin ((K (F := F)).nCore q) => w.P.dn q d i)
      ⊢ (iprop((((d, a) : Loc nD τ sig) ↦{fullShare} V a) ∗ (((d, c) : Loc nD τ sig) ↦{fullShare} g)) : sProp 𝕄))
    {Φ : PUnit → sProp 𝕄} :
    iprop((K (F := F)).ctx EH w.P κ ∗ (K (F := F)).tcSt EH d q.val ∗ held (SparseCore.T d : Thread nD τ) S V
        ∗ (iprop((K (F := F)).tcSt EH d (q.val + 1) ∗ held (SparseCore.T d : Thread nD τ) (S.erase b) (Function.update V c g)) -∗ Φ ⟨⟩))
      ⊢ wp frame (wpE ((K (F := F)).defs (D (F := F))) 𝒱 (SparseCore.T d) none) Set.univ ((K (F := F)).run d q) Φ := by
  rw [held_take d S V a b c ha hb hc hab hac hbc, ← held_put d S V a b c g ha hc hab hac hbc]
  iintro ⟨#Hctx, Hst, ⟨Ha, Hb, Hc, Hr⟩, Hk⟩
  iapply ((K (F := F)).wp_run (D (F := F)) 𝒱 (EH := EH) (P := w.P) κ d q)
  isplitr; · iexact Hctx
  isplitl [Hst]; · iexact Hst
  isplitl [Ha Hb Hc]
  · iapply hin
    isplitl [Ha]; · iexact Ha
    isplitl [Hb]; · iexact Hb
    iexact Hc
  iintro ⟨Hst, Hdn⟩
  ihave H := hout $$ Hdn
  icases H with ⟨Ha, Hc⟩
  iapply Hk
  isplitl [Hst]; · iexact Hst
  isplitl [Ha]; · iexact Ha
  isplitl [Hc]; · iexact Hc
  iexact Hr

set_option backward.isDefEq.respectTransparency.types false in
/-- A call of the TensorCore's own over a set holding its windows' arrays, between two calls of the SparseCores. -/
theorem step_tc (w : Words F) (κ : GSem nD τ sig → ℕ) (d : Dev nD) (p : Fin 3) (q : ℕ) {A}
    (R : RegionSeg (pcfgs (F := F)) adms A none (defs₀ (F := F)) 𝒱₀ (K (F := F)).L (K (F := F)).lev p)
    (S : Finset (DevRef τ sig)) (V V' : Valuation τ sig (Elt F)) (hpre : R.pre d = around p q d V) (hpost : R.post d = around p q d V')
    (hS : arrRefs (pcfgs (F := F) p).spec ⊆ S) (hoff : ∀ b ∈ S \ arrRefs (pcfgs (F := F) p).spec, V b = V' b) {Φ : PUnit → sProp 𝕄} :
    iprop((K (F := F)).ctx EH w.P κ ∗ (K (F := F)).tcSt EH d q ∗ boundary (SparseCore.T d : Thread nD τ) ∗ held (SparseCore.T d : Thread nD τ) S V
        ∗ Pipeline.cellsGhost (Pipeline.pin (pcfgs (F := F)) adms) EP p d ∗ Pipeline.toksInit (Pipeline.pin (pcfgs (F := F)) adms) EP p d
        ∗ (iprop((K (F := F)).tcSt EH d q ∗ boundary (SparseCore.T d : Thread nD τ) ∗ held (SparseCore.T d : Thread nD τ) S V') -∗ Φ ⟨⟩))
      ⊢ wp frame (wpE ((K (F := F)).defs (D (F := F))) 𝒱 (SparseCore.T d) none) Set.univ
          (Prog.lift (.customCall (SparseCore.inner (Pipeline.entry p)) ())) Φ := by
  rw [show (Prog.lift (.customCall (SparseCore.inner (Pipeline.entry p)) ()) : Prog (TpuEff nD τ sig (Elt F) (SparseCore.Sig (ΛP (F := F)) 3) .tc) PUnit)
    = SparseCore.liftProg (Prog.lift (.customCall (Pipeline.entry p) ())) from rfl]
  rw [StableHlo.held_sub_split (SparseCore.T d : Thread nD τ) hS V, StableHlo.held_sub_split (SparseCore.T d : Thread nD τ) hS V',
    StableHlo.held_congr (SparseCore.T d : Thread nD τ) hoff]
  unfold SparseCore.Cfg.tcSt
  iintro ⟨#Hctx, ⟨HO, Hst⟩, Hb, ⟨Ha, Hr⟩, Hg, Ht, Hk⟩
  ihave Hla := (SparseCore.Cfg.ctx_levAts κ) $$ Hctx
  iapply ((K (F := F)).wp_liftProg (D (F := F)) 𝒱 (SparseCore.T d : Thread nD τ) Set.univ none)
  unfold Prog.lift
  iapply (Pipeline.RegionSeg.wp (pcfgs (F := F)) adms A none cellOf_inj EP (defs₀ (F := F)) 𝒱₀ (K (F := F)).L (K (F := F)).lev R d none (fun _ h => nomatch h))
  isplitr [Hb HO Ha Hg Ht Hla]
  · rw [hpost]
    iintro ⟨Hb, Ha, HO⟩
    rw [wp_ret]; imodintro
    iapply Hk
    isplitl [Hst HO]
    · isplitl [HO]; · iexact HO
      iexact Hst
    isplitl [Hb]; · iexact Hb
    isplitl [Ha]; · iexact Ha
    iexact Hr
  isplitl [Hb]; · iexact Hb
  isplitl [Ha HO]
  · rw [hpre]
    isplitl [Ha]; · iexact Ha
    iexact HO
  isplitl [Hla]; · iexact Hla
  isplitl [Hg]; · iexact Hg
  iexact Ht

/-- What a held set says of a state's memory. -/
theorem held_read (d : Dev nD) (S : Finset (DevRef τ sig)) (V : Valuation τ sig (Elt F)) (s' : Phys nD τ sig (Elt F)) :
    iprop(held (SparseCore.T d : Thread nD τ) S V ∗ SI s') ⊢ (⌜∀ b ∈ S, s'.mem.mem (d, b) = V b⌝ : sProp 𝕄) := by
  suffices h : ∀ b : DevRef τ sig, iprop(held (SparseCore.T d : Thread nD τ) S V ∗ SI s') ⊢ (⌜b ∈ S → s'.mem.mem (d, b) = V b⌝ : sProp 𝕄) from
    (show _ ⊢ (iprop(∀ b : DevRef τ sig, ⌜b ∈ S → s'.mem.mem (d, b) = V b⌝) : sProp 𝕄) from forall_intro h).trans pure_forall.2
  intro b
  by_cases hb : b ∈ S
  · unfold held
    rw [SparseCore.bigSep_erase' hb]
    iintro ⟨⟨Hb, -⟩, HSI⟩
    ihave H := (SI_pointsTo_agree (st := s') (ℓ := ((d, b) : Loc nD τ sig)) (I := Finset.univ) (q := fullShare) (f := V b)) $$ [HSI Hb]
    · isplitl [HSI] <;> iassumption
    icases H with %h
    ipureintro; exact fun _ => funext fun i => h i (Finset.mem_univ i)
  · iintro -
    ipureintro; exact fun h => absurd h hb

end Cert.Proof.Bert
-- ==== Proof.Main.lean ====
/-
  @main on the TensorCore: the contents of its arrays after each of its steps, its run over them, and the program's run
  from a launch memory whose index words name rows of the table.
-/
module

public import proofs.«01_k».proof.Proof.Steps

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ
open Idealize.ShloMosaic.Pipeline (RegionSeg arrRefs ucRefs)
open Idealize.ShloMosaic.StableHlo (held after)

/-- A reference of the TensorCore as a reference of its device. -/
abbrev dr (b : Ref sig .tc) : DevRef τ sig := Proc.devRef .tc b

/-- The host operations before the first call: the masked words as rows of 128, the position rows repeated over a block's
    batch, the biases as rows, the first call's index rows. -/
def opsA : List (HloOp τ sig (Elt F)) :=
  [StableHlo.nullary main_c (constantI S_ 32 99999#32),
   StableHlo.TRef.unary (.of main_c) main_call0.v0 id,
   StableHlo.TRef.unary main_call0.v0 main_call0.v1 (broadcastInDim S4096x50 ![] bcast_S_S4096x50),
   StableHlo.TRef.ternary (.of main_arg1) main_call0.v1 (.of main_arg0) main_call0.v2 select,
   StableHlo.reshape main_v0 main_v1 (rfl : (.i32 : EltTy) = .i32) shapeCasts_S4096x50_S1600x128,
   StableHlo.reshape main_arg3 main_v2 (rfl : (.f32 : EltTy) = .f32) shapeCasts_S50x128_S1x50x1x128,
   StableHlo.unary main_v2 main_v3 (broadcastInDim S128x50x1x128 ![0, 1, 2, 3] bcast_S1x50x1x128_S128x50x1x128_0_1_2_3 : (⟨S1x50x1x128, .f32⟩ : BufTy).Contents (Elt F) → (⟨S128x50x1x128, .f32⟩ : BufTy).Contents (Elt F)),
   StableHlo.reshape main_v3 main_v4 (rfl : (.f32 : EltTy) = .f32) shapeCasts_S128x50x1x128_S6400x128,
   StableHlo.reshape main_arg5 main_v5 (rfl : (.f32 : EltTy) = .f32) shapeCasts_S256_S1x256,
   StableHlo.reshape main_arg7 main_v6 (rfl : (.f32 : EltTy) = .f32) shapeCasts_S128_S1x128,
   StableHlo.unary main_v1 main_v7 ((extractStridedSlice S600x128 ![0, 0] · slices_S1600x128_S600x128_0_0) : (⟨S1600x128, .i32⟩ : BufTy).Contents (Elt F) → (⟨S600x128, .i32⟩ : BufTy).Contents (Elt F))]
/-- The second and third calls' index rows, and the output array carried from call to call. -/
def opB : HloOp τ sig (Elt F) := StableHlo.unary main_v1 main_v10 ((extractStridedSlice S600x128 ![600, 0] · slices_S1600x128_S600x128_600_0) : (⟨S1600x128, .i32⟩ : BufTy).Contents (Elt F) → (⟨S600x128, .i32⟩ : BufTy).Contents (Elt F))
def opC : HloOp τ sig (Elt F) := StableHlo.unary main_v9 main_v12 id
def opD : HloOp τ sig (Elt F) := StableHlo.unary main_v1 main_v13 ((extractStridedSlice S400x128 ![1200, 0] · slices_S1600x128_S400x128_1200_0) : (⟨S1600x128, .i32⟩ : BufTy).Contents (Elt F) → (⟨S400x128, .i32⟩ : BufTy).Contents (Elt F))
def opE : HloOp τ sig (Elt F) := StableHlo.unary main_v12 main_v15 id

/-- A call of the TensorCore's own. -/
abbrev call (p : Fin 3) : Prog (TpuEff nD τ sig (Elt F) (SparseCore.Sig (ΛP (F := F)) 3) .tc) PUnit :=
  Prog.lift (.customCall (SparseCore.inner (Pipeline.entry p)) ())

/-- A host operation of the TensorCore's own. -/
abbrev host (op : HloOp τ sig (Elt F)) : Prog (TpuEff nD τ sig (Elt F) (SparseCore.Sig (ΛP (F := F)) 3) .tc) PUnit :=
  hlo rfl op fun _ => .ret ⟨⟩

/-- @main as its steps. -/
theorem main_eq (d : Dev nD) : main (F := F) d = (StableHlo.seq opsA >>= fun _ => (K (F := F)).run d 0 >>= fun _ => call 0 >>= fun _ =>
    host opB >>= fun _ => (K (F := F)).run d 1 >>= fun _ => host opC >>= fun _ => call 1 >>= fun _ =>
    host opD >>= fun _ => (K (F := F)).run d 2 >>= fun _ => host opE >>= fun _ => call 2 >>= fun _ => pure ⟨⟩) := by
  simp only [main, fn_where.body, opsA, StableHlo.seq, bind_assoc, pure_bind]
  rfl

/-- A property of each of the host operations before the first call. -/
theorem opsA_forall {p : HloOp τ sig (Elt F) → Prop} (h : ∀ i (hi : i < 11), p ((opsA (F := F))[i]'hi)) : ∀ op ∈ opsA (F := F), p op := fun op hop => by
  obtain ⟨i, hi, rfl⟩ := List.mem_iff_getElem.1 hop
  exact h i hi

/-- The steps before the first call touch only arrays held from the launch. -/
theorem opsA_sub : ∀ op ∈ opsA (F := F), op.bufs ⊆ ucRefs τ sig := by
  unfold opsA
  simp only [List.forall_mem_cons]
  refine ⟨Pipeline.sub_ucRefs _ ?_, Pipeline.sub_ucRefs _ ?_, Pipeline.sub_ucRefs _ ?_, Pipeline.sub_ucRefs _ ?_, Pipeline.sub_ucRefs _ ?_, Pipeline.sub_ucRefs _ ?_, Pipeline.sub_ucRefs _ ?_, Pipeline.sub_ucRefs _ ?_, Pipeline.sub_ucRefs _ ?_, Pipeline.sub_ucRefs _ ?_, Pipeline.sub_ucRefs _ ?_,
    fun _ h => absurd h List.not_mem_nil⟩
  · exact StableHlo.nullary_bufs_sub ..
  · exact StableHlo.unary_bufs_sub ..
  · exact StableHlo.unary_bufs_sub ..
  · exact StableHlo.ternary_bufs_sub ..
  · exact StableHlo.reshape_bufs_sub ..
  · exact StableHlo.reshape_bufs_sub ..
  · exact StableHlo.unary_bufs_sub ..
  · exact StableHlo.reshape_bufs_sub ..
  · exact StableHlo.reshape_bufs_sub ..
  · exact StableHlo.reshape_bufs_sub ..
  · exact StableHlo.unary_bufs_sub ..

/-- They allocate nothing. -/
theorem opsA_fresh : ∀ op ∈ opsA (F := F), op.fresh = ∅ := opsA_forall fun i hi =>
  match i, hi with
  | 0, _ | 1, _ | 2, _ | 3, _ | 4, _ | 5, _ | 6, _ | 7, _ | 8, _ | 9, _ | 10, _ => rfl

/-- What the host operations before the first call write. -/
theorem opsA_writes (b : DevRef τ sig)
    (hb : b ∉ ({dr main_c, dr main_call0_v0, dr main_call0_v1, dr main_v0, dr main_v1, dr main_v2, dr main_v3, dr main_v4, dr main_v5, dr main_v6, dr main_v7} : Finset (DevRef τ sig))) :
    ∀ op ∈ opsA (F := F), b ∉ op.writes := by
  simp only [Finset.mem_insert, Finset.mem_singleton, not_or] at hb
  obtain ⟨h0, h1, h2, h3, h4, h5, h6, h7, h8, h9, h10⟩ := hb
  exact opsA_forall fun i hi => match i, hi with
  | 0, _ => fun h => h0 (Finset.mem_singleton.mp h)
  | 1, _ => fun h => h1 (Finset.mem_singleton.mp h)
  | 2, _ => fun h => h2 (Finset.mem_singleton.mp h)
  | 3, _ => fun h => h3 (Finset.mem_singleton.mp h)
  | 4, _ => fun h => h4 (Finset.mem_singleton.mp h)
  | 5, _ => fun h => h5 (Finset.mem_singleton.mp h)
  | 6, _ => fun h => h6 (Finset.mem_singleton.mp h)
  | 7, _ => fun h => h7 (Finset.mem_singleton.mp h)
  | 8, _ => fun h => h8 (Finset.mem_singleton.mp h)
  | 9, _ => fun h => h9 (Finset.mem_singleton.mp h)
  | 10, _ => fun h => h10 (Finset.mem_singleton.mp h)

/-! ## The contents of the arrays after each step -/

variable (m : (ℓ : Loc nD τ sig) → Buf (Elt F) ℓ)

/-- A device's arrays at launch, -/
def V0 (d : Dev nD) : Valuation τ sig (Elt F) := fun b => m (d, b)
/-- and after the host operations before the first call. -/
def V1 (d : Dev nD) : Valuation τ sig (Elt F) := after opsA (V0 m d)

/-- The words the three calls of the SparseCores are handed: the table, and each call's index rows. -/
def words : Words F where
  tb d := V1 m d (dr main_arg2)
  i0 d := V1 m d (dr main_v7)
  i1 d := (extractStridedSlice S600x128 ![600, 0] · slices_S1600x128_S600x128_600_0) (V1 m d (dr main_v1))
  i2 d := (extractStridedSlice S400x128 ![1200, 0] · slices_S1600x128_S400x128_1200_0) (V1 m d (dr main_v1))

/-- The contents after each of the steps that follow. -/
def V2 (d : Dev nD) : Valuation τ sig (Elt F) := Function.update (V1 m d) (dr main_v8) ((words m).g0 d)
def V3 (d : Dev nD) : Valuation τ sig (Elt F) := left1 d (V2 m d)
def V4 (d : Dev nD) : Valuation τ sig (Elt F) := opB.result (V3 m d)
def V5 (d : Dev nD) : Valuation τ sig (Elt F) := Function.update (V4 m d) (dr main_v11) ((words m).g1 d)
def V6 (d : Dev nD) : Valuation τ sig (Elt F) := opC.result (V5 m d)
def V7 (d : Dev nD) : Valuation τ sig (Elt F) := left3 d (V6 m d)
def V8 (d : Dev nD) : Valuation τ sig (Elt F) := opD.result (V7 m d)
def V9 (d : Dev nD) : Valuation τ sig (Elt F) := Function.update (V8 m d) (dr main_v14) ((words m).g2 d)
def V10 (d : Dev nD) : Valuation τ sig (Elt F) := opE.result (V9 m d)
def V11 (d : Dev nD) : Valuation τ sig (Elt F) := left5 d (V10 m d)

/-- What the steps from the first call on write. -/
def late : Finset (DevRef τ sig) :=
  {dr main_v8, dr main_v9, dr main_v10, dr main_v11, dr main_v12, dr main_v13, dr main_v14, dr main_v15}

section Keep
variable (d : Dev nD) (b : DevRef τ sig) (hb : b ∉ late)
include hb

/-- An array no later step writes differs from each that one does. -/
theorem ne_late (c : DevRef τ sig) (hc : c ∈ late) : b ≠ c := fun h => hb (h ▸ hc)
/-- An array that no step from the first call on writes is, at point 2, as the first call found it. -/
theorem V2_keep : V2 m d b = V1 m d b := Function.update_of_ne (ne_late b hb _ (by decide)) _ _
/-- An array that no step from the first call on writes is, at point 3, as the first call found it. -/
theorem V3_keep : V3 m d b = V1 m d b := (Function.update_of_ne (ne_late b hb _ (by decide)) _ _).trans (V2_keep m d b hb)
/-- An array that no step from the first call on writes is, at point 4, as the first call found it. -/
theorem V4_keep : V4 m d b = V1 m d b :=
  (opB.result_of_not_mem _ (fun h => ne_late b hb _ (by decide) (Finset.mem_singleton.mp h))).trans (V3_keep m d b hb)
/-- An array that no step from the first call on writes is, at point 5, as the first call found it. -/
theorem V5_keep : V5 m d b = V1 m d b := (Function.update_of_ne (ne_late b hb _ (by decide)) _ _).trans (V4_keep m d b hb)
/-- An array that no step from the first call on writes is, at point 6, as the first call found it. -/
theorem V6_keep : V6 m d b = V1 m d b :=
  (opC.result_of_not_mem _ (fun h => ne_late b hb _ (by decide) (Finset.mem_singleton.mp h))).trans (V5_keep m d b hb)
/-- An array that no step from the first call on writes is, at point 7, as the first call found it. -/
theorem V7_keep : V7 m d b = V1 m d b := (Function.update_of_ne (ne_late b hb _ (by decide)) _ _).trans (V6_keep m d b hb)
/-- An array that no step from the first call on writes is, at point 8, as the first call found it. -/
theorem V8_keep : V8 m d b = V1 m d b :=
  (opD.result_of_not_mem _ (fun h => ne_late b hb _ (by decide) (Finset.mem_singleton.mp h))).trans (V7_keep m d b hb)
/-- An array that no step from the first call on writes is, at point 9, as the first call found it. -/
theorem V9_keep : V9 m d b = V1 m d b := (Function.update_of_ne (ne_late b hb _ (by decide)) _ _).trans (V8_keep m d b hb)
/-- An array that no step from the first call on writes is, at point 10, as the first call found it. -/
theorem V10_keep : V10 m d b = V1 m d b :=
  (opE.result_of_not_mem _ (fun h => ne_late b hb _ (by decide) (Finset.mem_singleton.mp h))).trans (V9_keep m d b hb)
/-- An array that no step from the first call on writes is, at point 11, as the first call found it. -/
theorem V11_keep : V11 m d b = V1 m d b := (Function.update_of_ne (ne_late b hb _ (by decide)) _ _).trans (V10_keep m d b hb)
end Keep

/-- The second call's index rows, when it is called. -/
theorem V4_rows (d : Dev nD) : V4 m d (dr main_v10) = (words m).i1 d :=
  (StableHlo.unary_result ..).trans (by rw [V3_keep m d (dr main_v1) (by decide)]; rfl)
/-- The third call's index rows, when it is called. -/
theorem V8_rows (d : Dev nD) : V8 m d (dr main_v13) = (words m).i2 d :=
  (StableHlo.unary_result ..).trans (by rw [V7_keep m d (dr main_v1) (by decide)]; rfl)

/-- The arguments are as at launch. -/
theorem V1_arg (d : Dev nD) (b : DevRef τ sig)
    (hb : b ∉ ({dr main_c, dr main_call0_v0, dr main_call0_v1, dr main_v0, dr main_v1, dr main_v2, dr main_v3, dr main_v4, dr main_v5, dr main_v6, dr main_v7} : Finset (DevRef τ sig))) :
    V1 m d b = m (d, b) :=
  StableHlo.after_of_forall_not_mem (b := b) opsA (V0 m d) (opsA_writes b hb)

/-! ## @main over its arrays -/

/-- The arrays @main holds from the launch, and after each call of the SparseCores: a call's index rows are spent. -/
abbrev S0 : Finset (DevRef τ sig) := ucRefs τ sig
abbrev S1 : Finset (DevRef τ sig) := S0.erase (dr main_v7)
abbrev S2 : Finset (DevRef τ sig) := S1.erase (dr main_v10)
abbrev S3 : Finset (DevRef τ sig) := S2.erase (dr main_v13)

/-- An array that is not scoped, and is no call's index rows, is held to the end. -/
theorem mem_S3 (b : Ref sig .tc) (hb : b.isScoped = false) (h : dr b ∉ ({dr main_v7, dr main_v10, dr main_v13} : Finset (DevRef τ sig))) : dr b ∈ S3 := by
  simp only [Finset.mem_insert, Finset.mem_singleton, not_or] at h
  exact Finset.mem_erase.2 ⟨h.2.2, Finset.mem_erase.2 ⟨h.2.1, Finset.mem_erase.2 ⟨h.1, Pipeline.devRef_mem_ucRefs hb⟩⟩⟩
/-- An array that is not scoped, and is not the first two calls' index rows, is held after the second call. -/
theorem mem_S2 (b : Ref sig .tc) (hb : b.isScoped = false) (h : dr b ∉ ({dr main_v7, dr main_v10} : Finset (DevRef τ sig))) : dr b ∈ S2 := by
  simp only [Finset.mem_insert, Finset.mem_singleton, not_or] at h
  exact Finset.mem_erase.2 ⟨h.2, Finset.mem_erase.2 ⟨h.1, Pipeline.devRef_mem_ucRefs hb⟩⟩
/-- An array that is not scoped, and is not the first call's index rows, is held after the first call. -/
theorem mem_S1 (b : Ref sig .tc) (hb : b.isScoped = false) (h : dr b ≠ dr main_v7) : dr b ∈ S1 :=
  Finset.mem_erase.2 ⟨h, Pipeline.devRef_mem_ucRefs hb⟩

/-- The arrays of a call's windows, each named by one. -/
theorem mem_arrs {gr n : ℕ} {win : Fin n → Pipeline.WinSpec sig gr} {b : DevRef τ sig} :
    b ∈ arrRefs (τ := τ) win ↔ ∃ w, b = dr (Pipeline.arrRef win w) := by
  constructor
  · intro h
    obtain ⟨r, hr, rfl⟩ := Finset.mem_map.mp h
    obtain ⟨w, -, rfl⟩ := Finset.mem_image.mp hr
    exact ⟨w, rfl⟩
  · rintro ⟨w, rfl⟩
    exact Finset.mem_map.mpr ⟨_, Finset.mem_image.mpr ⟨w, Finset.mem_univ _, rfl⟩, rfl⟩

/-- They are all in a set when each is. -/
theorem arrs_sub {gr n : ℕ} {win : Fin n → Pipeline.WinSpec sig gr} {S : Finset (DevRef τ sig)} (h : ∀ w, dr (Pipeline.arrRef win w) ∈ S) :
    arrRefs (τ := τ) win ⊆ S := fun b hb => by
  obtain ⟨w, rfl⟩ := mem_arrs.1 hb
  exact h w

/-- The arrays of the first call's windows are among those held when it is called; -/
theorem arr1_S1 : arrRefs (pcfgs (F := F) 0).spec ⊆ S1 :=
  arrs_sub (show ∀ w : Fin 7, _ from fun w => mem_S1 _ ((by decide : ∀ w, (Pipeline.arrRef spec1 w).isScoped = false) w)
    ((by decide : ∀ w, dr (Pipeline.arrRef spec1 w) ≠ dr main_v7) w))
/-- so are the second call's, -/
theorem arr3_S2 : arrRefs (pcfgs (F := F) 1).spec ⊆ S2 :=
  arrs_sub (show ∀ w : Fin 7, _ from fun w => mem_S2 _ ((by decide : ∀ w, (Pipeline.arrRef spec3 w).isScoped = false) w)
    ((by decide : ∀ w, dr (Pipeline.arrRef spec3 w) ∉ ({dr main_v7, dr main_v10} : Finset (DevRef τ sig))) w))
/-- and the third's. -/
theorem arr5_S3 : arrRefs (pcfgs (F := F) 2).spec ⊆ S3 :=
  arrs_sub (show ∀ w : Fin 7, _ from fun w => mem_S3 _ ((by decide : ∀ w, (Pipeline.arrRef spec5 w).isScoped = false) w)
    ((by decide : ∀ w, dr (Pipeline.arrRef spec5 w) ∉ ({dr main_v7, dr main_v10, dr main_v13} : Finset (DevRef τ sig))) w))

/-- A host operation of one argument within a held set. -/
theorem unary_within (x y : Ref sig .tc) (f) (hx hy) (S : Finset (DevRef τ sig)) (h1 : dr x ∈ S) (h2 : dr y ∈ S) :
    (StableHlo.unary (τ := τ) (Val := Elt F) x y f hx hy).bufs ⊆ S := fun b hb => by
  rcases Finset.mem_insert.1 hb with rfl | hb
  · exact h1
  · rw [Finset.mem_singleton.1 hb]; exact h2

/-- What a call of the TensorCore's own leaves of the arrays other than its windows'. -/
theorem left_off {cfg : Pipeline.Cfg sig Λ₀} {d : Dev nD} (D : Pipeline.Dat τ (Elt F) (HIx 3) ℕ UU ℕ cfg d) (out : Fin cfg.W)
    (V : Valuation τ sig (Elt F)) (S : Finset (DevRef τ sig)) : ∀ b ∈ S \ arrRefs cfg.spec, V b = left D out V b := fun b hb =>
  (Function.update_of_ne (fun h => (Finset.mem_sdiff.1 hb).2 (mem_arrs.2 ⟨out, h⟩)) _ _).symm

/-- What each device's @main starts from beside its arrays: the three calls' tokens. -/
abbrev G (d : Dev nD) : sProp 𝕄 :=
  iprop((bigSep Finset.univ fun p : Fin 3 => Pipeline.cellsGhost (Pipeline.pin (pcfgs (F := F)) adms) EP p d)
    ∗ (bigSep Finset.univ fun p : Fin 3 => Pipeline.toksInit (Pipeline.pin (pcfgs (F := F)) adms) EP p d))
/-- What it ends with. -/
abbrev FIN (d : Dev nD) : sProp 𝕄 := held (SparseCore.T d : Thread nD τ) S3 (V11 m d)

/-- A resource for each of three calls is the three together. -/
theorem bigSep3 (f : Fin 3 → sProp 𝕄) : (bigSep Finset.univ f : sProp 𝕄) = iprop(f 0 ∗ f 1 ∗ f 2) := by
  rw [show (Finset.univ : Finset (Fin 3)) = {0, 1, 2} by decide, SparseCore.bigSep_insert' (by decide), SparseCore.bigSep_insert' (by decide), bigSep_singleton]

variable (ρ : Dev nD → PrngReg)

attribute [local irreducible] Idealize.SL.Sem.wp

set_option backward.isDefEq.respectTransparency.types false in
/-- @main on a device's TensorCore. -/
theorem hmain (κ : GSem nD τ sig → ℕ) (d : Dev nD) :
    iprop((K (F := F)).ctx EH (words m).P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd G
  rw [main_eq, show (unscopedBufs d (fun b => m ((SparseCore.T d : Thread nD τ).loc b)) : sProp 𝕄) = held (SparseCore.T d : Thread nD τ) S0 (V0 m d) from Pipeline.unscopedBufs_held d (V0 m d),
    bigSep3, bigSep3]
  iintro ⟨#Hctx, Hst, ⟨Hb, Hh, Hts, -⟩, ⟨Hg0, Hg1, Hg2⟩, Ht0, Ht1, Ht2⟩
  iapply (StableHlo.wp_seq 𝒱 none Set.univ d S0 _ opsA opsA_sub opsA_fresh (V0 m d)) $$ [Hb Hh]
  · isplitl [Hb] <;> iassumption
  iintro ⟨Hb, Hh⟩
  rw [wp_bind]
  iapply (step_sc (words m) κ d 0 S0 (V1 m d) (dr main_arg2) (dr main_v7) (dr main_v8) ((words m).g0 d)
    (Pipeline.devRef_mem_ucRefs rfl) (Pipeline.devRef_mem_ucRefs rfl) (Pipeline.devRef_mem_ucRefs rfl) (by decide) (by decide) (by decide)
    ((words m).enter0 d _)
    ((words m).leave0 d))
  isplitr; · iexact Hctx
  isplitl [Hst]; · iexact Hst
  isplitl [Hh]; · iexact Hh
  iintro ⟨Hst, Hh⟩
  rw [wp_bind]
  iapply (step_tc (words m) κ d 0 1 (region1 (V2 m)) S1 (V2 m d) (V3 m d) rfl rfl arr1_S1 (left_off (dat1 (V2 m d) 1 d) (6 : Fin cfg1.W) _ _))
  isplitr; · iexact Hctx
  isplitl [Hst]; · iexact Hst
  isplitl [Hb]; · iexact Hb
  isplitl [Hh]; · iexact Hh
  isplitl [Hg0]; · iexact Hg0
  isplitl [Ht0]; · iexact Ht0
  iintro ⟨Hst, Hb, Hh⟩
  rw [wp_bind]
  iapply (step_op d opB S1 (unary_within main_v1 main_v10 _ _ _ _ (mem_S1 main_v1 rfl (by decide)) (mem_S1 main_v10 rfl (by decide))) rfl (V3 m d))
  isplitl [Hb]; · iexact Hb
  isplitl [Hh]; · iexact Hh
  iintro ⟨Hb, Hh⟩
  rw [wp_bind]
  iapply (step_sc (words m) κ d 1 S1 (V4 m d) (dr main_arg2) (dr main_v10) (dr main_v11) ((words m).g1 d)
    (mem_S1 main_arg2 rfl (by decide)) (mem_S1 main_v10 rfl (by decide)) (mem_S1 main_v11 rfl (by decide)) (by decide) (by decide) (by decide)
    (by rw [show V4 m d (dr main_arg2) = (words m).tb d from V4_keep m d _ (by decide), V4_rows m d]; exact (words m).enter1 d _)
    (by rw [show V4 m d (dr main_arg2) = (words m).tb d from V4_keep m d _ (by decide)]; exact (words m).leave1 d))
  isplitr; · iexact Hctx
  isplitl [Hst]; · iexact Hst
  isplitl [Hh]; · iexact Hh
  iintro ⟨Hst, Hh⟩
  rw [wp_bind]
  iapply (step_op d opC S2 (unary_within main_v9 main_v12 _ _ _ _ (mem_S2 main_v9 rfl (by decide)) (mem_S2 main_v12 rfl (by decide))) rfl (V5 m d))
  isplitl [Hb]; · iexact Hb
  isplitl [Hh]; · iexact Hh
  iintro ⟨Hb, Hh⟩
  rw [wp_bind]
  iapply (step_tc (words m) κ d 1 2 (region3 (V6 m)) S2 (V6 m d) (V7 m d) rfl rfl arr3_S2 (left_off (dat3 (V6 m d) 2 d) (6 : Fin cfg3.W) _ _))
  isplitr; · iexact Hctx
  isplitl [Hst]; · iexact Hst
  isplitl [Hb]; · iexact Hb
  isplitl [Hh]; · iexact Hh
  isplitl [Hg1]; · iexact Hg1
  isplitl [Ht1]; · iexact Ht1
  iintro ⟨Hst, Hb, Hh⟩
  rw [wp_bind]
  iapply (step_op d opD S2 (unary_within main_v1 main_v13 _ _ _ _ (mem_S2 main_v1 rfl (by decide)) (mem_S2 main_v13 rfl (by decide))) rfl (V7 m d))
  isplitl [Hb]; · iexact Hb
  isplitl [Hh]; · iexact Hh
  iintro ⟨Hb, Hh⟩
  rw [wp_bind]
  iapply (step_sc (words m) κ d 2 S2 (V8 m d) (dr main_arg2) (dr main_v13) (dr main_v14) ((words m).g2 d)
    (mem_S2 main_arg2 rfl (by decide)) (mem_S2 main_v13 rfl (by decide)) (mem_S2 main_v14 rfl (by decide)) (by decide) (by decide) (by decide)
    (by rw [show V8 m d (dr main_arg2) = (words m).tb d from V8_keep m d _ (by decide), V8_rows m d]; exact (words m).enter2 d _)
    (by rw [show V8 m d (dr main_arg2) = (words m).tb d from V8_keep m d _ (by decide)]; exact (words m).leave2 d))
  isplitr; · iexact Hctx
  isplitl [Hst]; · iexact Hst
  isplitl [Hh]; · iexact Hh
  iintro ⟨Hst, Hh⟩
  rw [wp_bind]
  iapply (step_op d opE S3 (unary_within main_v12 main_v15 _ _ _ _ (mem_S3 main_v12 rfl (by decide)) (mem_S3 main_v15 rfl (by decide))) rfl (V9 m d))
  isplitl [Hb]; · iexact Hb
  isplitl [Hh]; · iexact Hh
  iintro ⟨Hb, Hh⟩
  rw [wp_bind]
  iapply (step_tc (words m) κ d 2 3 (region5 (V10 m)) S3 (V10 m d) (V11 m d) rfl rfl arr5_S3 (left_off (dat5 (V10 m d) 3 d) (6 : Fin cfg5.W) _ _))
  isplitr; · iexact Hctx
  isplitl [Hst]; · iexact Hst
  isplitl [Hb]; · iexact Hb
  isplitl [Hh]; · iexact Hh
  isplitl [Hg2]; · iexact Hg2
  isplitl [Ht2]; · iexact Ht2
  iintro ⟨Hst, Hb, Hh⟩
  rw [wp_pure]; imodintro
  isplitl [Hst]; · iexact Hst
  isplitl [Hh]; · iexact Hh
  isplitl [Hb] <;> iassumption

end Cert.Proof.Bert
-- ==== Proof.Run.lean ====
/-
  The program's run from a launch memory whose words name rows of the table: it ends with every semaphore at zero, its
  arguments as launched, and its result array at the value the steps of @main leave there.
-/
module

public import proofs.«01_k».proof.Proof.Main

@[expose] public section

noncomputable section

namespace Cert.Proof.Bert

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ
open Idealize.ShloMosaic.Pipeline (RegionSeg arrRefs ucRefs)
open Idealize.ShloMosaic.StableHlo (held after)

variable (m : (ℓ : Loc nD τ sig) → Buf (Elt F) ℓ) (ρ : Dev nD → PrngReg)

/-! ## The words -/

/-- Every word of the first argument is below the table's rows. -/
def PreOK : Prop := ∀ d j, ((m (d, dr main_arg0) : S4096x50.Idx → BitVec 32) j).toNat < 100000

/-- The words the calls read: the last row's number where the mask is set, the first argument's elsewhere, as rows of 128. -/
theorem V1_words (d : Dev nD) : V1 m d (dr main_v1)
    = shapeCast S1600x128 (select (m (d, dr main_arg1)) (broadcastInDim S4096x50 ![] bcast_S_S4096x50 (constantI S_ 32 99999#32)) (m (d, dr main_arg0))) shapeCasts_S4096x50_S1600x128 := by
  unfold V1 opsA
  after_results_simp
  rfl

/-- The first call's index rows. -/
theorem V1_rows (d : Dev nD) : V1 m d (dr main_v7)
    = extractStridedSlice S600x128 ![0, 0] (V1 m d (dr main_v1)) slices_S1600x128_S600x128_0_0 := by
  unfold V1 opsA
  after_results_simp

/-- Under the precondition every index word, as the calls use it, is below 100000. -/
theorem words_lt (hpre : PreOK m) (d : Dev nD) (j : S1600x128.Idx) : ((V1 m d (dr main_v1) : S1600x128.Idx → BitVec 32) j).toNat < 100000 := by
  have pick : ∀ (c : BitVec 1) (a b : BitVec 32), a.toNat < 100000 → b.toNat < 100000 → (Scalar.select c a b).toNat < 100000 := by
    intro c a b ha hb
    unfold Scalar.select
    split <;> assumption
  rw [V1_words]
  exact pick _ _ _ (show (99999#32).toNat < 100000 by decide) (hpre _ _)

/-- So the index rows of all three calls are in range. -/
theorem ok_words (hpre : PreOK m) : (words m).Ok where
  h0 d j := by
    show ((V1 m d (dr main_v7) : S600x128.Idx → BitVec 32) j).toNat < _
    rw [V1_rows]; exact words_lt m hpre d _
  h1 d j := words_lt m hpre d _
  h2 d j := words_lt m hpre d _

/-! ## The launch's ghost state -/

/-- The calls' handshake, and the three pipelines' cells and tokens. -/
def u₀ : UU := (initOf (K (F := F)).hsCells (K (F := F)).hsToks,
  (initOf (Pipeline.cells (Pipeline.pin (pcfgs (F := F)) adms) cellOf_inj) (Pipeline.launchToks (Pipeline.pin (pcfgs (F := F)) adms) cellOf_inj), 1))

set_option backward.isDefEq.respectTransparency.types false in
/-- The launch's ghost state gives the handshakes', the pipelines' and the tiles' starting resources. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 3 => (words m).P.x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adms) EP cellOf_inj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 3 => (words m).P.x q thr) = (iprop(emp) : sProp 𝕄) from
    (bigSep_congr fun _ _ => bigSep_emp_const _).trans (bigSep_emp_const _)]
  iempintro

/-- What a device's end state says of its memory. -/
def fq (d : Dev nD) (s' : Phys nD τ sig (Elt F)) : Prop := ∀ b ∈ S3, s'.mem.mem (d, b) = V11 m d b

/-- The final memory: the result array at what the steps leave there, the arguments as launched. -/
def QM (r : PUnit × MemSt nD τ sig (Elt F)) : Prop := ∀ c : Dev nD,
  r.2.mem (c.tc.loc main_v15) = V11 m c (dr main_v15)
  ∧ r.2.mem (c.tc.loc main_arg0) = m (c.tc.loc main_arg0)
  ∧ r.2.mem (c.tc.loc main_arg1) = m (c.tc.loc main_arg1)
  ∧ r.2.mem (c.tc.loc main_arg2) = m (c.tc.loc main_arg2)
  ∧ r.2.mem (c.tc.loc main_arg3) = m (c.tc.loc main_arg3)
  ∧ r.2.mem (c.tc.loc main_arg4) = m (c.tc.loc main_arg4)
  ∧ r.2.mem (c.tc.loc main_arg5) = m (c.tc.loc main_arg5)
  ∧ r.2.mem (c.tc.loc main_arg6) = m (c.tc.loc main_arg6)
  ∧ r.2.mem (c.tc.loc main_arg7) = m (c.tc.loc main_arg7)

/-- An array that no step writes ends as it started. -/
theorem arg_kept (d : Dev nD) (s' : Phys nD τ sig (Elt F)) (h : fq m d s') (b : Ref sig .tc) (hb : b.isScoped = false)
    (h1 : dr b ∉ ({dr main_v7, dr main_v10, dr main_v13} : Finset (DevRef τ sig))) (h2 : dr b ∉ late)
    (h3 : dr b ∉ ({dr main_c, dr main_call0_v0, dr main_call0_v1, dr main_v0, dr main_v1, dr main_v2, dr main_v3, dr main_v4, dr main_v5, dr main_v6, dr main_v7} : Finset (DevRef τ sig))) :
    s'.mem.mem (d, dr b) = m (d, dr b) :=
  (h _ (mem_S3 b hb h1)).trans ((V11_keep m d _ h2).trans (V1_arg m d _ h3))

/-- From any memory satisfying the precondition, the program runs to the end: the output is what `QM` says, the arguments are kept, and every semaphore is back at zero. -/
theorem run_main [∀ e, Nonempty (Elt F e)] (hpre : PreOK m) :
    θ_run (defs (F := F)) (threads (F := F)) ⟨m, fun _ => 0, ρ⟩ (fun r => QM m r ∧ r.2.sem = fun _ => 0) :=
  SparseCore.Cfg.θ_run_sc_quiescent (K := K (F := F)) (D := D (F := F)) (𝒱 := 𝒱) (EH := EH) (P := (words m).P) (A := ∅) (facts (F := F)) v₀
    (fun q hq => match q with | 0 => nomatch hq | 1 => nomatch hq | 2 => nomatch hq)
    (fun q _ => match q with | 0 => (words m).tileObl0 (ok_words m hpre) | 1 => (words m).tileObl1 (ok_words m hpre) | 2 => (words m).tileObl2 (ok_words m hpre))
    (fun q _ => SparseCore.Cfg.VecSplit.of_plain ((words m).vecSplit q))
    m ρ main (G (F := F)) (FIN m) (u₀ (F := F)) (sep_elim_left.trans (hu₀ m)) (hmain m ρ) (fq m) (fun d s' => held_read d S3 (V11 m d) s')
    (fun r => QM m r ∧ r.2.sem = fun _ => 0)
    (fun _ h hz => ⟨fun c => ⟨h c _ (mem_S3 main_v15 rfl (by decide)),
      arg_kept m c _ (h c) main_arg0 rfl (by decide) (by decide) (by decide), arg_kept m c _ (h c) main_arg1 rfl (by decide) (by decide) (by decide),
      arg_kept m c _ (h c) main_arg2 rfl (by decide) (by decide) (by decide), arg_kept m c _ (h c) main_arg3 rfl (by decide) (by decide) (by decide),
      arg_kept m c _ (h c) main_arg4 rfl (by decide) (by decide) (by decide), arg_kept m c _ (h c) main_arg5 rfl (by decide) (by decide) (by decide),
      arg_kept m c _ (h c) main_arg6 rfl (by decide) (by decide) (by decide), arg_kept m c _ (h c) main_arg7 rfl (by decide) (by decide) (by decide)⟩, hz⟩)

end Cert.Proof.Bert
-- ==== Proof.Same.lean ====
/-
  The program and its idealized printing have one text: what holds of the one's calls holds of the other's.
-/
module

public import proofs.«01_k».proof.KernelIdeal
public import proofs.«01_k».proof.Kernel
public import proofs.«01_k».proof.Proof.Gen.Kernel
public import proofs.«01_k».proof.Proof.Gen.KernelIdeal
public import Idealize.ShloMosaic.PureOps.BitExact

@[expose] public section

noncomputable section

namespace Cert.Proof.Bert

open Idealize.ShloMosaic

set_option maxHeartbeats 4000000 in
/-- The two programs' bodies, label by label. -/
theorem bodies_eq : Cert.KernelIdeal.defs₀ (F := Bits) = Cert.Kernel.defs₀ (F := Bits) := by
  funext p f a
  match p, f, a with
  | .tc, 1, (t, s) | .tc, 3, (t, s) | .tc, 5, (t, s) => rfl
  | .tc, 0, a | .tc, 2, a | .tc, 4, a => rfl
  | .scScalar c, 0, a | .scScalar c, 1, a | .scScalar c, 2, a | .scScalar c, 3, a | .scScalar c, 4, a | .scScalar c, 5, a => rfl
  | .scVector c s, 0, a | .scVector c s, 1, a | .scVector c s, 2, a | .scVector c s, 3, a | .scVector c s, 4, a | .scVector c s, 5, a => rfl

/-- The two programs' calls. -/
theorem defs_eq : Cert.KernelIdeal.defs (F := Bits) = Cert.Kernel.defs (F := Bits) :=
  congrArg (fun D => (Cert.KernelIdeal.sc (F := Bits)).defs (Pipeline.defs (Cert.KernelIdeal.pcfgs (F := Bits)) D)) bodies_eq

/-- The two programs' threads. -/
theorem threads_eq : Cert.KernelIdeal.threads (F := Bits) = Cert.Kernel.threads (F := Bits) := rfl

end Cert.Proof.Bert
-- ==== Proof.Block.lean ====
/-
  What the TensorCore's body computes of the six blocks it is handed, entry by entry, over the extended reals.
-/
module

public import proofs.«01_k».proof.Proof.Base
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

noncomputable section

namespace Cert.Proof.Bert

open Cert.KernelIdeal Cert.KernelIdeal.Gen
open Idealize.ShloMosaic Idealize.ShloMosaic.ValueIdx

/-- One entry of the two-layer network's result on a row `x`: the hidden layer is the row times `W1` plus `b1`, cut off below
    at zero; the entry is the hidden layer times column `e` of `W2` plus `b2` at `e`. -/
def cell (x : Fin 128 → EReal) (W1 : S128x256.Idx → EReal) (b1 : Fin 256 → EReal) (W2 : S256x128.Idx → EReal) (b2 : Fin 128 → EReal)
    (e : Fin 128) : EReal :=
  (∑ k : Fin 256, max ((∑ j : Fin 128, x j * W1 (ix2 j k)) + b1 k) 0 * W2 (ix2 k e)) + b2 e

/-- The network's entry on the sum of row `r` of `g` and row `s` of `pos`, the two offsets kept as arrays of one row. -/
def net {N : ℕ} (g : (⟨2, ![N, 128]⟩ : Shape).Idx → EReal) (pos : S6400x128.Idx → EReal) (W1 : S128x256.Idx → EReal)
    (b1 : S1x256.Idx → EReal) (W2 : S256x128.Idx → EReal) (b2 : S1x128.Idx → EReal) (r : Fin N) (s : Fin 6400) (e : Fin 128) : EReal :=
  cell (fun j => g (ix2 r j) + pos (ix2 s j)) W1 (fun k => b1 (ix2 0 k)) W2 (fun e => b2 (ix2 0 e)) e

/-- The entry reads only the row of `g` it names. -/
theorem net_congr {N M : ℕ} {g : (⟨2, ![N, 128]⟩ : Shape).Idx → EReal} {g' : (⟨2, ![M, 128]⟩ : Shape).Idx → EReal} {pos pos' W1 W1' b1 b1' W2 W2' b2 b2'}
    {r : Fin N} {r' : Fin M} {s : Fin 6400} {e : Fin 128} (hg : ∀ j, g (ix2 r j) = g' (ix2 r' j)) (hp : pos = pos') (h1 : W1 = W1')
    (h2 : b1 = b1') (h3 : W2 = W2') (h4 : b2 = b2') : net g pos W1 b1 W2 b2 r s e = net g' pos' W1' b1' W2' b2' r' s e := by
  subst hp h1 h2 h3 h4
  unfold net
  simp only [hg]

/-- The row of a block of 6400 that batch `b` of its 128 and position `p` of 50 make. -/
def rowOf (b : Fin 128) (p : Fin 50) : Fin 6400 := ⟨50 * b.val + p.val, by omega⟩

/-- The body's block at batch `b`, position `p`, column `e`: the network's entry on the sum of the two rows that `b` and `p` name. -/
theorem pay_apply (v0 v2 : Vec Ideal S6400x128 .f32) (v4 : Vec Ideal S128x256 .f32) (v6 : Vec Ideal S1x256 .f32)
    (v12 : Vec Ideal S256x128 .f32) (v14 : Vec Ideal S1x128 .f32) (b : Fin 128) (p : Fin 50) (e : Fin 128) :
    k1_pay1 (F := Ideal) v0 v2 v4 v6 v12 v14 (ix3 b p e)
      = net v0 v2 v4 v6 v12 v14 (rowOf b p) (rowOf b p) e := by
  unfold k1_pay1 net cell
  rw [shapeCast_apply _ _ (ix3 b p e) (ix2 (rowOf b p) e)]
  swap
  · rw [Shape.rowMajor_val_two, Shape.rowMajor_val_three]
    show (50 * b.val + p.val) * 128 + e.val = (b.val * 50 + p.val) * 128 + e.val
    omega
  rw [shapeCast_self, shapeCast_self, shapeCast_self, addf_apply]
  refine congrArg₂ (· + ·) ?_ ?_
  · refine (Ideal.matmul_plain_apply (M := 6400) (K := 256) (N := 128) none _ _ _ (rowOf b p) e).trans ?_
    rw [show (constant (F := Ideal) S6400x128 .f32 0x00000000#32 : FVec Ideal S6400x128 .f32) (ix2 (rowOf b p) e) = 0 from Ideal.ofBits_zero_f32, zero_add]
    refine Finset.sum_congr rfl fun k _ => congrArg₂ (· * ·) ?_ rfl
    rw [maximumf_apply, addf_apply]
    refine congrArg₂ max (congrArg₂ (· + ·) ?_ ?_) Ideal.ofBits_zero_f32
    · refine (Ideal.matmul_plain_apply (M := 6400) (K := 128) (N := 256) none _ _ _ (rowOf b p) k).trans ?_
      rw [show (constant (F := Ideal) S6400x256 .f32 0x00000000#32 : FVec Ideal S6400x256 .f32) (ix2 (rowOf b p) k) = 0 from Ideal.ofBits_zero_f32, zero_add]
      rfl
    · exact broadcastTo_apply _ _ _ _ (fun a => by fin_cases a <;> rfl)
  · exact broadcastTo_apply _ _ _ _ (fun a => by fin_cases a <;> rfl)

end Cert.Proof.Bert
-- ==== Proof.Blocks.lean ====
/-
  What each of the TensorCore's three calls leaves in its output array, entry by entry, over the extended reals: the batches
  its points cover hold the network's entries on the call's rows, every other batch what it held before.
-/
module

public import proofs.«01_k».proof.Proof.Block
public import proofs.«01_k».proof.Proof.Regions

@[expose] public section

noncomputable section

namespace Cert.Proof.Bert

open Cert.KernelIdeal Cert.KernelIdeal.Gen
open Idealize.ShloMosaic Idealize.ShloMosaic.ValueIdx
open Idealize.ShloMosaic.Pipeline (Dat Cfg Window)

/-- Blocks told apart by a number read off the index are disjoint. -/
theorem disjoint_of_mem {cfg : Cfg sig Λ₀} {w : Fin cfg.W} (f : (cfg.win w).arr.view.ty.Idx → ℕ) (o : ℕ)
    (h : ∀ (t : Fin cfg.N) i, i ∈ ((cfg.win w).blk t).view.set ↔ f i = o + t.val) (t t' : Fin cfg.N)
    (_ : (cfg.win w).flush t = true) (_ : (cfg.win w).flush t' = true) (hne : t ≠ t') :
    Disjoint ((cfg.win w).blk t).view.set ((cfg.win w).blk t').view.set :=
  Finset.disjoint_left.mpr fun i hi hi' => hne (Fin.ext (Nat.add_left_cancel (((h t i).mp hi).symm.trans ((h t' i).mp hi'))))

variable (W : Valuation τ sig (Elt Ideal)) (q : ℕ) (d : Dev nD)

/-- The indices of the output array within a block of 128 whole batches, the `n`-th: those whose batch divided by 128 is `n`. -/
theorem band_iff {o s : Fin 3 → ℕ} {n : ℕ} (i : S4096x50x128.Idx)
    (h : o 0 = n * 128 ∧ s 0 = 128 ∧ o 1 = 0 ∧ s 1 = 50 ∧ o 2 = 0 ∧ s 2 = 128) :
    (∀ a, o a ≤ (i a : ℕ) ∧ (i a : ℕ) < o a + s a) ↔ (i 0 : ℕ) / 128 = n := by
  obtain ⟨e0, e1, e2, e3, e4, e5⟩ := h
  have h1 : (i 1 : ℕ) < 50 := (i 1).isLt
  have h2 : (i 2 : ℕ) < 128 := (i 2).isLt
  constructor
  · intro h
    have := h 0
    omega
  · intro h a
    match a with
    | ⟨0, _⟩ => show o 0 ≤ (i 0 : ℕ) ∧ (i 0 : ℕ) < o 0 + s 0; omega
    | ⟨1, _⟩ => show o 1 ≤ (i 1 : ℕ) ∧ (i 1 : ℕ) < o 1 + s 1; omega
    | ⟨2, _⟩ => show o 2 ≤ (i 2 : ℕ) ∧ (i 2 : ℕ) < o 2 + s 2; omega

/-- The index of the output array that batch `b` of the `n`-th 128, position `p` and column `e` make, known by its coordinates. -/
theorem batch_eq {j : S4096x50x128.Idx} {n : ℕ} {b : Fin 128} {p : Fin 50} {e : Fin 128} (h : 128 * n + b.val < 4096)
    (h0 : (j 0 : ℕ) = n * 128 + b.val) (h1 : (j 1 : ℕ) = p.val) (h2 : (j 2 : ℕ) = e.val) :
    j = (ix3 (⟨128 * n + b.val, h⟩ : Fin 4096) p e : S4096x50x128.Idx) := by
  funext a; refine Fin.ext ?_
  match a with
  | ⟨0, _⟩ => show (j 0 : ℕ) = 128 * n + b.val; omega
  | ⟨1, _⟩ => exact h1
  | ⟨2, _⟩ => exact h2

/-- The body's block when its rows are the `t`-th 6400 rows of `g` and its other operands are whole arrays, each entry read where its
    coordinates say: the network's entries on those rows. -/
theorem block_net {N : ℕ} (g : (⟨2, ![N, 128]⟩ : Shape).Idx → EReal) (pos : S6400x128.Idx → EReal) (W1 : S128x256.Idx → EReal)
    (b1 : S1x256.Idx → EReal) (W2 : S256x128.Idx → EReal) (b2 : S1x128.Idx → EReal) (v0 v1 : Vec Ideal S6400x128 .f32)
    (v2 : Vec Ideal S128x256 .f32) (v3 : Vec Ideal S1x256 .f32) (v4 : Vec Ideal S256x128 .f32) (v5 : Vec Ideal S1x128 .f32)
    {t : ℕ} {b : Fin 128} {p : Fin 50} {e : Fin 128} (h : 6400 * t + (rowOf b p).val < N)
    (h0 : ∀ x, ∃ y, v0 x = g y ∧ (y 0 : ℕ) = t * 6400 + (x 0 : ℕ) ∧ (y 1 : ℕ) = x 1)
    (h1 : ∀ x, ∃ y, v1 x = pos y ∧ ∀ a, (y a : ℕ) = x a) (h2 : ∀ x, ∃ y, v2 x = W1 y ∧ ∀ a, (y a : ℕ) = x a)
    (h3 : ∀ x, ∃ y, v3 x = b1 y ∧ ∀ a, (y a : ℕ) = x a) (h4 : ∀ x, ∃ y, v4 x = W2 y ∧ ∀ a, (y a : ℕ) = x a)
    (h5 : ∀ x, ∃ y, v5 x = b2 y ∧ ∀ a, (y a : ℕ) = x a) :
    k1_pay1 (F := Ideal) v0 v1 v2 v3 v4 v5 (ix3 b p e) = net g pos W1 b1 W2 b2 ⟨6400 * t + (rowOf b p).val, h⟩ (rowOf b p) e := by
  have same {s : Shape} {f v : s.Idx → EReal} (hv : ∀ x, ∃ y : s.Idx, v x = f y ∧ ∀ a, (y a : ℕ) = x a) : v = f := funext fun x => by
    obtain ⟨y, e, hy⟩ := hv x
    rw [e, show y = x from funext fun a => Fin.ext (hy a)]
  refine (pay_apply _ _ _ _ _ _ b p e).trans (net_congr (fun j => ?_) (same h1) (same h2) (same h3) (same h4) (same h5))
  obtain ⟨y, e, hy⟩ := h0 (ix2 (rowOf b p) j)
  rw [e]
  refine congrArg g (funext fun a => Fin.ext ?_)
  match a with
  | ⟨0, _⟩ => exact hy.1.trans (congrArg (· + (rowOf b p).val) (Nat.mul_comm t 6400))
  | ⟨1, _⟩ => exact hy.2

/-- The first call's output window covers, at point `t`, the 128 batches from batch 128·t on. -/
theorem mem_out1 (t : Fin cfg1.N) (i : S4096x50x128.Idx) :
    i ∈ ((cfg1.win 6).blk t).view.set ↔ (i 0 : ℕ) / 128 = 0 + t.val := by
  show i ∈ ((View.whole main_v9).slice (win1_6.rect t)).set ↔ _
  rw [View.set_slice_whole, Rect.mem_set_unit]
  exact band_iff i (by revert t; decide +kernel)

/-- The first call at batch 128·t + b, position `p`, column `e`: the network's entry on row 6400·t + 50·b + p of its gathered rows. -/
theorem out1_in (t : Fin 12) (b : Fin 128) (p : Fin 50) (e : Fin 128) :
    (dat1 W q d).arrAt 6 cfg1.N (ix3 (⟨128 * t.val + b.val, by omega⟩ : Fin 4096) p e : S4096x50x128.Idx)
      = net (N := 76800) (W (Proc.devRef .tc main_v8)) (W (Proc.devRef .tc main_v4)) (W (Proc.devRef .tc main_arg4))
          (W (Proc.devRef .tc main_v5)) (W (Proc.devRef .tc main_arg6)) (W (Proc.devRef .tc main_v6))
          ⟨6400 * t.val + (rowOf b p).val, by have := (rowOf b p).isLt; omega⟩ (rowOf b p) e := by
  have h := (dat1 W q d).arrAt_emb_eq_flushed 6 (disjoint_of_mem (fun i : S4096x50x128.Idx => (i 0 : ℕ) / 128) 0 mem_out1) t
    (flush1_6 t) (ix3 b p e : S128x50x128.Idx)
  have i6 : ∀ t : Fin 12, win1_6.index t 0 = t.val ∧ win1_6.index t 1 = 0 ∧ win1_6.index t 2 = 0 := by decide +kernel
  have i0 : ∀ t : Fin 12, win1_0.index t 0 = t.val ∧ win1_0.index t 1 = 0 := by decide +kernel
  have hi : ((cfg1.win 6).blk t).view.emb (ix3 b p e : S128x50x128.Idx) = (ix3 (⟨128 * t.val + b.val, by omega⟩ : Fin 4096) p e : S4096x50x128.Idx) :=
    batch_eq _ ((win1_6.rect_emb_val t _ 0).trans (by rw [(i6 t).1]; rfl)) (win1_6.rect_emb_val_of_index_zero t 1 (i6 t).2.1 _)
      (win1_6.rect_emb_val_of_index_zero t 2 (i6 t).2.2 _)
  rw [hi] at h
  exact h.trans (block_net _ _ _ _ _ _ (blk cfg1 W 0 t) (blk cfg1 W 1 t) (blk cfg1 W 2 t) (blk cfg1 W 3 t) (blk cfg1 W 4 t) (blk cfg1 W 5 t) _
    (fun x => ⟨(win1_0.rect t).emb x, rfl, (win1_0.rect_emb_val t x 0).trans (by rw [(i0 t).1]; rfl), win1_0.rect_emb_val_of_index_zero t 1 (i0 t).2 x⟩)
    (fun x => ⟨(win1_1.rect t).emb x, rfl, fun a => win1_1.rect_emb_val_of_index_zero t a (by fin_cases a <;> rfl) x⟩)
    (fun x => ⟨(win1_2.rect t).emb x, rfl, fun a => win1_2.rect_emb_val_of_index_zero t a (by fin_cases a <;> rfl) x⟩)
    (fun x => ⟨(win1_3.rect t).emb x, rfl, fun a => win1_3.rect_emb_val_of_index_zero t a (by fin_cases a <;> rfl) x⟩)
    (fun x => ⟨(win1_4.rect t).emb x, rfl, fun a => win1_4.rect_emb_val_of_index_zero t a (by fin_cases a <;> rfl) x⟩)
    (fun x => ⟨(win1_5.rect t).emb x, rfl, fun a => win1_5.rect_emb_val_of_index_zero t a (by fin_cases a <;> rfl) x⟩))

/-- The first call leaves the batches from 1536 on as they were. -/
theorem out1_off (i : S4096x50x128.Idx) (hi : 1536 ≤ (i 0 : ℕ)) :
    (dat1 W q d).arrAt 6 cfg1.N i = W (Proc.devRef .tc main_v9) i :=
  (dat1 W q d).arrAt_apply_of_forall_not_mem 6 cfg1.N i fun t _ _ hm => by
    have := (mem_out1 t i).mp hm
    have ht : t.val < 12 := t.isLt
    omega

/-- The second call's output window covers, at point `t`, the 128 batches from batch 128·(12 + t) on. -/
theorem mem_out3 (t : Fin cfg3.N) (i : S4096x50x128.Idx) :
    i ∈ ((cfg3.win 6).blk t).view.set ↔ (i 0 : ℕ) / 128 = 12 + t.val := by
  show i ∈ ((View.whole main_v12).slice (win3_6.rect t)).set ↔ _
  rw [View.set_slice_whole, Rect.mem_set_unit]
  exact band_iff i (by revert t; decide +kernel)

/-- The second call at batch 128·(12 + t) + b, position `p`, column `e`: the network's entry on row 6400·t + 50·b + p of its gathered rows. -/
theorem out3_in (t : Fin 12) (b : Fin 128) (p : Fin 50) (e : Fin 128) :
    (dat3 W q d).arrAt 6 cfg3.N (ix3 (⟨128 * (12 + t.val) + b.val, by omega⟩ : Fin 4096) p e : S4096x50x128.Idx)
      = net (N := 76800) (W (Proc.devRef .tc main_v11)) (W (Proc.devRef .tc main_v4)) (W (Proc.devRef .tc main_arg4))
          (W (Proc.devRef .tc main_v5)) (W (Proc.devRef .tc main_arg6)) (W (Proc.devRef .tc main_v6))
          ⟨6400 * t.val + (rowOf b p).val, by have := (rowOf b p).isLt; omega⟩ (rowOf b p) e := by
  have h := (dat3 W q d).arrAt_emb_eq_flushed 6 (disjoint_of_mem (fun i : S4096x50x128.Idx => (i 0 : ℕ) / 128) 12 mem_out3) t
    (flush3_6 t) (ix3 b p e : S128x50x128.Idx)
  have i6 : ∀ t : Fin 12, win3_6.index t 0 = (12 + t.val) ∧ win3_6.index t 1 = 0 ∧ win3_6.index t 2 = 0 := by decide +kernel
  have i0 : ∀ t : Fin 12, win3_0.index t 0 = t.val ∧ win3_0.index t 1 = 0 := by decide +kernel
  have hi : ((cfg3.win 6).blk t).view.emb (ix3 b p e : S128x50x128.Idx) = (ix3 (⟨128 * (12 + t.val) + b.val, by omega⟩ : Fin 4096) p e : S4096x50x128.Idx) :=
    batch_eq _ ((win3_6.rect_emb_val t _ 0).trans (by rw [(i6 t).1]; rfl)) (win3_6.rect_emb_val_of_index_zero t 1 (i6 t).2.1 _)
      (win3_6.rect_emb_val_of_index_zero t 2 (i6 t).2.2 _)
  rw [hi] at h
  exact h.trans (block_net _ _ _ _ _ _ (blk cfg3 W 0 t) (blk cfg3 W 1 t) (blk cfg3 W 2 t) (blk cfg3 W 3 t) (blk cfg3 W 4 t) (blk cfg3 W 5 t) _
    (fun x => ⟨(win3_0.rect t).emb x, rfl, (win3_0.rect_emb_val t x 0).trans (by rw [(i0 t).1]; rfl), win3_0.rect_emb_val_of_index_zero t 1 (i0 t).2 x⟩)
    (fun x => ⟨(win3_1.rect t).emb x, rfl, fun a => win3_1.rect_emb_val_of_index_zero t a (by fin_cases a <;> rfl) x⟩)
    (fun x => ⟨(win3_2.rect t).emb x, rfl, fun a => win3_2.rect_emb_val_of_index_zero t a (by fin_cases a <;> rfl) x⟩)
    (fun x => ⟨(win3_3.rect t).emb x, rfl, fun a => win3_3.rect_emb_val_of_index_zero t a (by fin_cases a <;> rfl) x⟩)
    (fun x => ⟨(win3_4.rect t).emb x, rfl, fun a => win3_4.rect_emb_val_of_index_zero t a (by fin_cases a <;> rfl) x⟩)
    (fun x => ⟨(win3_5.rect t).emb x, rfl, fun a => win3_5.rect_emb_val_of_index_zero t a (by fin_cases a <;> rfl) x⟩))

/-- The second call leaves the batches outside 1536 to 3071 as they were. -/
theorem out3_off (i : S4096x50x128.Idx) (hi : (i 0 : ℕ) < 1536 ∨ 3072 ≤ (i 0 : ℕ)) :
    (dat3 W q d).arrAt 6 cfg3.N i = W (Proc.devRef .tc main_v12) i :=
  (dat3 W q d).arrAt_apply_of_forall_not_mem 6 cfg3.N i fun t _ _ hm => by
    have := (mem_out3 t i).mp hm
    have ht : t.val < 12 := t.isLt
    omega

/-- The third call's output window covers, at point `t`, the 128 batches from batch 128·(24 + t) on. -/
theorem mem_out5 (t : Fin cfg5.N) (i : S4096x50x128.Idx) :
    i ∈ ((cfg5.win 6).blk t).view.set ↔ (i 0 : ℕ) / 128 = 24 + t.val := by
  show i ∈ ((View.whole main_v15).slice (win5_6.rect t)).set ↔ _
  rw [View.set_slice_whole, Rect.mem_set_unit]
  exact band_iff i (by revert t; decide +kernel)

/-- The third call at batch 128·(24 + t) + b, position `p`, column `e`: the network's entry on row 6400·t + 50·b + p of its gathered rows. -/
theorem out5_in (t : Fin 8) (b : Fin 128) (p : Fin 50) (e : Fin 128) :
    (dat5 W q d).arrAt 6 cfg5.N (ix3 (⟨128 * (24 + t.val) + b.val, by omega⟩ : Fin 4096) p e : S4096x50x128.Idx)
      = net (N := 51200) (W (Proc.devRef .tc main_v14)) (W (Proc.devRef .tc main_v4)) (W (Proc.devRef .tc main_arg4))
          (W (Proc.devRef .tc main_v5)) (W (Proc.devRef .tc main_arg6)) (W (Proc.devRef .tc main_v6))
          ⟨6400 * t.val + (rowOf b p).val, by have := (rowOf b p).isLt; omega⟩ (rowOf b p) e := by
  have h := (dat5 W q d).arrAt_emb_eq_flushed 6 (disjoint_of_mem (fun i : S4096x50x128.Idx => (i 0 : ℕ) / 128) 24 mem_out5) t
    (flush5_6 t) (ix3 b p e : S128x50x128.Idx)
  have i6 : ∀ t : Fin 8, win5_6.index t 0 = (24 + t.val) ∧ win5_6.index t 1 = 0 ∧ win5_6.index t 2 = 0 := by decide +kernel
  have i0 : ∀ t : Fin 8, win5_0.index t 0 = t.val ∧ win5_0.index t 1 = 0 := by decide +kernel
  have hi : ((cfg5.win 6).blk t).view.emb (ix3 b p e : S128x50x128.Idx) = (ix3 (⟨128 * (24 + t.val) + b.val, by omega⟩ : Fin 4096) p e : S4096x50x128.Idx) :=
    batch_eq _ ((win5_6.rect_emb_val t _ 0).trans (by rw [(i6 t).1]; rfl)) (win5_6.rect_emb_val_of_index_zero t 1 (i6 t).2.1 _)
      (win5_6.rect_emb_val_of_index_zero t 2 (i6 t).2.2 _)
  rw [hi] at h
  exact h.trans (block_net _ _ _ _ _ _ (blk cfg5 W 0 t) (blk cfg5 W 1 t) (blk cfg5 W 2 t) (blk cfg5 W 3 t) (blk cfg5 W 4 t) (blk cfg5 W 5 t) _
    (fun x => ⟨(win5_0.rect t).emb x, rfl, (win5_0.rect_emb_val t x 0).trans (by rw [(i0 t).1]; rfl), win5_0.rect_emb_val_of_index_zero t 1 (i0 t).2 x⟩)
    (fun x => ⟨(win5_1.rect t).emb x, rfl, fun a => win5_1.rect_emb_val_of_index_zero t a (by fin_cases a <;> rfl) x⟩)
    (fun x => ⟨(win5_2.rect t).emb x, rfl, fun a => win5_2.rect_emb_val_of_index_zero t a (by fin_cases a <;> rfl) x⟩)
    (fun x => ⟨(win5_3.rect t).emb x, rfl, fun a => win5_3.rect_emb_val_of_index_zero t a (by fin_cases a <;> rfl) x⟩)
    (fun x => ⟨(win5_4.rect t).emb x, rfl, fun a => win5_4.rect_emb_val_of_index_zero t a (by fin_cases a <;> rfl) x⟩)
    (fun x => ⟨(win5_5.rect t).emb x, rfl, fun a => win5_5.rect_emb_val_of_index_zero t a (by fin_cases a <;> rfl) x⟩))

/-- The third call leaves the batches below 3072 as they were. -/
theorem out5_off (i : S4096x50x128.Idx) (hi : (i 0 : ℕ) < 3072) :
    (dat5 W q d).arrAt 6 cfg5.N i = W (Proc.devRef .tc main_v15) i :=
  (dat5 W q d).arrAt_apply_of_forall_not_mem 6 cfg5.N i fun t _ _ hm => by
    have := (mem_out5 t i).mp hm
    have ht : t.val < 8 := t.isLt
    omega

end Cert.Proof.Bert
-- ==== Proof.Array.lean ====
/-
  What the program's result array holds at the end of its run, entry by entry, over the extended reals: the network's entry on
  the table's row that the batch's word at the position names, plus the position's row.
-/
module

public import proofs.«01_k».proof.Proof.Blocks
public import proofs.«01_k».proof.Proof.Run

@[expose] public section

noncomputable section

namespace Cert.Proof.Bert

open Cert.KernelIdeal Cert.KernelIdeal.Gen
open Idealize.ShloMosaic Idealize.ShloMosaic.ValueIdx
open Idealize.ShloMosaic.StableHlo (after)

/-- The table's row a word names, the last one when it names none. -/
def rowNamed (v : BitVec 32) : Fin 100000 := ⟨min v.toNat 99999, Nat.lt_succ_of_le (Nat.min_le_right _ _)⟩

/-- The words looked up: the last row's number where the mask is set, the given words elsewhere. -/
def wordsOf (mask : S4096x50.Idx → BitVec 1) (ids : S4096x50.Idx → BitVec 32) : S4096x50.Idx → BitVec 32 :=
  fun i => Scalar.select (mask i) 99999#32 (ids i)

/-- The result at batch `b`, position `p`, column `e`, of the arguments: the network's entry on the table's row named by the word
    at `b` and `p`, plus row `p` of the positions. -/
def entry (ids : S4096x50.Idx → BitVec 32) (mask : S4096x50.Idx → BitVec 1) (tab : S100000x128.Idx → EReal) (pos : S50x128.Idx → EReal)
    (W1 : S128x256.Idx → EReal) (b1 : S256.Idx → EReal) (W2 : S256x128.Idx → EReal) (b2 : S128.Idx → EReal)
    (b : Fin 4096) (p : Fin 50) (e : Fin 128) : EReal :=
  cell (fun j => tab (ix2 (rowNamed (wordsOf mask ids (ix2 b p))) j) + pos (ix2 p j)) W1 (fun k => b1 (ix1 k)) W2 (fun e => b2 (ix1 e)) e

section
variable {F : FTy → Type} [FloatOps F] (m : (ℓ : Loc nD τ sig) → Buf (Elt F) ℓ) (d : Dev nD)

/-- The positions' rows as the calls read them: the fifty rows, once for each of 128 batches. -/
theorem V1_pos : V1 m d (dr main_v4)
    = shapeCast S6400x128 (broadcastInDim S128x50x1x128 ![0, 1, 2, 3] bcast_S1x50x1x128_S128x50x1x128_0_1_2_3
        (shapeCast S1x50x1x128 (m (d, dr main_arg3)) shapeCasts_S50x128_S1x50x1x128)) shapeCasts_S128x50x1x128_S6400x128 := by
  unfold V1 opsA
  after_results_simp
  rfl

/-- The first offset as an array of one row. -/
theorem V1_b1 : V1 m d (dr main_v5) = shapeCast S1x256 (m (d, dr main_arg5)) shapeCasts_S256_S1x256 := by
  unfold V1 opsA
  after_results_simp
  rfl

/-- The second offset as an array of one row. -/
theorem V1_b2 : V1 m d (dr main_v6) = shapeCast S1x128 (m (d, dr main_arg7)) shapeCasts_S128_S1x128 := by
  unfold V1 opsA
  after_results_simp
  rfl

/-- The word at batch `b` and position `p` is where the rows of 128 have it. -/
theorem V1_word (b : Fin 4096) (p : Fin 50) (r : Fin 1600) (c : Fin 128) (h : 128 * r.val + c.val = 50 * b.val + p.val) :
    (V1 m d (dr main_v1) : S1600x128.Idx → BitVec 32) (ix2 r c)
      = wordsOf (m (d, dr main_arg1)) (m (d, dr main_arg0)) (ix2 b p) := by
  rw [V1_words]
  refine (shapeCast_apply _ _ (ix2 r c) (ix2 b p) ?_).trans rfl
  rw [Shape.rowMajor_val_two, Shape.rowMajor_val_two]
  show b.val * 50 + p.val = r.val * 128 + c.val
  omega

/-- A gathered array at a row: the table's row named by the index word there. -/
theorem gat_row {n N : ℕ} (h : N = (⟨2, ![n, 128]⟩ : Shape).numel) (tb : S100000x128.Idx → Elt F .f32)
    (ix : (⟨2, ![n, 128]⟩ : Shape).Idx → BitVec 32) (r : Fin N) (a : Fin n) (c : Fin 128) (hr : 128 * a.val + c.val = r.val) (j : Fin 128) :
    gat h tb ix (ix2 r j) = tb (ix2 (rowNamed (ix (ix2 a c))) j) := by
  have e : (⟨2, ![n, 128]⟩ : Shape).rowMajor.symm (r.cast h) = ix2 a c := by
    rw [Equiv.symm_apply_eq]
    refine Fin.ext ?_
    rw [Shape.rowMajor_val_two]
    show r.val = a.val * 128 + c.val
    omega
  unfold gat
  refine congrArg tb ?_
  funext x
  match x with
  | ⟨0, _⟩ => exact Fin.ext (congrArg (fun k => min (ix k).toNat 99999) e)
  | ⟨1, _⟩ => rfl

/-- The table is as at launch. -/
theorem tb_arg : (words m).tb d = m (d, dr main_arg2) := V1_arg m d (dr main_arg2) (by decide)

/-- A gathered array whose index rows are those from row `o` on, at the row where batch `b` and position `p` fall in it. -/
theorem gat_word {n N : ℕ} (hN : N = (⟨2, ![n, 128]⟩ : Shape).numel) (o : ℕ) (hs : S1600x128.Slices ![o, 0] ⟨2, ![n, 128]⟩)
    (b : Fin 4096) (p : Fin 50) (r : Fin N) (h : 128 * o + r.val = 50 * b.val + p.val) (j : Fin 128) :
    gat hN ((words m).tb d) (extractStridedSlice (⟨2, ![n, 128]⟩ : Shape) ![o, 0] (V1 m d (dr main_v1) : S1600x128.Idx → BitVec 32) hs) (ix2 r j)
      = (m (d, dr main_arg2) : S100000x128.Idx → Elt F .f32) (ix2 (rowNamed (wordsOf (m (d, dr main_arg1)) (m (d, dr main_arg0)) (ix2 b p))) j) := by
  have hn : N = n * 128 := hN.trans (by simp [Shape.numel, Fin.prod_univ_two])
  have hr := r.isLt
  refine (gat_row hN _ _ r ⟨r.val / 128, by omega⟩ ⟨r.val % 128, by omega⟩ (by show 128 * (r.val / 128) + r.val % 128 = _; omega) j).trans ?_
  rw [tb_arg]
  refine congrArg (fun v => (m (d, dr main_arg2) : S100000x128.Idx → Elt F .f32) (ix2 (rowNamed v) j)) ?_
  refine (extractStridedSlice_apply _ _ hs _ (ix2 (⟨o + r.val / 128, by omega⟩ : Fin 1600) (⟨r.val % 128, by omega⟩ : Fin 128)) ?_).trans
    (V1_word m d b p _ _ (by show 128 * (o + r.val / 128) + r.val % 128 = _; omega))
  intro a; match a with
  | ⟨0, _⟩ => rfl
  | ⟨1, _⟩ => show r.val % 128 = 0 + r.val % 128; omega

/-- The positions' rows at the row batch `b` of a block and position `p` make: row `p`. -/
theorem V1_pos_row (b : Fin 128) (p : Fin 50) (j : Fin 128) :
    (V1 m d (dr main_v4) : S6400x128.Idx → Elt F .f32) (ix2 (rowOf b p) j) = (m (d, dr main_arg3) : S50x128.Idx → Elt F .f32) (ix2 p j) := by
  rw [V1_pos]
  refine (shapeCast_apply _ _ (ix2 (rowOf b p) j) (ix4 b p (0 : Fin 1) j) ?_).trans ?_
  · rw [Shape.rowMajor_val_two, Shape.rowMajor_val_four]
    show ((b.val * 50 + p.val) * 1 + 0) * 128 + j.val = (50 * b.val + p.val) * 128 + j.val
    omega
  refine (broadcastInDim_apply _ _ _ _ (ix4 (0 : Fin 1) p (0 : Fin 1) j) (fun a => by fin_cases a <;> rfl)).trans ?_
  refine shapeCast_apply _ _ _ (ix2 p j) ?_
  rw [Shape.rowMajor_val_two, Shape.rowMajor_val_four]
  show p.val * 128 + j.val = ((0 * 50 + p.val) * 1 + 0) * 128 + j.val
  omega

/-- A vector as an array of one row, entry by entry. -/
theorem one_row {n : ℕ} {α : Type} (v : (⟨1, ![n]⟩ : Shape).Idx → α) (h) (k : Fin n) : shapeCast (⟨2, ![1, n]⟩ : Shape) v h (ix2 0 k) = v (ix1 k) := by
  refine shapeCast_apply _ _ _ (ix1 k) ?_
  rw [Shape.rowMajor_val_two, Shape.rowMajor_val_one]
  show k.val = 0 * n + k.val
  omega
end

section
variable (m : (ℓ : Loc nD τ sig) → Buf (Elt Ideal) ℓ) (d : Dev nD)

/-- The result's entry, of the launch memory. -/
abbrev entryAt (b : Fin 4096) (p : Fin 50) (e : Fin 128) : EReal :=
  entry (m (d, dr main_arg0)) (m (d, dr main_arg1)) (m (d, dr main_arg2)) (m (d, dr main_arg3)) (m (d, dr main_arg4))
    (m (d, dr main_arg5)) (m (d, dr main_arg6)) (m (d, dr main_arg7)) b p e

/-- The network's entry on a call's row, when the call's row is the table's row the word names and the call finds the other arrays as
    @main prepared them. -/
theorem net_entry (V : Valuation τ sig (Elt Ideal)) (hV : ∀ b, b ∉ late → V b = V1 m d b) {N : ℕ} (g : (⟨2, ![N, 128]⟩ : Shape).Idx → EReal)
    (r : Fin N) (b : Fin 4096) (b' : Fin 128) (p : Fin 50) (e : Fin 128)
    (hg : ∀ j, g (ix2 r j) = (m (d, dr main_arg2) : S100000x128.Idx → EReal) (ix2 (rowNamed (wordsOf (m (d, dr main_arg1)) (m (d, dr main_arg0)) (ix2 b p))) j)) :
    net g (V (dr main_v4)) (V (dr main_arg4)) (V (dr main_v5)) (V (dr main_arg6)) (V (dr main_v6)) r (rowOf b' p) e = entryAt m d b p e := by
  rw [hV (dr main_v4) (by decide), (hV (dr main_arg4) (by decide)).trans (V1_arg m d _ (by decide)), hV (dr main_v5) (by decide),
    (hV (dr main_arg6) (by decide)).trans (V1_arg m d _ (by decide)), hV (dr main_v6) (by decide)]
  unfold net entryAt entry
  refine congr (congr (congr (congr (congr (congrArg cell (funext fun j => ?_)) rfl) (funext fun k => ?_)) rfl) (funext fun k => ?_)) rfl
  · rw [hg]; exact congrArg _ (V1_pos_row m d b' p j)
  · rw [V1_b1]; exact one_row _ _ k
  · rw [V1_b2]; exact one_row _ _ k

/-- What the first call leaves in its output array. -/
theorem V3_out : V3 m d (dr main_v9) = (dat1 (V2 m d) 1 d).arrAt 6 cfg1.N := by
  unfold V3 left1 left; exact Function.update_self ..
/-- What the second call leaves in its output array. -/
theorem V7_out : V7 m d (dr main_v12) = (dat3 (V6 m d) 2 d).arrAt 6 cfg3.N := by
  unfold V7 left3 left; exact Function.update_self ..
/-- What the third call leaves in its output array. -/
theorem V11_out : V11 m d (dr main_v15) = (dat5 (V10 m d) 3 d).arrAt 6 cfg5.N := by
  unfold V11 left5 left; exact Function.update_self ..
/-- The second call's output array starts as the first call left its own. -/
theorem V6_out : V6 m d (dr main_v12) = V3 m d (dr main_v9) := by
  have h5 : V5 m d (dr main_v9) = V4 m d (dr main_v9) := Function.update_of_ne (by decide) _ _
  have h4 : V4 m d (dr main_v9) = V3 m d (dr main_v9) :=
    opB.result_of_not_mem _ (fun h => absurd (Finset.mem_singleton.mp h) (by decide))
  exact (StableHlo.unary_result ..).trans (h5.trans h4)
/-- The third call's output array starts as the second call left its own. -/
theorem V10_out : V10 m d (dr main_v15) = V7 m d (dr main_v12) := by
  have h5 : V9 m d (dr main_v12) = V8 m d (dr main_v12) := Function.update_of_ne (by decide) _ _
  have h4 : V8 m d (dr main_v12) = V7 m d (dr main_v12) :=
    opD.result_of_not_mem _ (fun h => absurd (Finset.mem_singleton.mp h) (by decide))
  exact (StableHlo.unary_result ..).trans (h5.trans h4)

/-- The first gathered array when the first call reads it. -/
theorem V2_rows : V2 m d (dr main_v8) = gat numel0 ((words m).tb d)
    (extractStridedSlice S600x128 ![0, 0] (V1 m d (dr main_v1) : S1600x128.Idx → BitVec 32) slices_S1600x128_S600x128_0_0) :=
  (Function.update_self (dr main_v8) _ _).trans (congrArg (gat numel0 ((words m).tb d)) (V1_rows m d))
/-- The second gathered array when the second call reads it. -/
theorem V6_rows : V6 m d (dr main_v11) = (words m).g1 d := by
  have h : V5 m d (dr main_v11) = (words m).g1 d := by unfold V5; exact Function.update_self ..
  exact (opC.result_of_not_mem (b := dr main_v11) _ (fun h => absurd (Finset.mem_singleton.mp h) (by decide))).trans h
/-- The third gathered array when the third call reads it. -/
theorem V10_rows : V10 m d (dr main_v14) = (words m).g2 d := by
  have h : V9 m d (dr main_v14) = (words m).g2 d := by unfold V9; exact Function.update_self ..
  exact (opE.result_of_not_mem (b := dr main_v14) _ (fun h => absurd (Finset.mem_singleton.mp h) (by decide))).trans h

/-- The result array at the end of the run. -/
theorem result_apply (b : Fin 4096) (p : Fin 50) (e : Fin 128) :
    (V11 m d (dr main_v15) : S4096x50x128.Idx → EReal) (ix3 b p e) = entryAt m d b p e := by
  obtain ⟨t, ht⟩ : ∃ t, t = b.val / 128 := ⟨_, rfl⟩
  obtain ⟨c, hc⟩ : ∃ c, c = b.val % 128 := ⟨_, rfl⟩
  have hcl : c < 128 := by omega
  have hb : b.val = 128 * t + c := by omega
  have hbl := b.isLt
  rw [V11_out]
  by_cases h5 : 3072 ≤ b.val
  · have eb : b = ⟨128 * (24 + (t - 24)) + c, by omega⟩ := Fin.ext (by show b.val = 128 * (24 + (t - 24)) + c; omega)
    refine (congrArg (fun b => (dat5 (V10 m d) 3 d).arrAt 6 cfg5.N (ix3 b p e : S4096x50x128.Idx)) eb).trans ?_
    refine (out5_in (V10 m d) 3 d ⟨t - 24, by omega⟩ ⟨c, hcl⟩ p e).trans ?_
    exact net_entry m d (V10 m d) (V10_keep m d) _ _ b ⟨c, hcl⟩ p e
      (fun j => by rw [V10_rows]; exact gat_word m d numel4 1200 slices_S1600x128_S400x128_1200_0 b p _ (by show 128 * 1200 + (6400 * (t - 24) + (50 * c + p.val)) = _; omega) j)
  rw [out5_off (V10 m d) 3 d _ (by show b.val < 3072; omega), V10_out, V7_out]
  by_cases h3 : 1536 ≤ b.val
  · have eb : b = ⟨128 * (12 + (t - 12)) + c, by omega⟩ := Fin.ext (by show b.val = 128 * (12 + (t - 12)) + c; omega)
    refine (congrArg (fun b => (dat3 (V6 m d) 2 d).arrAt 6 cfg3.N (ix3 b p e : S4096x50x128.Idx)) eb).trans ?_
    refine (out3_in (V6 m d) 2 d ⟨t - 12, by omega⟩ ⟨c, hcl⟩ p e).trans ?_
    exact net_entry m d (V6 m d) (V6_keep m d) _ _ b ⟨c, hcl⟩ p e
      (fun j => by rw [V6_rows]; exact gat_word m d numel0 600 slices_S1600x128_S600x128_600_0 b p _ (by show 128 * 600 + (6400 * (t - 12) + (50 * c + p.val)) = _; omega) j)
  rw [out3_off (V6 m d) 2 d _ (Or.inl (by show b.val < 1536; omega)), V6_out, V3_out]
  have eb : b = ⟨128 * t + c, by omega⟩ := Fin.ext hb
  refine (congrArg (fun b => (dat1 (V2 m d) 1 d).arrAt 6 cfg1.N (ix3 b p e : S4096x50x128.Idx)) eb).trans ?_
  refine (out1_in (V2 m d) 1 d ⟨t, by omega⟩ ⟨c, hcl⟩ p e).trans ?_
  exact net_entry m d (V2 m d) (V2_keep m d) _ _ b ⟨c, hcl⟩ p e
    (fun j => by rw [V2_rows]; exact gat_word m d numel0 0 slices_S1600x128_S600x128_0_0 b p _ (by show 128 * 0 + (6400 * t + (50 * c + p.val)) = _; omega) j)
end

end Cert.Proof.Bert
-- ==== Proof.RefValue.lean ====
/-
  What the reference computes, entry by entry, over the extended reals, when every word it is handed is below the table's rows.
-/
module

public import proofs.«01_k».proof.Proof.Array
public import proofs.«01_k».proof.Proof.Gen.ReferenceIdeal.Run
public import Idealize.ShloMosaic.Lib.ReduceAll

@[expose] public section

noncomputable section

namespace Cert.Proof.Reference

open Cert.Proof.Bert (cell entry rowNamed wordsOf)
open Cert.ReferenceIdeal Cert.ReferenceIdeal.Gen
open Idealize.ShloMosaic Idealize.ShloMosaic.ValueIdx

/-! ## Words -/

section Words
variable (v : BitVec 32) (n : ℕ) (hv : v.toNat < n) (hn : n ≤ 100000)
include hv hn

/-- A word below a small bound is not negative: wrapping it round leaves it as it is, -/
theorem wrap_word (w : BitVec 32) : Scalar.select (IntOp.cmpi .slt v 0#32) w v = v := by
  have : IntOp.cmpi .slt v 0#32 = 0#1 := by
    simp only [IntOp.cmpi, BitVec.slt_eq_decide]
    rw [decide_eq_false]; · rfl
    simp only [BitVec.toInt_eq_toNat_cond, BitVec.toNat_ofNat, Nat.reducePow, Nat.reduceMod]
    omega
  rw [this]
  exact if_neg (by decide)

/-- it is within the bounds, -/
theorem inside_word (k : BitVec 32) (hk : k.toNat + 1 = n) : IntOp.andi (IntOp.cmpi .sge v 0#32) (IntOp.cmpi .sle v k) = 1#1 := by
  have h1 : IntOp.cmpi .sge v 0#32 = 1#1 := by
    simp only [IntOp.cmpi, BitVec.sle_eq_decide]
    rw [decide_eq_true]; · rfl
    simp only [BitVec.toInt_eq_toNat_cond, BitVec.toNat_ofNat, Nat.reducePow, Nat.reduceMod]
    omega
  have h2 : IntOp.cmpi .sle v k = 1#1 := by
    simp only [IntOp.cmpi, BitVec.sle_eq_decide]
    rw [decide_eq_true]; · rfl
    simp only [BitVec.toInt_eq_toNat_cond, Nat.reducePow]
    omega
  rw [h1, h2]; rfl

/-- and read signed it is itself. -/
theorem signed_word : v.toInt.toNat = v.toNat := by
  simp only [BitVec.toInt_eq_toNat_cond, Nat.reducePow]
  omega
end Words

/-! ## The two look-ups -/

/-- The table's look-up at an index: the row the word names. -/
theorem gather_tab {α : Type} (x : S100000x128.Idx → α) (idx : IVec S4096x50x1 32) (b : Fin 4096) (p : Fin 50) (j : Fin 128) :
    Host.gather gather_S100000x128_S4096x50x1_S4096x50x128_2_0_n_n_0_2_1128 x idx (ix3 b p j)
      = x (ix2 ⟨min (idx (ix3 b p (0 : Fin 1))).toInt.toNat 99999, Nat.lt_succ_of_le (Nat.min_le_right _ _)⟩ j) := by
  unfold Host.gather
  refine congrArg x (funext fun a => Fin.ext ?_)
  match a with
  | ⟨0, _⟩ =>
    show GatherDims.start _ (ix3 b p j) idx 0 + GatherDims.batchCoord _ (ix3 b p j) 0 + GatherDims.offCoord _ (ix3 b p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x50x1_S4096x50x128_2_0_n_n_0_2_1128.startIndexMap from List.mem_singleton.mpr rfl)]
    refine congrArg (fun k => min (idx k).toInt.toNat 99999) (funext fun c => Fin.ext ?_)
    match c with
    | ⟨0, _⟩ => rfl
    | ⟨1, _⟩ => rfl
    | ⟨2, _⟩ => rfl
  | ⟨1, _⟩ =>
    show GatherDims.start _ (ix3 b p j) idx 1 + GatherDims.batchCoord _ (ix3 b p j) 1 + GatherDims.offCoord _ (ix3 b p j) 1 = j.val
    rw [GatherDims.batchCoord_eq_zero _ _ _ List.not_mem_nil]
    have h0 : GatherDims.start gather_S100000x128_S4096x50x1_S4096x50x128_2_0_n_n_0_2_1128 (ix3 b p j) idx 1 = 0 := by
      unfold GatherDims.start
      exact dif_neg (by decide)
    rw [h0]
    unfold GatherDims.offCoord
    rw [dif_pos (by decide)]
    show 0 + 0 + j.val = j.val
    omega

/-- The positions' look-up at an index. -/
theorem gather_pos {α : Type} (x : S50x128.Idx → α) (idx : IVec S50x1 32) (p : Fin 50) (j : Fin 128) :
    Host.gather gather_S50x128_S50x1_S50x128_1_0_n_n_0_1_1128 x idx (ix2 p j)
      = x (ix2 ⟨min (idx (ix2 p (0 : Fin 1))).toInt.toNat 49, Nat.lt_succ_of_le (Nat.min_le_right _ _)⟩ j) := by
  unfold Host.gather
  refine congrArg x (funext fun a => Fin.ext ?_)
  match a with
  | ⟨0, _⟩ =>
    show GatherDims.start _ (ix2 p j) idx 0 + GatherDims.batchCoord _ (ix2 p j) 0 + GatherDims.offCoord _ (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50x128_S50x1_S50x128_1_0_n_n_0_1_1128.startIndexMap from List.mem_singleton.mpr rfl)]
    refine congrArg (fun k => min (idx k).toInt.toNat 49) (funext fun c => Fin.ext ?_)
    match c with
    | ⟨0, _⟩ => rfl
    | ⟨1, _⟩ => rfl
  | ⟨1, _⟩ =>
    show GatherDims.start _ (ix2 p j) idx 1 + GatherDims.batchCoord _ (ix2 p j) 1 + GatherDims.offCoord _ (ix2 p j) 1 = j.val
    rw [GatherDims.batchCoord_eq_zero _ _ _ List.not_mem_nil]
    have h0 : GatherDims.start gather_S50x128_S50x1_S50x128_1_0_n_n_0_1_1128 (ix2 p j) idx 1 = 0 := by
      unfold GatherDims.start
      exact dif_neg (by decide)
    rw [h0]
    unfold GatherDims.offCoord
    rw [dif_pos (by decide)]
    show 0 + 0 + j.val = j.val
    omega

/-- A word wrapped round when negative: what the reference looks up by. -/
abbrev wrapped (s : Shape) (h : S_.BroadcastsInDim s ![]) (n : BitVec 32) (w : IVec s 32) : IVec s 32 :=
  select (cmpi .slt w (broadcastInDim s ![] h (constantI S_ 32 0#32))) (addi w (broadcastInDim s ![] h (constantI S_ 32 n))) w

/-- Words already below 100000 are left alone by the wrapping. -/
theorem wrapped_eq (s : Shape) (h : S_.BroadcastsInDim s ![]) (n : BitVec 32) (w : IVec s 32) (hw : ∀ i, (w i).toNat < 100000) :
    wrapped s h n w = w :=
  funext fun i => wrap_word (w i) 100000 (hw i) le_rfl _

/-- A choice at an index where the condition is set. -/
theorem select_at {α : Type} {s : Shape} (c : IVec s 1) (x y : s.Idx → α) (i : s.Idx) (h : c i = 1#1) : select c x y i = x i := if_pos h

/-- The reference's look-up in the table, when every word is below its rows: row by row the rows named. -/
theorem take_tab (x : S100000x128.Idx → EReal) (w : IVec S4096x50 32) (hw : ∀ i, (w i).toNat < 100000) (nan : S4096x50x128.Idx → EReal)
    (b : Fin 4096) (p : Fin 50) (j : Fin 128) :
    select (broadcastInDim S4096x50x128 ![0, 1] bcast_S4096x50_S4096x50x128_0_1 (Host.reduce IntOp.andi (andi
        (cmpi .sge (broadcastInDim S4096x50x1 ![0, 1] bcast_S4096x50_S4096x50x1_0_1 (wrapped S4096x50 bcast_S_S4096x50 100000#32 w)) (broadcastInDim S4096x50x1 ![] bcast_S_S4096x50x1 (constantI S_ 32 0#32)))
        (cmpi .sle (broadcastInDim S4096x50x1 ![0, 1] bcast_S4096x50_S4096x50x1_0_1 (wrapped S4096x50 bcast_S_S4096x50 100000#32 w)) (broadcastInDim S4096x50x1 ![0, 1, 2] bcast_S1x1x1_S4096x50x1_0_1_2 (broadcastInDim S1x1x1 ![2] bcast_S1_S1x1x1_2 (constantI S1 32 99999#32)))))
        (constantI S_ 1 1#1) reducesTo_S4096x50x1_S4096x50_d2 h_S_))
      (Host.gather gather_S100000x128_S4096x50x1_S4096x50x128_2_0_n_n_0_2_1128 x (broadcastInDim S4096x50x1 ![0, 1] bcast_S4096x50_S4096x50x1_0_1 (wrapped S4096x50 bcast_S_S4096x50 100000#32 w)))
      nan (ix3 b p j) = x (ix2 (rowNamed (w (ix2 b p))) j) := by
  rw [wrapped_eq _ _ _ w hw]
  refine (select_at _ _ _ _ ?_).trans ?_
  · rw [broadcastInDim_apply _ _ _ _ (ix2 b p) (fun a => by fin_cases a <;> rfl)]
    exact Host.reduce_andi_one _ _ _ _ _ rfl fun i => inside_word _ 100000 (hw _) le_rfl 99999#32 (by decide)
  · rw [gather_tab]
    refine congrArg x (funext fun a => Fin.ext ?_)
    match a with
    | ⟨0, _⟩ =>
      have e : broadcastInDim S4096x50x1 ![0, 1] bcast_S4096x50_S4096x50x1_0_1 w (ix3 b p (0 : Fin 1)) = w (ix2 b p) :=
        broadcastInDim_apply _ _ _ _ _ (fun a => by fin_cases a <;> rfl)
      show min (broadcastInDim S4096x50x1 ![0, 1] bcast_S4096x50_S4096x50x1_0_1 w (ix3 b p (0 : Fin 1))).toInt.toNat 99999 = min (w (ix2 b p)).toNat 99999
      rw [e, signed_word _ 100000 (hw _) le_rfl]
    | ⟨1, _⟩ => rfl

/-- The reference's look-up in the positions by the numbers 0 to 49: row by row the positions themselves. -/
theorem take_pos (x : S50x128.Idx → EReal) (nan : S50x128.Idx → EReal) (p : Fin 50) (j : Fin 128) :
    select (broadcastInDim S50x128 ![0] bcast_S50_S50x128_0 (Host.reduce IntOp.andi (andi
        (cmpi .sge (broadcastInDim S50x1 ![0] bcast_S50_S50x1_0 (wrapped S50 bcast_S_S50 50#32 (iotaInDim S50 32 0))) (broadcastInDim S50x1 ![] bcast_S_S50x1 (constantI S_ 32 0#32)))
        (cmpi .sle (broadcastInDim S50x1 ![0] bcast_S50_S50x1_0 (wrapped S50 bcast_S_S50 50#32 (iotaInDim S50 32 0))) (broadcastInDim S50x1 ![0, 1] bcast_S1x1_S50x1_0_1 (broadcastInDim S1x1 ![1] bcast_S1_S1x1_1 (constantI S1 32 49#32)))))
        (constantI S_ 1 1#1) reducesTo_S50x1_S50_d1 h_S_))
      (Host.gather gather_S50x128_S50x1_S50x128_1_0_n_n_0_1_1128 x (broadcastInDim S50x1 ![0] bcast_S50_S50x1_0 (wrapped S50 bcast_S_S50 50#32 (iotaInDim S50 32 0))))
      nan (ix2 p j) = x (ix2 p j) := by
  have hi : ∀ i : S50.Idx, (iotaInDim S50 32 0 i).toNat = (i 0).val := fun i => by
    have h : (i 0).val < 50 := (i 0).isLt
    show (BitVec.ofNat 32 (i 0).val).toNat = _
    rw [BitVec.toNat_ofNat, Nat.mod_eq_of_lt (by omega)]
  have hw : ∀ i : S50.Idx, (iotaInDim S50 32 0 i).toNat < 50 := fun i => (hi i).trans_lt (i 0).isLt
  rw [wrapped_eq _ _ _ _ (fun i => (hw i).trans (by decide))]
  refine (select_at _ _ _ _ ?_).trans ?_
  · rw [broadcastInDim_apply _ _ _ _ (ix1 p) (fun a => by fin_cases a <;> rfl)]
    exact Host.reduce_andi_one _ _ _ _ _ rfl fun i => inside_word _ 50 (hw _) (by decide) 49#32 (by decide)
  · rw [gather_pos]
    refine congrArg x (funext fun a => Fin.ext ?_)
    match a with
    | ⟨0, _⟩ =>
      have e : broadcastInDim S50x1 ![0] bcast_S50_S50x1_0 (iotaInDim S50 32 0) (ix2 p (0 : Fin 1)) = iotaInDim S50 32 0 (ix1 p) :=
        broadcastInDim_apply _ _ _ _ _ (fun a => by fin_cases a <;> rfl)
      show min (broadcastInDim S50x1 ![0] bcast_S50_S50x1_0 (iotaInDim S50 32 0) (ix2 p (0 : Fin 1))).toInt.toNat 49 = p.val
      rw [e, signed_word _ 50 (hw _) (by decide), hi]
      show min p.val 49 = p.val
      omega
    | ⟨1, _⟩ => rfl

/-! ## The two products -/

/-- The first product at an index: the sum over the row's 128 entries. -/
theorem prod1 (A : FVec Ideal S4096x50x128 .f32) (B : FVec Ideal S128x256 .f32) (b : Fin 4096) (p : Fin 50) (k : Fin 256) :
    Host.dotGeneral dot_S4096x50x128_S128x256_S4096x50x256_2_0_01_1_n_n none A B (ix3 b p k) = ∑ j : Fin 128, A (ix3 b p j) * B (ix2 j k) := by
  show FloatOps.dotGeneral _ none _ A B (ix3 b p k) = _
  rw [Ideal.dotGeneral_apply, ← Equiv.sum_comp (contrEquiv1 dot_S4096x50x128_S128x256_S4096x50x256_2_0_01_1_n_n 128 rfl rfl).symm]
  refine Finset.sum_congr rfl fun j _ => congrArg₂ (· * ·) (congrArg A (funext fun a => Fin.ext ?_)) (congrArg B (funext fun a => Fin.ext ?_))
  · match a with
    | ⟨0, _⟩ => rfl
    | ⟨1, _⟩ => rfl
    | ⟨2, _⟩ => exact contrEquiv1_symm_val dot_S4096x50x128_S128x256_S4096x50x256_2_0_01_1_n_n 128 rfl rfl j
  · match a with
    | ⟨0, _⟩ => exact contrEquiv1_symm_val dot_S4096x50x128_S128x256_S4096x50x256_2_0_01_1_n_n 128 rfl rfl j
    | ⟨1, _⟩ => rfl

/-- The second product at an index: the sum over the hidden layer's 256 entries. -/
theorem prod2 (A : FVec Ideal S4096x50x256 .f32) (B : FVec Ideal S256x128 .f32) (b : Fin 4096) (p : Fin 50) (e : Fin 128) :
    Host.dotGeneral dot_S4096x50x256_S256x128_S4096x50x128_2_0_01_1_n_n none A B (ix3 b p e) = ∑ k : Fin 256, A (ix3 b p k) * B (ix2 k e) := by
  show FloatOps.dotGeneral _ none _ A B (ix3 b p e) = _
  rw [Ideal.dotGeneral_apply, ← Equiv.sum_comp (contrEquiv1 dot_S4096x50x256_S256x128_S4096x50x128_2_0_01_1_n_n 256 rfl rfl).symm]
  refine Finset.sum_congr rfl fun j _ => congrArg₂ (· * ·) (congrArg A (funext fun a => Fin.ext ?_)) (congrArg B (funext fun a => Fin.ext ?_))
  · match a with
    | ⟨0, _⟩ => rfl
    | ⟨1, _⟩ => rfl
    | ⟨2, _⟩ => exact contrEquiv1_symm_val dot_S4096x50x256_S256x128_S4096x50x128_2_0_01_1_n_n 256 rfl rfl j
  · match a with
    | ⟨0, _⟩ => exact contrEquiv1_symm_val dot_S4096x50x256_S256x128_S4096x50x128_2_0_01_1_n_n 256 rfl rfl j
    | ⟨1, _⟩ => rfl

/-! ## The result -/

/-- The reference's result at batch `b`, position `p`, column `e`. -/
theorem ref_apply (m : (ℓ : Loc nD τ sig) → Buf (Elt Ideal) ℓ) (c : Dev nD)
    (hw : ∀ i, ((m ((c.tc : Thread nD τ).loc main_arg0) : S4096x50.Idx → BitVec 32) i).toNat < 100000) (b : Fin 4096) (p : Fin 50) (e : Fin 128) :
    (Cert.ReferenceIdeal.Value.res_main_v16 m c : S4096x50x128.Idx → EReal) (ix3 b p e)
      = entry (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) b p e := by
  unfold Cert.ReferenceIdeal.Value.res_main_v16 entry cell
  refine congrArg₂ (· + ·) ((prod2 _ _ b p e).trans (Finset.sum_congr rfl fun k _ => congrArg₂ (· * ·) ?_ rfl)) ?_
  · refine congrArg₂ max (congrArg₂ (· + ·) ((prod1 _ _ b p k).trans (Finset.sum_congr rfl fun j _ => congrArg₂ (· * ·) ?_ rfl)) ?_) Ideal.ofBits_zero_f32
    · refine congrArg₂ (· + ·) ?_ ?_
      · exact take_tab _ _ (fun i => (by
          have pick : ∀ (q : BitVec 1) (a b : BitVec 32), a.toNat < 100000 → b.toNat < 100000 → (Scalar.select q a b).toNat < 100000 := by
            intro q a b ha hb
            unfold Scalar.select
            split <;> assumption
          exact pick _ _ _ (show (99999#32).toNat < 100000 by decide) (hw i))) _ b p j
      · refine (broadcastInDim_apply _ _ _ _ (ix3 (0 : Fin 1) p j) (fun a => by fin_cases a <;> rfl)).trans ?_
        refine (broadcastInDim_apply _ _ _ _ (ix2 p j) (fun a => by fin_cases a <;> rfl)).trans ?_
        exact take_pos _ _ p j
    · refine (broadcastInDim_apply _ _ _ _ (ix3 (0 : Fin 1) (0 : Fin 1) k) (fun a => by fin_cases a <;> rfl)).trans ?_
      exact broadcastInDim_apply _ _ _ _ (ix1 k) (fun a => by fin_cases a <;> rfl)
  · refine (broadcastInDim_apply _ _ _ _ (ix3 (0 : Fin 1) (0 : Fin 1) e) (fun a => by fin_cases a <;> rfl)).trans ?_
    exact broadcastInDim_apply _ _ _ _ (ix1 e) (fun a => by fin_cases a <;> rfl)

end Cert.Proof.Reference
-- ==== Proof.lean ====
module

public import proofs.«01_k».proof.Proof.Gen.ReferenceIdeal.Run
public import proofs.«01_k».proof.Proof.Run
public import proofs.«01_k».proof.Proof.Same
public import proofs.«01_k».proof.Proof.Array
public import proofs.«01_k».proof.Proof.RefValue
public import Idealize.ShloMosaic.Lib.ReduceAll
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- A word of which the two comparisons of the precondition hold is below the table's rows. -/
theorem word_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition gives what the run asks: every word of the first argument is below the table's rows. -/
theorem ok_of_fn {F : FTy → Type} [FloatOps F] (x : S4096x50.Idx → BitVec 32) (a1 a2 a3 a4 a5 a6 a7)
    (h : Cert.Pre_in_range.fn (F := F) x a1 a2 a3 a4 a5 a6 a7 = fun _ => 1#1) (j : S4096x50.Idx) : (x j).toNat < 100000 := by
  haveI : Subsingleton Cert.Pre_in_range.S_.Idx := ⟨fun a b => by decide +revert⟩
  exact word_lt _ (Host.reduce_andi_all _ _ _ _ _ (congrFun h (fun i => i.elim0)) j)

theorem ok_bits (m) (h : Cert.Pre_Kernel m) : Bert.PreOK (F := Bits) m := fun d j => ok_of_fn _ _ _ _ _ _ _ _ (h d) j
theorem ok_ideal (m) (h : Cert.Pre_KernelIdeal m) : Bert.PreOK (F := Ideal) m := fun d j => ok_of_fn _ _ _ _ _ _ _ _ (h d) j

/-- The kernel's run ends quiescent with its arguments unchanged. -/
theorem frame_kernel : Cert.quiescent_Kernel := fun m ρ hpre => by
  rw [← Bert.defs_eq, ← Bert.threads_eq]
  refine (θ_run (Cert.KernelIdeal.defs (F := Bits)) Cert.KernelIdeal.threads ⟨m, fun _ => 0, ρ⟩).mono (fun r h => ?_) (Bert.run_main (F := Bits) m ρ (ok_bits m hpre))
  exact ⟨fun c => (h.1 c).2, h.2⟩

/-- So does the idealized kernel's, -/
theorem frame_ideal : Cert.quiescent_KernelIdeal := fun m ρ hpre =>
  (θ_run Cert.KernelIdeal.defs _ _).mono (fun _ h => ⟨fun c => (h.1 c).2, h.2⟩) (Bert.run_main (F := Ideal) m ρ (ok_ideal m hpre))

/-- and the reference's. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the kernel's result array and the reference's are equal, entry by entry. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)
      ∧ m' (c.tc.loc Cert.ReferenceIdeal.main_arg6) = m (c.tc.loc Cert.KernelIdeal.main_arg6)
      ∧ m' (c.tc.loc Cert.ReferenceIdeal.main_arg7) = m (c.tc.loc Cert.KernelIdeal.main_arg7)) :
    (Cert.ReferenceIdeal.Value.res_main_v16 m' c : Cert.KernelIdeal.S4096x50x128.Idx → EReal) = Bert.V11 m c (Bert.dr Cert.KernelIdeal.main_v15) := by
  obtain ⟨h0, h1, h2, h3, h4, h5, h6, h7⟩ := h
  funext i
  rw [ValueIdx.eq_ix3 i]
  refine (Reference.ref_apply m' c (fun j => ?_) _ _ _).trans ((Bert.result_apply m c _ _ _).trans ?_).symm
  · rw [h0]; exact ok_ideal m hpre c j
  · rw [h0, h1, h2, h3, h4, h5, h6, h7]

/-- The idealized kernel computes what the idealized reference does. -/
theorem same_value : Cert.algebraic_KernelIdeal_ReferenceIdeal := fun m g m' g' hpre hargs =>
  ⟨fun c => Bert.V11 m c (Bert.dr Cert.KernelIdeal.main_v15),
    (θ_run Cert.KernelIdeal.defs _ _).mono (fun _ h c => h.1 c) (Bert.run_main (F := Ideal) m g (ok_ideal m hpre)),
    (θ_run Cert.ReferenceIdeal.defs _ _).mono (fun _ h c => ⟨(h c).1.trans (results_eq m m' hpre c (hargs c)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  frame_kernel, frame_ideal, frame_ref, fun m ρ _ => frame_ref m ρ trivial, trivial, same_value⟩

end Cert.Proof

end
